-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatReferenceIdeal (m : (ℓ : Loc Cert.FeatReferenceIdeal.nD Cert.FeatReferenceIdeal.τ Cert.FeatReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_CtxMlp (m : (ℓ : Loc Cert.CtxMlp.nD Cert.CtxMlp.τ Cert.CtxMlp.sig) → Buf (Elt Bits) ℓ) : Prop :=
  True

def Pre_CtxMlpIdeal (m : (ℓ : Loc Cert.CtxMlpIdeal.nD Cert.CtxMlpIdeal.τ Cert.CtxMlpIdeal.sig) → Buf (Elt Ideal) ℓ) : Prop :=
  True

def Pre_CtxMlpReferenceIdeal (m : (ℓ : Loc Cert.CtxMlpReferenceIdeal.nD Cert.CtxMlpReferenceIdeal.τ Cert.CtxMlpReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1)
      ∧ r.2.mem ((c.tc : Thread Cert.Feat.nD Cert.Feat.τ).loc Cert.Feat.main_arg2) = m ((c.tc : Thread Cert.Feat.nD Cert.Feat.τ).loc Cert.Feat.main_arg2)
      ∧ r.2.mem ((c.tc : Thread Cert.Feat.nD Cert.Feat.τ).loc Cert.Feat.main_arg3) = m ((c.tc : Thread Cert.Feat.nD Cert.Feat.τ).loc Cert.Feat.main_arg3)
      ∧ r.2.mem ((c.tc : Thread Cert.Feat.nD Cert.Feat.τ).loc Cert.Feat.main_arg4) = m ((c.tc : Thread Cert.Feat.nD Cert.Feat.τ).loc Cert.Feat.main_arg4))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
      ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
      ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4))
      ∧ r.2.sem = fun _ => 0)

def quiescent_FeatReferenceIdeal [hFeatReferenceIdeal : Cert.FeatReferenceIdeal.Facts] : Prop :=
  ∀ (m : (ℓ : Loc Cert.FeatReferenceIdeal.nD Cert.FeatReferenceIdeal.τ Cert.FeatReferenceIdeal.sig) → Buf (Elt Ideal) ℓ) (g : Dev Cert.FeatReferenceIdeal.nD → PrngReg), Pre_FeatReferenceIdeal m →
    θ_run (Cert.FeatReferenceIdeal.defs (F := Ideal)) (onTc (τ := Cert.FeatReferenceIdeal.τ) (Cert.FeatReferenceIdeal.main (F := Ideal))) ⟨m, fun _ => 0, g⟩ (fun r => (∀ c : Dev Cert.FeatReferenceIdeal.nD,
      r.2.mem ((c.tc : Thread Cert.FeatReferenceIdeal.nD Cert.FeatReferenceIdeal.τ).loc Cert.FeatReferenceIdeal.main_arg0) = m ((c.tc : Thread Cert.FeatReferenceIdeal.nD Cert.FeatReferenceIdeal.τ).loc Cert.FeatReferenceIdeal.main_arg0)
      ∧ r.2.mem ((c.tc : Thread Cert.FeatReferenceIdeal.nD Cert.FeatReferenceIdeal.τ).loc Cert.FeatReferenceIdeal.main_arg1) = m ((c.tc : Thread Cert.FeatReferenceIdeal.nD Cert.FeatReferenceIdeal.τ).loc Cert.FeatReferenceIdeal.main_arg1)
      ∧ r.2.mem ((c.tc : Thread Cert.FeatReferenceIdeal.nD Cert.FeatReferenceIdeal.τ).loc Cert.FeatReferenceIdeal.main_arg2) = m ((c.tc : Thread Cert.FeatReferenceIdeal.nD Cert.FeatReferenceIdeal.τ).loc Cert.FeatReferenceIdeal.main_arg2)
      ∧ r.2.mem ((c.tc : Thread Cert.FeatReferenceIdeal.nD Cert.FeatReferenceIdeal.τ).loc Cert.FeatReferenceIdeal.main_arg3) = m ((c.tc : Thread Cert.FeatReferenceIdeal.nD Cert.FeatReferenceIdeal.τ).loc Cert.FeatReferenceIdeal.main_arg3)
      ∧ r.2.mem ((c.tc : Thread Cert.FeatReferenceIdeal.nD Cert.FeatReferenceIdeal.τ).loc Cert.FeatReferenceIdeal.main_arg4) = m ((c.tc : Thread Cert.FeatReferenceIdeal.nD Cert.FeatReferenceIdeal.τ).loc Cert.FeatReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_CtxMlp [hCtxMlp : Cert.CtxMlp.Facts] : Prop :=
  ∀ (m : (ℓ : Loc Cert.CtxMlp.nD Cert.CtxMlp.τ Cert.CtxMlp.sig) → Buf (Elt Bits) ℓ) (g : Dev Cert.CtxMlp.nD → PrngReg), Pre_CtxMlp m →
    θ_run (Cert.CtxMlp.defs (F := Bits)) (onTc (τ := Cert.CtxMlp.τ) (Cert.CtxMlp.main (F := Bits))) ⟨m, fun _ => 0, g⟩ (fun r => (∀ c : Dev Cert.CtxMlp.nD,
      r.2.mem ((c.tc : Thread Cert.CtxMlp.nD Cert.CtxMlp.τ).loc Cert.CtxMlp.main_arg0) = m ((c.tc : Thread Cert.CtxMlp.nD Cert.CtxMlp.τ).loc Cert.CtxMlp.main_arg0)
      ∧ r.2.mem ((c.tc : Thread Cert.CtxMlp.nD Cert.CtxMlp.τ).loc Cert.CtxMlp.main_arg1) = m ((c.tc : Thread Cert.CtxMlp.nD Cert.CtxMlp.τ).loc Cert.CtxMlp.main_arg1)
      ∧ r.2.mem ((c.tc : Thread Cert.CtxMlp.nD Cert.CtxMlp.τ).loc Cert.CtxMlp.main_arg2) = m ((c.tc : Thread Cert.CtxMlp.nD Cert.CtxMlp.τ).loc Cert.CtxMlp.main_arg2)
      ∧ r.2.mem ((c.tc : Thread Cert.CtxMlp.nD Cert.CtxMlp.τ).loc Cert.CtxMlp.main_arg3) = m ((c.tc : Thread Cert.CtxMlp.nD Cert.CtxMlp.τ).loc Cert.CtxMlp.main_arg3)
      ∧ r.2.mem ((c.tc : Thread Cert.CtxMlp.nD Cert.CtxMlp.τ).loc Cert.CtxMlp.main_arg4) = m ((c.tc : Thread Cert.CtxMlp.nD Cert.CtxMlp.τ).loc Cert.CtxMlp.main_arg4))
      ∧ r.2.sem = fun _ => 0)

def quiescent_CtxMlpIdeal [hCtxMlpIdeal : Cert.CtxMlpIdeal.Facts] : Prop :=
  ∀ (m : (ℓ : Loc Cert.CtxMlpIdeal.nD Cert.CtxMlpIdeal.τ Cert.CtxMlpIdeal.sig) → Buf (Elt Ideal) ℓ) (g : Dev Cert.CtxMlpIdeal.nD → PrngReg), Pre_CtxMlpIdeal m →
    θ_run (Cert.CtxMlpIdeal.defs (F := Ideal)) (onTc (τ := Cert.CtxMlpIdeal.τ) (Cert.CtxMlpIdeal.main (F := Ideal))) ⟨m, fun _ => 0, g⟩ (fun r => (∀ c : Dev Cert.CtxMlpIdeal.nD,
      r.2.mem ((c.tc : Thread Cert.CtxMlpIdeal.nD Cert.CtxMlpIdeal.τ).loc Cert.CtxMlpIdeal.main_arg0) = m ((c.tc : Thread Cert.CtxMlpIdeal.nD Cert.CtxMlpIdeal.τ).loc Cert.CtxMlpIdeal.main_arg0)
      ∧ r.2.mem ((c.tc : Thread Cert.CtxMlpIdeal.nD Cert.CtxMlpIdeal.τ).loc Cert.CtxMlpIdeal.main_arg1) = m ((c.tc : Thread Cert.CtxMlpIdeal.nD Cert.CtxMlpIdeal.τ).loc Cert.CtxMlpIdeal.main_arg1)
      ∧ r.2.mem ((c.tc : Thread Cert.CtxMlpIdeal.nD Cert.CtxMlpIdeal.τ).loc Cert.CtxMlpIdeal.main_arg2) = m ((c.tc : Thread Cert.CtxMlpIdeal.nD Cert.CtxMlpIdeal.τ).loc Cert.CtxMlpIdeal.main_arg2)
      ∧ r.2.mem ((c.tc : Thread Cert.CtxMlpIdeal.nD Cert.CtxMlpIdeal.τ).loc Cert.CtxMlpIdeal.main_arg3) = m ((c.tc : Thread Cert.CtxMlpIdeal.nD Cert.CtxMlpIdeal.τ).loc Cert.CtxMlpIdeal.main_arg3)
      ∧ r.2.mem ((c.tc : Thread Cert.CtxMlpIdeal.nD Cert.CtxMlpIdeal.τ).loc Cert.CtxMlpIdeal.main_arg4) = m ((c.tc : Thread Cert.CtxMlpIdeal.nD Cert.CtxMlpIdeal.τ).loc Cert.CtxMlpIdeal.main_arg4))
      ∧ r.2.sem = fun _ => 0)

def quiescent_CtxMlpReferenceIdeal [hCtxMlpReferenceIdeal : Cert.CtxMlpReferenceIdeal.Facts] : Prop :=
  ∀ (m : (ℓ : Loc Cert.CtxMlpReferenceIdeal.nD Cert.CtxMlpReferenceIdeal.τ Cert.CtxMlpReferenceIdeal.sig) → Buf (Elt Ideal) ℓ) (g : Dev Cert.CtxMlpReferenceIdeal.nD → PrngReg), Pre_CtxMlpReferenceIdeal m →
    θ_run (Cert.CtxMlpReferenceIdeal.defs (F := Ideal)) (onTc (τ := Cert.CtxMlpReferenceIdeal.τ) (Cert.CtxMlpReferenceIdeal.main (F := Ideal))) ⟨m, fun _ => 0, g⟩ (fun r => (∀ c : Dev Cert.CtxMlpReferenceIdeal.nD,
      r.2.mem ((c.tc : Thread Cert.CtxMlpReferenceIdeal.nD Cert.CtxMlpReferenceIdeal.τ).loc Cert.CtxMlpReferenceIdeal.main_arg0) = m ((c.tc : Thread Cert.CtxMlpReferenceIdeal.nD Cert.CtxMlpReferenceIdeal.τ).loc Cert.CtxMlpReferenceIdeal.main_arg0)
      ∧ r.2.mem ((c.tc : Thread Cert.CtxMlpReferenceIdeal.nD Cert.CtxMlpReferenceIdeal.τ).loc Cert.CtxMlpReferenceIdeal.main_arg1) = m ((c.tc : Thread Cert.CtxMlpReferenceIdeal.nD Cert.CtxMlpReferenceIdeal.τ).loc Cert.CtxMlpReferenceIdeal.main_arg1)
      ∧ r.2.mem ((c.tc : Thread Cert.CtxMlpReferenceIdeal.nD Cert.CtxMlpReferenceIdeal.τ).loc Cert.CtxMlpReferenceIdeal.main_arg2) = m ((c.tc : Thread Cert.CtxMlpReferenceIdeal.nD Cert.CtxMlpReferenceIdeal.τ).loc Cert.CtxMlpReferenceIdeal.main_arg2)
      ∧ r.2.mem ((c.tc : Thread Cert.CtxMlpReferenceIdeal.nD Cert.CtxMlpReferenceIdeal.τ).loc Cert.CtxMlpReferenceIdeal.main_arg3) = m ((c.tc : Thread Cert.CtxMlpReferenceIdeal.nD Cert.CtxMlpReferenceIdeal.τ).loc Cert.CtxMlpReferenceIdeal.main_arg3)
      ∧ r.2.mem ((c.tc : Thread Cert.CtxMlpReferenceIdeal.nD Cert.CtxMlpReferenceIdeal.τ).loc Cert.CtxMlpReferenceIdeal.main_arg4) = m ((c.tc : Thread Cert.CtxMlpReferenceIdeal.nD Cert.CtxMlpReferenceIdeal.τ).loc Cert.CtxMlpReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v35)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v35) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v129) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_Feat_FeatIdeal : Prop :=
  True

def algebraic_FeatIdeal_FeatReferenceIdeal [hFeatIdeal : Cert.FeatIdeal.Facts] [hFeatReferenceIdeal : Cert.FeatReferenceIdeal.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.FeatReferenceIdeal.nD Cert.FeatReferenceIdeal.τ Cert.FeatReferenceIdeal.sig) → Buf (Elt Ideal) ℓ) (g' : Dev Cert.FeatReferenceIdeal.nD → PrngReg), Pre_FeatIdeal m →
    (∀ c : Dev Cert.FeatIdeal.nD,
      m' ((c.tc : Thread Cert.FeatReferenceIdeal.nD Cert.FeatReferenceIdeal.τ).loc Cert.FeatReferenceIdeal.main_arg0) = m ((c.tc : Thread Cert.FeatIdeal.nD Cert.FeatIdeal.τ).loc Cert.FeatIdeal.main_arg0)
      ∧ m' ((c.tc : Thread Cert.FeatReferenceIdeal.nD Cert.FeatReferenceIdeal.τ).loc Cert.FeatReferenceIdeal.main_arg1) = m ((c.tc : Thread Cert.FeatIdeal.nD Cert.FeatIdeal.τ).loc Cert.FeatIdeal.main_arg1)
      ∧ m' ((c.tc : Thread Cert.FeatReferenceIdeal.nD Cert.FeatReferenceIdeal.τ).loc Cert.FeatReferenceIdeal.main_arg2) = m ((c.tc : Thread Cert.FeatIdeal.nD Cert.FeatIdeal.τ).loc Cert.FeatIdeal.main_arg2)
      ∧ m' ((c.tc : Thread Cert.FeatReferenceIdeal.nD Cert.FeatReferenceIdeal.τ).loc Cert.FeatReferenceIdeal.main_arg3) = m ((c.tc : Thread Cert.FeatIdeal.nD Cert.FeatIdeal.τ).loc Cert.FeatIdeal.main_arg3)
      ∧ m' ((c.tc : Thread Cert.FeatReferenceIdeal.nD Cert.FeatReferenceIdeal.τ).loc Cert.FeatReferenceIdeal.main_arg4) = m ((c.tc : Thread Cert.FeatIdeal.nD Cert.FeatIdeal.τ).loc Cert.FeatIdeal.main_arg4)) →
    ∃ (v0 : (c : Dev Cert.FeatIdeal.nD) → Buf (Elt Ideal) ((c.tc : Thread Cert.FeatIdeal.nD Cert.FeatIdeal.τ).loc Cert.FeatIdeal.main_v18_0)) (v1 : (c : Dev Cert.FeatIdeal.nD) → Buf (Elt Ideal) ((c.tc : Thread Cert.FeatIdeal.nD Cert.FeatIdeal.τ).loc Cert.FeatIdeal.main_v18_1)) (v2 : (c : Dev Cert.FeatIdeal.nD) → Buf (Elt Ideal) ((c.tc : Thread Cert.FeatIdeal.nD Cert.FeatIdeal.τ).loc Cert.FeatIdeal.main_v18_2)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v18_0) = v0 c
          ∧ r.2.mem ((c.tc : Thread Cert.FeatIdeal.nD Cert.FeatIdeal.τ).loc Cert.FeatIdeal.main_v18_1) = v1 c
          ∧ r.2.mem ((c.tc : Thread Cert.FeatIdeal.nD Cert.FeatIdeal.τ).loc Cert.FeatIdeal.main_v18_2) = v2 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
          ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
          ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
          ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4))
      ∧ θ_run (Cert.FeatReferenceIdeal.defs (F := Ideal)) (onTc (τ := Cert.FeatReferenceIdeal.τ) (Cert.FeatReferenceIdeal.main (F := Ideal))) ⟨m', fun _ => 0, g'⟩ (fun r => ∀ c : Dev Cert.FeatReferenceIdeal.nD,
          r.2.mem ((c.tc : Thread Cert.FeatReferenceIdeal.nD Cert.FeatReferenceIdeal.τ).loc Cert.FeatReferenceIdeal.main_v44) = v0 c
          ∧ r.2.mem ((c.tc : Thread Cert.FeatReferenceIdeal.nD Cert.FeatReferenceIdeal.τ).loc Cert.FeatReferenceIdeal.main_v45) = v1 c
          ∧ r.2.mem ((c.tc : Thread Cert.FeatReferenceIdeal.nD Cert.FeatReferenceIdeal.τ).loc Cert.FeatReferenceIdeal.main_v43) = v2 c
          ∧ r.2.mem ((c.tc : Thread Cert.FeatReferenceIdeal.nD Cert.FeatReferenceIdeal.τ).loc Cert.FeatReferenceIdeal.main_arg0) = m' ((c.tc : Thread Cert.FeatReferenceIdeal.nD Cert.FeatReferenceIdeal.τ).loc Cert.FeatReferenceIdeal.main_arg0)
          ∧ r.2.mem ((c.tc : Thread Cert.FeatReferenceIdeal.nD Cert.FeatReferenceIdeal.τ).loc Cert.FeatReferenceIdeal.main_arg1) = m' ((c.tc : Thread Cert.FeatReferenceIdeal.nD Cert.FeatReferenceIdeal.τ).loc Cert.FeatReferenceIdeal.main_arg1)
          ∧ r.2.mem ((c.tc : Thread Cert.FeatReferenceIdeal.nD Cert.FeatReferenceIdeal.τ).loc Cert.FeatReferenceIdeal.main_arg2) = m' ((c.tc : Thread Cert.FeatReferenceIdeal.nD Cert.FeatReferenceIdeal.τ).loc Cert.FeatReferenceIdeal.main_arg2)
          ∧ r.2.mem ((c.tc : Thread Cert.FeatReferenceIdeal.nD Cert.FeatReferenceIdeal.τ).loc Cert.FeatReferenceIdeal.main_arg3) = m' ((c.tc : Thread Cert.FeatReferenceIdeal.nD Cert.FeatReferenceIdeal.τ).loc Cert.FeatReferenceIdeal.main_arg3)
          ∧ r.2.mem ((c.tc : Thread Cert.FeatReferenceIdeal.nD Cert.FeatReferenceIdeal.τ).loc Cert.FeatReferenceIdeal.main_arg4) = m' ((c.tc : Thread Cert.FeatReferenceIdeal.nD Cert.FeatReferenceIdeal.τ).loc Cert.FeatReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v5)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v5) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v29) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v51) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_CtxMlp_CtxMlpIdeal : Prop :=
  True

def algebraic_CtxMlpIdeal_CtxMlpReferenceIdeal [hCtxMlpIdeal : Cert.CtxMlpIdeal.Facts] [hCtxMlpReferenceIdeal : Cert.CtxMlpReferenceIdeal.Facts] : Prop :=
  ∀ (m : (ℓ : Loc Cert.CtxMlpIdeal.nD Cert.CtxMlpIdeal.τ Cert.CtxMlpIdeal.sig) → Buf (Elt Ideal) ℓ) (g : Dev Cert.CtxMlpIdeal.nD → PrngReg)
    (m' : (ℓ : Loc Cert.CtxMlpReferenceIdeal.nD Cert.CtxMlpReferenceIdeal.τ Cert.CtxMlpReferenceIdeal.sig) → Buf (Elt Ideal) ℓ) (g' : Dev Cert.CtxMlpReferenceIdeal.nD → PrngReg), Pre_CtxMlpIdeal m →
    (∀ c : Dev Cert.CtxMlpIdeal.nD,
      m' ((c.tc : Thread Cert.CtxMlpReferenceIdeal.nD Cert.CtxMlpReferenceIdeal.τ).loc Cert.CtxMlpReferenceIdeal.main_arg0) = m ((c.tc : Thread Cert.CtxMlpIdeal.nD Cert.CtxMlpIdeal.τ).loc Cert.CtxMlpIdeal.main_arg0)
      ∧ m' ((c.tc : Thread Cert.CtxMlpReferenceIdeal.nD Cert.CtxMlpReferenceIdeal.τ).loc Cert.CtxMlpReferenceIdeal.main_arg1) = m ((c.tc : Thread Cert.CtxMlpIdeal.nD Cert.CtxMlpIdeal.τ).loc Cert.CtxMlpIdeal.main_arg1)
      ∧ m' ((c.tc : Thread Cert.CtxMlpReferenceIdeal.nD Cert.CtxMlpReferenceIdeal.τ).loc Cert.CtxMlpReferenceIdeal.main_arg2) = m ((c.tc : Thread Cert.CtxMlpIdeal.nD Cert.CtxMlpIdeal.τ).loc Cert.CtxMlpIdeal.main_arg2)
      ∧ m' ((c.tc : Thread Cert.CtxMlpReferenceIdeal.nD Cert.CtxMlpReferenceIdeal.τ).loc Cert.CtxMlpReferenceIdeal.main_arg3) = m ((c.tc : Thread Cert.CtxMlpIdeal.nD Cert.CtxMlpIdeal.τ).loc Cert.CtxMlpIdeal.main_arg3)
      ∧ m' ((c.tc : Thread Cert.CtxMlpReferenceIdeal.nD Cert.CtxMlpReferenceIdeal.τ).loc Cert.CtxMlpReferenceIdeal.main_arg4) = m ((c.tc : Thread Cert.CtxMlpIdeal.nD Cert.CtxMlpIdeal.τ).loc Cert.CtxMlpIdeal.main_arg4)) →
    ∃ (v0 : (c : Dev Cert.CtxMlpIdeal.nD) → Buf (Elt Ideal) ((c.tc : Thread Cert.CtxMlpIdeal.nD Cert.CtxMlpIdeal.τ).loc Cert.CtxMlpIdeal.main_v8)),
      θ_run (Cert.CtxMlpIdeal.defs (F := Ideal)) (onTc (τ := Cert.CtxMlpIdeal.τ) (Cert.CtxMlpIdeal.main (F := Ideal))) ⟨m, fun _ => 0, g⟩ (fun r => ∀ c : Dev Cert.CtxMlpIdeal.nD,
          r.2.mem ((c.tc : Thread Cert.CtxMlpIdeal.nD Cert.CtxMlpIdeal.τ).loc Cert.CtxMlpIdeal.main_v8) = v0 c
          ∧ r.2.mem ((c.tc : Thread Cert.CtxMlpIdeal.nD Cert.CtxMlpIdeal.τ).loc Cert.CtxMlpIdeal.main_arg0) = m ((c.tc : Thread Cert.CtxMlpIdeal.nD Cert.CtxMlpIdeal.τ).loc Cert.CtxMlpIdeal.main_arg0)
          ∧ r.2.mem ((c.tc : Thread Cert.CtxMlpIdeal.nD Cert.CtxMlpIdeal.τ).loc Cert.CtxMlpIdeal.main_arg1) = m ((c.tc : Thread Cert.CtxMlpIdeal.nD Cert.CtxMlpIdeal.τ).loc Cert.CtxMlpIdeal.main_arg1)
          ∧ r.2.mem ((c.tc : Thread Cert.CtxMlpIdeal.nD Cert.CtxMlpIdeal.τ).loc Cert.CtxMlpIdeal.main_arg2) = m ((c.tc : Thread Cert.CtxMlpIdeal.nD Cert.CtxMlpIdeal.τ).loc Cert.CtxMlpIdeal.main_arg2)
          ∧ r.2.mem ((c.tc : Thread Cert.CtxMlpIdeal.nD Cert.CtxMlpIdeal.τ).loc Cert.CtxMlpIdeal.main_arg3) = m ((c.tc : Thread Cert.CtxMlpIdeal.nD Cert.CtxMlpIdeal.τ).loc Cert.CtxMlpIdeal.main_arg3)
          ∧ r.2.mem ((c.tc : Thread Cert.CtxMlpIdeal.nD Cert.CtxMlpIdeal.τ).loc Cert.CtxMlpIdeal.main_arg4) = m ((c.tc : Thread Cert.CtxMlpIdeal.nD Cert.CtxMlpIdeal.τ).loc Cert.CtxMlpIdeal.main_arg4))
      ∧ θ_run (Cert.CtxMlpReferenceIdeal.defs (F := Ideal)) (onTc (τ := Cert.CtxMlpReferenceIdeal.τ) (Cert.CtxMlpReferenceIdeal.main (F := Ideal))) ⟨m', fun _ => 0, g'⟩ (fun r => ∀ c : Dev Cert.CtxMlpReferenceIdeal.nD,
          r.2.mem ((c.tc : Thread Cert.CtxMlpReferenceIdeal.nD Cert.CtxMlpReferenceIdeal.τ).loc Cert.CtxMlpReferenceIdeal.main_v54) = v0 c
          ∧ r.2.mem ((c.tc : Thread Cert.CtxMlpReferenceIdeal.nD Cert.CtxMlpReferenceIdeal.τ).loc Cert.CtxMlpReferenceIdeal.main_arg0) = m' ((c.tc : Thread Cert.CtxMlpReferenceIdeal.nD Cert.CtxMlpReferenceIdeal.τ).loc Cert.CtxMlpReferenceIdeal.main_arg0)
          ∧ r.2.mem ((c.tc : Thread Cert.CtxMlpReferenceIdeal.nD Cert.CtxMlpReferenceIdeal.τ).loc Cert.CtxMlpReferenceIdeal.main_arg1) = m' ((c.tc : Thread Cert.CtxMlpReferenceIdeal.nD Cert.CtxMlpReferenceIdeal.τ).loc Cert.CtxMlpReferenceIdeal.main_arg1)
          ∧ r.2.mem ((c.tc : Thread Cert.CtxMlpReferenceIdeal.nD Cert.CtxMlpReferenceIdeal.τ).loc Cert.CtxMlpReferenceIdeal.main_arg2) = m' ((c.tc : Thread Cert.CtxMlpReferenceIdeal.nD Cert.CtxMlpReferenceIdeal.τ).loc Cert.CtxMlpReferenceIdeal.main_arg2)
          ∧ r.2.mem ((c.tc : Thread Cert.CtxMlpReferenceIdeal.nD Cert.CtxMlpReferenceIdeal.τ).loc Cert.CtxMlpReferenceIdeal.main_arg3) = m' ((c.tc : Thread Cert.CtxMlpReferenceIdeal.nD Cert.CtxMlpReferenceIdeal.τ).loc Cert.CtxMlpReferenceIdeal.main_arg3)
          ∧ r.2.mem ((c.tc : Thread Cert.CtxMlpReferenceIdeal.nD Cert.CtxMlpReferenceIdeal.τ).loc Cert.CtxMlpReferenceIdeal.main_arg4) = m' ((c.tc : Thread Cert.CtxMlpReferenceIdeal.nD Cert.CtxMlpReferenceIdeal.τ).loc Cert.CtxMlpReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v23) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hFeat : Cert.Feat.Facts) (hFeatIdeal : Cert.FeatIdeal.Facts) (hFeatReferenceIdeal : Cert.FeatReferenceIdeal.Facts) (hOutproj : Cert.Outproj.Facts) (hOutprojIdeal : Cert.OutprojIdeal.Facts) (hOutprojReferenceIdeal : Cert.OutprojReferenceIdeal.Facts) (hMlp : Cert.Mlp.Facts) (hMlpIdeal : Cert.MlpIdeal.Facts) (hMlpReferenceIdeal : Cert.MlpReferenceIdeal.Facts) (hCtxMlp : Cert.CtxMlp.Facts) (hCtxMlpIdeal : Cert.CtxMlpIdeal.Facts) (hCtxMlpReferenceIdeal : Cert.CtxMlpReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Feat (hFeat := hFeat)
    ∧ quiescent_FeatIdeal (hFeatIdeal := hFeatIdeal)
    ∧ quiescent_FeatReferenceIdeal (hFeatReferenceIdeal := hFeatReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_CtxMlp (hCtxMlp := hCtxMlp)
    ∧ quiescent_CtxMlpIdeal (hCtxMlpIdeal := hCtxMlpIdeal)
    ∧ quiescent_CtxMlpReferenceIdeal (hCtxMlpReferenceIdeal := hCtxMlpReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Feat_FeatIdeal
    ∧ algebraic_FeatIdeal_FeatReferenceIdeal (hFeatIdeal := hFeatIdeal) (hFeatReferenceIdeal := hFeatReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Mlp_MlpIdeal
    ∧ algebraic_MlpIdeal_MlpReferenceIdeal (hMlpIdeal := hMlpIdeal) (hMlpReferenceIdeal := hMlpReferenceIdeal)
    ∧ preserves_CtxMlp_CtxMlpIdeal
    ∧ algebraic_CtxMlpIdeal_CtxMlpReferenceIdeal (hCtxMlpIdeal := hCtxMlpIdeal) (hCtxMlpReferenceIdeal := hCtxMlpReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S32768x6144 : Shape := ⟨2, ![32768, 6144]⟩
abbrev S4096x4096 : Shape := ⟨2, ![4096, 4096]⟩
abbrev S4x128 : Shape := ⟨2, ![4, 128]⟩
abbrev S256 : Shape := ⟨1, ![256]⟩
abbrev S32768x4096 : Shape := ⟨2, ![32768, 4096]⟩
abbrev S_ : Shape := ⟨0, ![]⟩
abbrev S4096x2048 : Shape := ⟨2, ![4096, 2048]⟩

class Facts : Prop where
  slices_S32768x6144_S32768x4096_0_0 : S32768x6144.Slices ![0, 0] S32768x4096
  bitsLt_bf16_f32 : FTy.bits .bf16 < FTy.bits .f32
  bcast_S_S32768x4096 : S_.BroadcastsInDim S32768x4096 (![] : Fin 0 → Fin S32768x4096.rank)
  slices_S4096x4096_S4096x2048_0_0 : S4096x4096.Slices ![0, 0] S4096x2048
  bcast_S_S4096x2048 : S_.BroadcastsInDim S4096x2048 (![] : Fin 0 → Fin S4096x2048.rank)

variable [Facts]

def fn {F : FTy → Type} [FloatOps F] (main_arg0 : FVec F S32768x6144 .bf16) (main_arg1 : FVec F S4096x4096 .bf16) (main_arg2 : FVec F S4x128 .f32) (main_arg3 : FVec F S256 .f32) : IVec S32768x4096 1 × IVec S4096x2048 1 :=
  let main_v0 : FVec F S32768x4096 .bf16 := (extractStridedSlice S32768x4096 ![0, 0] · slices_S32768x6144_S32768x4096_0_0) main_arg0
  let main_v1 : FVec F S32768x4096 .f32 := (extf .f32 · bitsLt_bf16_f32) main_v0
  let main_v2 : FVec F S32768x4096 .f32 := Host.absf main_v1
  let main_cst : FVec F S_ .f32 := constant S_ .f32 0x7F800000#32
  let main_v3 : FVec F S32768x4096 .f32 := broadcastInDim S32768x4096 ![] bcast_S_S32768x4096 main_cst
  let main_v4 : IVec S32768x4096 1 := cmpf .olt main_v2 main_v3
  let main_v5 : FVec F S4096x2048 .bf16 := (extractStridedSlice S4096x2048 ![0, 0] · slices_S4096x4096_S4096x2048_0_0) main_arg1
  let main_v6 : FVec F S4096x2048 .f32 := (extf .f32 · bitsLt_bf16_f32) main_v5
  let main_v7 : FVec F S4096x2048 .f32 := Host.absf main_v6
  let main_cst_0 : FVec F S_ .f32 := constant S_ .f32 0x7F800000#32
  let main_v8 : FVec F S4096x2048 .f32 := broadcastInDim S4096x2048 ![] bcast_S_S4096x2048 main_cst_0
  let main_v9 : IVec S4096x2048 1 := cmpf .olt main_v7 main_v8
  (main_v4, main_v9)
-- ==== Kernel.lean ====
abbrev S32768x6144 : Shape := ⟨2, ![32768, 6144]⟩
abbrev S4096x4096 : Shape := ⟨2, ![4096, 4096]⟩
abbrev S4x128 : Shape := ⟨2, ![4, 128]⟩
abbrev S256 : Shape := ⟨1, ![256]⟩
abbrev S1x256 : Shape := ⟨2, ![1, 256]⟩
abbrev S32768x2048 : Shape := ⟨2, ![32768, 2048]⟩
abbrev S2048x256 : Shape := ⟨2, ![2048, 256]⟩
abbrev S256x256 : Shape := ⟨2, ![256, 256]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S256x2048 : Shape := ⟨2, ![256, 2048]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S32768x6144, .bf16⟩
  | .hbm, ⟨1, _⟩ => ⟨S4096x4096, .bf16⟩
  | .hbm, ⟨2, _⟩ => ⟨S4x128, .f32⟩
  | .hbm, ⟨3, _⟩ => ⟨S256, .f32⟩
  | .hbm, ⟨4, _⟩ => ⟨S1x256, .f32⟩
  | .hbm, ⟨5, _⟩ => ⟨S32768x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S4x128, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "qscale" => some (((Real.sqrt 128)⁻¹ * (Real.log 2)⁻¹ : ℝ) : EReal)
  | _ => none
-- ==== ReferenceIdeal.lean ====
abbrev S32768x6144 : Shape := ⟨2, ![32768, 6144]⟩
abbrev S4096x4096 : Shape := ⟨2, ![4096, 4096]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S16x2048x6144 : Shape := ⟨3, ![16, 2048, 6144]⟩
abbrev S16x2048x2048 : Shape := ⟨3, ![16, 2048, 2048]⟩
abbrev S16x256x4096 : Shape := ⟨3, ![16, 256, 4096]⟩
abbrev S16x256x2048 : Shape := ⟨3, ![16, 256, 2048]⟩
abbrev S16x2048x8x2x128 : Shape := ⟨5, ![16, 2048, 8, 2, 128]⟩
abbrev S16x256x8x2x128 : Shape := ⟨5, ![16, 256, 8, 2, 128]⟩
abbrev S16x2304x8x2x128 : Shape := ⟨5, ![16, 2304, 8, 2, 128]⟩
abbrev S16x2048x8x256 : Shape := ⟨4, ![16, 2048, 8, 256]⟩
abbrev S16x256x8x256 : Shape := ⟨4, ![16, 256, 8, 256]⟩
abbrev S16x2304x8x256 : Shape := ⟨4, ![16, 2304, 8, 256]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x256x2048 : Shape := ⟨4, ![16, 8, 256, 2048]⟩
abbrev S16x2048x8 : Shape := ⟨3, ![16, 2048, 8]⟩
abbrev S16x2048x8x1 : Shape := ⟨4, ![16, 2048, 8, 1]⟩
abbrev S1x1x1x256 : Shape := ⟨4, ![1, 1, 1, 256]⟩
abbrev S32768x2048 : Shape := ⟨2, ![32768, 2048]⟩

abbrev nBuf : Space → Nat
  | .hbm => 88
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S4096x4096, .bf16⟩
  | .hbm, ⟨2, _⟩ => ⟨S4x128, .f32⟩
  | .hbm, ⟨3, _⟩ => ⟨S256, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32768x6144, .f32⟩
  | .hbm, ⟨26, _⟩ => ⟨S16x2048x6144, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S4096x4096, .f32⟩
  | .hbm, ⟨31, _⟩ => ⟨S16x256x4096, .f32⟩
  | .hbm, ⟨32, _⟩ => ⟨S16x256x2048, .f32⟩
  | .hbm, ⟨33, _⟩ => ⟨S16x256x2048, .f32⟩
  | .hbm, ⟨34, _⟩ => ⟨S16x2048x8x2x128, .f32⟩
  | .hbm, ⟨35, _⟩ => ⟨S16x2048x8x2x128, .f32⟩
  | .hbm, ⟨36, _⟩ => ⟨S16x256x8x2x128, .f32⟩
  | .hbm, ⟨37, _⟩ => ⟨S16x2304x8x2x128, .f32⟩
  | .hbm, ⟨38, _⟩ => ⟨S16x2048x8x256, .f32⟩
  | .hbm, ⟨39, _⟩ => ⟨S16x256x8x256, .f32⟩
  | .hbm, ⟨40, _⟩ => ⟨S16x2304x8x256, .f32⟩
  | .hbm, ⟨41, _⟩ => ⟨S16x8x2x2048x2304, .f32⟩
  | .hbm, ⟨42, _⟩ => ⟨S16x8x2x2048x2304, .f32⟩
  | .hbm, ⟨43, _⟩ => ⟨S16x8x2x2048x2304, .f32⟩
  | .hbm, ⟨44, _⟩ => ⟨S_, .f32⟩
  | .hbm, ⟨45, _⟩ => ⟨S16x8x2x2048, .f32⟩
  | .hbm, ⟨46, _⟩ => ⟨S_, .f32⟩
  | .hbm, ⟨47, _⟩ => ⟨S16x8x2x2048, .f32⟩
  | .hbm, ⟨48, _⟩ => ⟨S16x8x2x2048, .f32⟩
  | .hbm, ⟨49, _⟩ => ⟨S16x8x2x2048x1, .f32⟩
  | .hbm, ⟨50, _⟩ => ⟨S16x8x2x2048x2304, .f32⟩
  | .hbm, ⟨51, _⟩ => ⟨S16x8x2x2048x2304, .f32⟩
  | .hbm, ⟨52, _⟩ => ⟨S16x8x2x2048x2304, .f32⟩
  | .hbm, ⟨53, _⟩ => ⟨S_, .f32⟩
  | .hbm, ⟨54, _⟩ => ⟨S16x8x2x2048, .f32⟩
  | .hbm, ⟨55, _⟩ => ⟨S16x8x2x2048x1, .f32⟩
  | .hbm, ⟨56, _⟩ => ⟨S16x8x2x2048x2304, .f32⟩
  | .hbm, ⟨57, _⟩ => ⟨S16x8x2x2048x2304, .f32⟩
  | .hbm, ⟨58, _⟩ => ⟨S16x8x1x2048x2304, .f32⟩
  | .hbm, ⟨59, _⟩ => ⟨S16x8x2048x2304, .f32⟩
  | .hbm, ⟨60, _⟩ => ⟨S16x8x1x2048x2304, .f32⟩
  | .hbm, ⟨61, _⟩ => ⟨S16x8x2048x2304, .f32⟩
  | .hbm, ⟨62, _⟩ => ⟨S16x8x2048x2304, .f32⟩
  | .hbm, ⟨63, _⟩ => ⟨S16x8x2048x2304, .f32⟩
  | .hbm, ⟨64, _⟩ => ⟨S16x8x2048x2304, .f32⟩
  | .hbm, ⟨65, _⟩ => ⟨S16x8x256x2048, .f32⟩
  | .hbm, ⟨66, _⟩ => ⟨S16x2048x8x256, .f32⟩
  | .hbm, ⟨67, _⟩ => ⟨S16x2048x8x256, .f32⟩
  | .hbm, ⟨68, _⟩ => ⟨S_, .f32⟩
  | .hbm, ⟨69, _⟩ => ⟨S16x2048x8, .f32⟩
  | .hbm, ⟨70, _⟩ => ⟨S16x2048x8x1, .f32⟩
  | .hbm, ⟨71, _⟩ => ⟨S_, .f32⟩
  | .hbm, ⟨72, _⟩ => ⟨S16x2048x8x1, .f32⟩
  | .hbm, ⟨73, _⟩ => ⟨S16x2048x8x1, .f32⟩
  | .hbm, ⟨74, _⟩ => ⟨S_, .f32⟩
  | .hbm, ⟨75, _⟩ => ⟨S16x2048x8x1, .f32⟩
  | .hbm, ⟨76, _⟩ => ⟨S16x2048x8x1, .f32⟩
  | .hbm, ⟨77, _⟩ => ⟨S16x2048x8x1, .f32⟩
  | .hbm, ⟨78, _⟩ => ⟨S16x2048x8x256, .f32⟩
  | .hbm, ⟨79, _⟩ => ⟨S16x2048x8x256, .f32⟩
  | .hbm, ⟨80, _⟩ => ⟨S1x1x1x256, .f32⟩
  | .hbm, ⟨81, _⟩ => ⟨S16x2048x8x256, .f32⟩
  | .hbm, ⟨82, _⟩ => ⟨S16x2048x8x256, .f32⟩
  | .hbm, ⟨83, _⟩ => ⟨S_, .f32⟩
  | .hbm, ⟨84, _⟩ => ⟨S16x2048x8x256, .f32⟩
  | .hbm, ⟨85, _⟩ => ⟨S16x2048x8x256, .f32⟩
  | .hbm, ⟨86, _⟩ => ⟨S32768x2048, .f32⟩
  | .hbm, ⟨87, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Proj.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x6144 : Shape := ⟨2, ![2048, 6144]⟩
abbrev S2048x2x32 : Shape := ⟨3, ![2048, 2, 32]⟩
abbrev S4x1x2048 : Shape := ⟨3, ![4, 1, 2048]⟩
abbrev S2048x2048 : Shape := ⟨2, ![2048, 2048]⟩
abbrev S2048x16x2x2x32 : Shape := ⟨5, ![2048, 16, 2, 2, 32]⟩
abbrev S2048x1x32 : Shape := ⟨3, ![2048, 1, 32]⟩
abbrev S2048x32 : Shape := ⟨2, ![2048, 32]⟩
abbrev S2048x128 : Shape := ⟨2, ![2048, 128]⟩
abbrev S32768x2048 : Shape := ⟨2, ![32768, 2048]⟩
abbrev S1x1x2048 : Shape := ⟨3, ![1, 1, 2048]⟩
abbrev S1x2048 : Shape := ⟨2, ![1, 2048]⟩
abbrev S32768x6144 : Shape := ⟨2, ![32768, 6144]⟩
abbrev S1024x2048 : Shape := ⟨2, ![1024, 2048]⟩
abbrev S1x1x1x2048 : Shape := ⟨4, ![1, 1, 1, 2048]⟩
abbrev S1024x128 : Shape := ⟨2, ![1024, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S2048x256 : Shape := ⟨2, ![2048, 256]⟩
abbrev S512x256 : Shape := ⟨2, ![512, 256]⟩
abbrev S1024x256 : Shape := ⟨2, ![1024, 256]⟩

abbrev nBuf : Space → Nat
  | .hbm => 42
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2x32x1x12288, .f32⟩
  | .hbm, ⟨2, _⟩ => ⟨S4x2048, .f32⟩
  | .hbm, ⟨3, _⟩ => ⟨S2048x6144, .f32⟩
  | .hbm, ⟨4, _⟩ => ⟨S2048x2x32, .f32⟩
  | .hbm, ⟨5, _⟩ => ⟨S2048x2x32, .f32⟩
  | .hbm, ⟨6, _⟩ => ⟨S4x1x2048, .f32⟩
  | .hbm, ⟨7, _⟩ => ⟨S2048x2048, .f32⟩
  | .hbm, ⟨8, _⟩ => ⟨S2048x16x2x2x32, .f32⟩
  | .hbm, ⟨9, _⟩ => ⟨S2048x16x2x2x32, .f32⟩
  | .hbm, ⟨10, _⟩ => ⟨S2048x2048, .f32⟩
  | .hbm, ⟨11, _⟩ => ⟨S2048x2048, .f32⟩
  | .hbm, ⟨12, _⟩ => ⟨S2048x16x2x2x32, .f32⟩
  | .hbm, ⟨13, _⟩ => ⟨S2048x16x2x2x32, .f32⟩
  | .hbm, ⟨14, _⟩ => ⟨S2048x2048, .f32⟩
  | .hbm, ⟨15, _⟩ => ⟨S2048x2048, .f32⟩
  | .hbm, ⟨16, _⟩ => ⟨S2048x6144, .f32⟩
  | .hbm, ⟨17, _⟩ => ⟨S2048x6144, .bf16⟩
  | .hbm, ⟨18, _⟩ => ⟨S2048x1x32, .f32⟩
  | .hbm, ⟨19, _⟩ => ⟨S2048x32, .f32⟩
  | .hbm, ⟨20, _⟩ => ⟨S2048x1x32, .f32⟩
  | .hbm, ⟨21, _⟩ => ⟨S2048x32, .f32⟩
  | .hbm, ⟨22, _⟩ => ⟨S2048x1x32, .f32⟩
  | .hbm, ⟨23, _⟩ => ⟨S2048x32, .f32⟩
  | .hbm, ⟨24, _⟩ => ⟨S2048x1x32, .f32⟩
  | .hbm, ⟨25, _⟩ => ⟨S2048x32, .f32⟩
  | .hbm, ⟨26, _⟩ => ⟨S2048x128, .f32⟩
  | .hbm, ⟨27, _⟩ => ⟨S2048x1x32, .f32⟩
  | .hbm, ⟨28, _⟩ => ⟨S2048x32, .f32⟩
  | .hbm, ⟨29, _⟩ => ⟨S2048x32, .f32⟩
  | .hbm, ⟨30, _⟩ => ⟨S2048x1x32, .f32⟩
  | .hbm, ⟨31, _⟩ => ⟨S2048x32, .f32⟩
  | .hbm, ⟨32, _⟩ => ⟨S2048x32, .f32⟩
  | .hbm, ⟨33, _⟩ => ⟨S2048x1x32, .f32⟩
  | .hbm, ⟨34, _⟩ => ⟨S2048x32, .f32⟩
  | .hbm, ⟨35, _⟩ => ⟨S2048x1x32, .f32⟩
  | .hbm, ⟨36, _⟩ => ⟨S2048x32, .f32⟩
  | .hbm, ⟨37, _⟩ => ⟨S2048x128, .f32⟩
  | .hbm, ⟨38, _⟩ => ⟨S32768x2048, .f32⟩
  | .hbm, ⟨39, _⟩ => ⟨S1x1x2048, .f32⟩
  | .hbm, ⟨40, _⟩ => ⟨S1x2048, .f32⟩
  | .hbm, ⟨41, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c3_i32 : BitVec 32 := 3#32
  let v9 : BitVec 1 := Scalar.cmpi .slt arg1 c3_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c1_i32_6 : BitVec 32 := 1#32
  let c0_i32_7 : BitVec 32 := 0#32
  ![c1_i32_4.toNat, v16.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjReferenceIdeal.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x6144 : Shape := ⟨2, ![2048, 6144]⟩
abbrev S2048x2x32 : Shape := ⟨3, ![2048, 2, 32]⟩
abbrev S1x16x1x12288 : Shape := ⟨4, ![1, 16, 1, 12288]⟩
abbrev S16x1x12288 : Shape := ⟨3, ![16, 1, 12288]⟩
abbrev S16x1x2048 : Shape := ⟨3, ![16, 1, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6144 : Shape := ⟨3, ![16, 2048, 6144]⟩
abbrev S16x2048x16x128 : Shape := ⟨4, ![16, 2048, 16, 128]⟩
abbrev S16x2048x16x32 : Shape := ⟨4, ![16, 2048, 16, 32]⟩
abbrev S2048x1x32 : Shape := ⟨3, ![2048, 1, 32]⟩
abbrev S2048x32 : Shape := ⟨2, ![2048, 32]⟩
abbrev S1x2048x1x32 : Shape := ⟨4, ![1, 2048, 1, 32]⟩
abbrev S32768x6144 : Shape := ⟨2, ![32768, 6144]⟩

abbrev nBuf : Space → Nat
  | .hbm => 140
  | .vmem => 0
  | .smem => 0
  | _ => 0

abbrev hbmTy0_0 (i : Nat) : BufTy := match i % 128 with
  | 0 => ⟨S16x2048x2048, .f32⟩
  | 1 => ⟨S2x32x1x12288, .f32⟩
  | 2 => ⟨S4x2048, .f32⟩
  | 3 => ⟨S2048x6144, .f32⟩
  | 4 => ⟨S2048x2x32, .f32⟩
  | 5 => ⟨S2048x2x32, .f32⟩
  | 6 => ⟨S1x16x1x12288, .f32⟩
  | 7 => ⟨S16x1x12288, .f32⟩
  | 8 => ⟨S16x1x2048, .f32⟩
  | 9 => ⟨S16x1x2048, .f32⟩
  | 10 => ⟨S16x1x2048, .f32⟩
  | 11 => ⟨S16x1x2048, .f32⟩
  | 12 => ⟨S16x1x2048, .f32⟩
  | 13 => ⟨S16x1x2048, .f32⟩
  | 14 => ⟨S1x2048, .f32⟩
  | 15 => ⟨S2048, .f32⟩
  | 16 => ⟨S16x2048x2048, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x2048, .f32⟩
  | 28 => ⟨S16x2048x2048, .f32⟩
  | 29 => ⟨S1x1x2048, .f32⟩
  | 30 => ⟨S16x2048x2048, .f32⟩
  | 31 => ⟨S16x2048x2048, .f32⟩
  | 32 => ⟨S_, .f32⟩
  | 33 => ⟨S16x1x2048, .f32⟩
  | 34 => ⟨S16x1x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x6144, .f32⟩
  | 40 => ⟨S16x2048x2048, .f32⟩
  | 41 => ⟨S16x2048x2048, .f32⟩
  | 42 => ⟨S16x2048x2048, .f32⟩
  | 43 => ⟨S16x2048x16x128, .f32⟩
  | 44 => ⟨S16x2048x16x32, .f32⟩
  | 45 => ⟨S16x2048x16x32, .f32⟩
  | 46 => ⟨S16x2048x16x32, .f32⟩
  | 47 => ⟨S16x2048x16x32, .f32⟩
  | 48 => ⟨S2048x1x32, .f32⟩
  | 49 => ⟨S2048x32, .f32⟩
  | 50 => ⟨S2048x1x32, .f32⟩
  | 51 => ⟨S2048x1x32, .f32⟩
  | 52 => ⟨S2048x32, .f32⟩
  | 53 => ⟨S2048x1x32, .f32⟩
  | 54 => ⟨S2048x1x32, .f32⟩
  | 55 => ⟨S2048x32, .f32⟩
  | 56 => ⟨S2048x1x32, .f32⟩
  | 57 => ⟨S2048x1x32, .f32⟩
  | 58 => ⟨S2048x32, .f32⟩
  | 59 => ⟨S2048x1x32, .f32⟩
  | 60 => ⟨S1x2048x1x32, .f32⟩
  | 61 => ⟨S16x2048x16x32, .f32⟩
  | 62 => ⟨S16x2048x16x32, .f32⟩
  | 63 => ⟨S1x2048x1x32, .f32⟩
  | 64 => ⟨S16x2048x16x32, .f32⟩
  | 65 => ⟨S16x2048x16x32, .f32⟩
  | 66 => ⟨S16x2048x16x32, .f32⟩
  | 67 => ⟨S1x2048x1x32, .f32⟩
  | 68 => ⟨S16x2048x16x32, .f32⟩
  | 69 => ⟨S16x2048x16x32, .f32⟩
  | 70 => ⟨S1x2048x1x32, .f32⟩
  | 71 => ⟨S16x2048x16x32, .f32⟩
  | 72 => ⟨S16x2048x16x32, .f32⟩
  | 73 => ⟨S16x2048x16x32, .f32⟩
  | 74 => ⟨S1x2048x1x32, .f32⟩
  | 75 => ⟨S16x2048x16x32, .f32⟩
  | 76 => ⟨S16x2048x16x32, .f32⟩
  | 77 => ⟨S1x2048x1x32, .f32⟩
  | 78 => ⟨S16x2048x16x32, .f32⟩
  | 79 => ⟨S16x2048x16x32, .f32⟩
  | 80 => ⟨S16x2048x16x32, .f32⟩
  | 81 => ⟨S1x2048x1x32, .f32⟩
  | 82 => ⟨S16x2048x16x32, .f32⟩
  | 83 => ⟨S16x2048x16x32, .f32⟩
  | 84 => ⟨S1x2048x1x32, .f32⟩
  | 85 => ⟨S16x2048x16x32, .f32⟩
  | 86 => ⟨S16x2048x16x32, .f32⟩
  | 87 => ⟨S16x2048x16x32, .f32⟩
  | 88 => ⟨S16x2048x16x128, .f32⟩
  | 89 => ⟨S16x2048x2048, .f32⟩
  | 90 => ⟨S16x2048x16x128, .f32⟩
  | 91 => ⟨S16x2048x16x32, .f32⟩
  | 92 => ⟨S16x2048x16x32, .f32⟩
  | 93 => ⟨S16x2048x16x32, .f32⟩
  | 94 => ⟨S16x2048x16x32, .f32⟩
  | 95 => ⟨S2048x1x32, .f32⟩
  | 96 => ⟨S2048x32, .f32⟩
  | 97 => ⟨S2048x1x32, .f32⟩
  | 98 => ⟨S2048x1x32, .f32⟩
  | 99 => ⟨S2048x32, .f32⟩
  | 100 => ⟨S2048x1x32, .f32⟩
  | 101 => ⟨S2048x1x32, .f32⟩
  | 102 => ⟨S2048x32, .f32⟩
  | 103 => ⟨S2048x1x32, .f32⟩
  | 104 => ⟨S2048x1x32, .f32⟩
  | 105 => ⟨S2048x32, .f32⟩
  | 106 => ⟨S2048x1x32, .f32⟩
  | 107 => ⟨S1x2048x1x32, .f32⟩
  | 108 => ⟨S16x2048x16x32, .f32⟩
  | 109 => ⟨S16x2048x16x32, .f32⟩
  | 110 => ⟨S1x2048x1x32, .f32⟩
  | 111 => ⟨S16x2048x16x32, .f32⟩
  | 112 => ⟨S16x2048x16x32, .f32⟩
  | 113 => ⟨S16x2048x16x32, .f32⟩
  | 114 => ⟨S1x2048x1x32, .f32⟩
  | 115 => ⟨S16x2048x16x32, .f32⟩
  | 116 => ⟨S16x2048x16x32, .f32⟩
  | 117 => ⟨S1x2048x1x32, .f32⟩
  | 118 => ⟨S16x2048x16x32, .f32⟩
  | 119 => ⟨S16x2048x16x32, .f32⟩
  | 120 => ⟨S16x2048x16x32, .f32⟩
  | 121 => ⟨S1x2048x1x32, .f32⟩
  | 122 => ⟨S16x2048x16x32, .f32⟩
  | 123 => ⟨S16x2048x16x32, .f32⟩
  | 124 => ⟨S1x2048x1x32, .f32⟩
  | 125 => ⟨S16x2048x16x32, .f32⟩
  | 126 => ⟨S16x2048x16x32, .f32⟩
  | 127 => ⟨S16x2048x16x32, .f32⟩
  | _ => ⟨S16x2048x2048, .f32⟩

abbrev hbmTy0_1 (i : Nat) : BufTy := match i % 128 with
  | 0 => ⟨S1x2048x1x32, .f32⟩
  | 1 => ⟨S16x2048x16x32, .f32⟩
  | 2 => ⟨S16x2048x16x32, .f32⟩
  | 3 => ⟨S1x2048x1x32, .f32⟩
  | 4 => ⟨S16x2048x16x32, .f32⟩
  | 5 => ⟨S16x2048x16x32, .f32⟩
  | 6 => ⟨S16x2048x16x32, .f32⟩
  | 7 => ⟨S16x2048x16x128, .f32⟩
  | 8 => ⟨S16x2048x2048, .f32⟩
  | 9 => ⟨S16x2048x6144, .f32⟩
  | 10 => ⟨S32768x6144, .f32⟩
  | 11 => ⟨S32768x6144, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩

abbrev nD : Nat := 1
abbrev τ : Topo := Topo.v7x

variable {F : FTy → Type} [FloatOps F]
-- ==== Feat.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x6176 : Shape := ⟨2, ![2048, 6176]⟩
abbrev S32 : Shape := ⟨1, ![32]⟩
abbrev S4x1x2048 : Shape := ⟨3, ![4, 1, 2048]⟩
abbrev S2048x1024 : Shape := ⟨2, ![2048, 1024]⟩
abbrev S_ : Shape := ⟨0, ![]⟩
abbrev S2048x4096 : Shape := ⟨2, ![2048, 4096]⟩
abbrev S2048x5120 : Shape := ⟨2, ![2048, 5120]⟩
abbrev S5120x2048 : Shape := ⟨2, ![5120, 2048]⟩
abbrev S2048x32 : Shape := ⟨2, ![2048, 32]⟩
abbrev S2048x128 : Shape := ⟨2, ![2048, 128]⟩
abbrev S128 : Shape := ⟨1, ![128]⟩
abbrev S1x128 : Shape := ⟨2, ![1, 128]⟩
abbrev S32768x2048 : Shape := ⟨2, ![32768, 2048]⟩
abbrev S1x1x2048 : Shape := ⟨3, ![1, 1, 2048]⟩
abbrev S1x2048 : Shape := ⟨2, ![1, 2048]⟩
abbrev S32768x1024 : Shape := ⟨2, ![32768, 1024]⟩
abbrev S5120x32768 : Shape := ⟨2, ![5120, 32768]⟩
abbrev S32768x128 : Shape := ⟨2, ![32768, 128]⟩
abbrev S1024x2048 : Shape := ⟨2, ![1024, 2048]⟩
abbrev S1x1x1x2048 : Shape := ⟨4, ![1, 1, 1, 2048]⟩
abbrev S1024x1024 : Shape := ⟨2, ![1024, 1024]⟩
abbrev S1024x128 : Shape := ⟨2, ![1024, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S2048x256 : Shape := ⟨2, ![2048, 256]⟩
abbrev S512x256 : Shape := ⟨2, ![512, 256]⟩

abbrev nBuf : Space → Nat
  | .hbm => 31
  | .vmem => 20
  | .smem => 0
  | _ => 0

abbrev bufTy : (tb : Table) → Fin (tcTables nBuf tb) → BufTy
  | .hbm, ⟨0, _⟩ => ⟨S16x2048x2048, .f32⟩
  | .hbm, ⟨1, _⟩ => ⟨S2x32x1x12288, .f32⟩
  | .hbm, ⟨2, _⟩ => ⟨S4x2048, .f32⟩
  | .hbm, ⟨3, _⟩ => ⟨S2048x6176, .f32⟩
  | .hbm, ⟨4, _⟩ => ⟨S32, .f32⟩
  | .hbm, ⟨5, _⟩ => ⟨S4x1x2048, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x4096, .f32⟩
  | .hbm, ⟨13, _⟩ => ⟨S2048x5120, .f32⟩
  | .hbm, ⟨14, _⟩ => ⟨S5120x2048, .f32⟩
  | .hbm, ⟨15, _⟩ => ⟨S5120x2048, .bf16⟩
  | .hbm, ⟨16, _⟩ => ⟨S2048x32, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x128, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S32768x2048, .f32⟩
  | .hbm, ⟨26, _⟩ => ⟨S1x1x2048, .f32⟩
  | .hbm, ⟨27, _⟩ => ⟨S1x2048, .f32⟩
  | .hbm, ⟨28, _⟩ => ⟨S32768x1024, .bf16⟩
  | .hbm, ⟨29, _⟩ => ⟨S5120x32768, .bf16⟩
  | .hbm, ⟨30, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x2048, .bf16⟩
  | .local _ .vmem, ⟨10, _⟩ => ⟨S1024x2048, .bf16⟩
  | .local _ .vmem, ⟨11, _⟩ => ⟨S2048x128, .bf16⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x128, .f32⟩
  | .local _ .vmem, ⟨18, _⟩ => ⟨S1024x128, .f32⟩
  | .local _ .vmem, ⟨19, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FeatReferenceIdeal.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x6176 : Shape := ⟨2, ![2048, 6176]⟩
abbrev S32 : Shape := ⟨1, ![32]⟩
abbrev S1x16x1x12288 : Shape := ⟨4, ![1, 16, 1, 12288]⟩
abbrev S16x1x12288 : Shape := ⟨3, ![16, 1, 12288]⟩
abbrev S16x1x2048 : Shape := ⟨3, ![16, 1, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6176 : Shape := ⟨3, ![16, 2048, 6176]⟩
abbrev S32768x6176 : Shape := ⟨2, ![32768, 6176]⟩
abbrev S32768x1024 : Shape := ⟨2, ![32768, 1024]⟩
abbrev S32768x2048 : Shape := ⟨2, ![32768, 2048]⟩
abbrev S32768x32 : Shape := ⟨2, ![32768, 32]⟩
abbrev S32768x5120 : Shape := ⟨2, ![32768, 5120]⟩
abbrev S5120x32768 : Shape := ⟨2, ![5120, 32768]⟩
abbrev S1x32 : Shape := ⟨2, ![1, 32]⟩
abbrev S32768x128 : Shape := ⟨2, ![32768, 128]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x32x1x12288, .f32⟩
  | .hbm, ⟨2, _⟩ => ⟨S4x2048, .f32⟩
  | .hbm, ⟨3, _⟩ => ⟨S2048x6176, .f32⟩
  | .hbm, ⟨4, _⟩ => ⟨S32, .f32⟩
  | .hbm, ⟨5, _⟩ => ⟨S1x16x1x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x2048, .f32⟩
  | .hbm, ⟨14, _⟩ => ⟨S2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S1x1x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x1x2048, .f32⟩
  | .hbm, ⟨33, _⟩ => ⟨S16x1x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x6176, .f32⟩
  | .hbm, ⟨39, _⟩ => ⟨S32768x6176, .f32⟩
  | .hbm, ⟨40, _⟩ => ⟨S32768x1024, .f32⟩
  | .hbm, ⟨41, _⟩ => ⟨S32768x1024, .f32⟩
  | .hbm, ⟨42, _⟩ => ⟨S32768x2048, .f32⟩
  | .hbm, ⟨43, _⟩ => ⟨S32768x2048, .f32⟩
  | .hbm, ⟨44, _⟩ => ⟨S32768x32, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x5120, .f32⟩
  | .hbm, ⟨49, _⟩ => ⟨S5120x32768, .f32⟩
  | .hbm, ⟨50, _⟩ => ⟨S1x32, .f32⟩
  | .hbm, ⟨51, _⟩ => ⟨S32768x32, .f32⟩
  | .hbm, ⟨52, _⟩ => ⟨S32768x32, .f32⟩
  | .hbm, ⟨53, _⟩ => ⟨S_, .i32⟩
  | .hbm, ⟨54, _⟩ => ⟨S_, .f32⟩
  | .hbm, ⟨55, _⟩ => ⟨S32768x128, .f32⟩
  | .hbm, ⟨56, _⟩ => ⟨S32768x1024, .bf16⟩
  | .hbm, ⟨57, _⟩ => ⟨S5120x32768, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_call0_v0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Outproj.lean ====
abbrev S32768x2048 : Shape := ⟨2, ![32768, 2048]⟩
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S2x32x1x12288, .f32⟩
  | .hbm, ⟨3, _⟩ => ⟨S4x2048, .f32⟩
  | .hbm, ⟨4, _⟩ => ⟨S2048x2048, .f32⟩
  | .hbm, ⟨5, _⟩ => ⟨S4x1x2048, .f32⟩
  | .hbm, ⟨6, _⟩ => ⟨S2048x2048, .bf16⟩
  | .hbm, ⟨7, _⟩ => ⟨S32768x2048, .f32⟩
  | .hbm, ⟨8, _⟩ => ⟨S1x1x2048, .f32⟩
  | .hbm, ⟨9, _⟩ => ⟨S1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c2_i32 : BitVec 32 := 2#32
  let c0_i32_6 : BitVec 32 := 0#32
  ![c1_i32_4.toNat, v16.toNat, c0_i32_5.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojReferenceIdeal.lean ====
abbrev S32768x2048 : Shape := ⟨2, ![32768, 2048]⟩
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x2048 : Shape := ⟨2, ![2048, 2048]⟩
abbrev S1x16x1x12288 : Shape := ⟨4, ![1, 16, 1, 12288]⟩
abbrev S16x1x12288 : Shape := ⟨3, ![16, 1, 12288]⟩
abbrev S16x1x2048 : Shape := ⟨3, ![16, 1, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S2x32x1x12288, .f32⟩
  | .hbm, ⟨3, _⟩ => ⟨S4x2048, .f32⟩
  | .hbm, ⟨4, _⟩ => ⟨S2048x2048, .f32⟩
  | .hbm, ⟨5, _⟩ => ⟨S1x16x1x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S32768x2048, .f32⟩
  | .hbm, ⟨14, _⟩ => ⟨S16x2048x2048, .f32⟩
  | .hbm, ⟨15, _⟩ => ⟨S16x2048x2048, .f32⟩
  | .hbm, ⟨16, _⟩ => ⟨S1x2048, .f32⟩
  | .hbm, ⟨17, _⟩ => ⟨S2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S1x1x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Mlp.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x8192 : Shape := ⟨2, ![2048, 8192]⟩
abbrev S8192x2048 : Shape := ⟨2, ![8192, 2048]⟩
abbrev S32768x2048 : Shape := ⟨2, ![32768, 2048]⟩
abbrev S4x1x2048 : Shape := ⟨3, ![4, 1, 2048]⟩
abbrev S1x1x2048 : Shape := ⟨3, ![1, 1, 2048]⟩
abbrev S1x2048 : Shape := ⟨2, ![1, 2048]⟩
abbrev S1024x2048 : Shape := ⟨2, ![1024, 2048]⟩
abbrev S1x1x1x2048 : Shape := ⟨4, ![1, 1, 1, 2048]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x1024 : Shape := ⟨2, ![512, 1024]⟩
abbrev S1024x256 : Shape := ⟨2, ![1024, 256]⟩
abbrev S1024x1024 : Shape := ⟨2, ![1024, 1024]⟩

abbrev nBuf : Space → Nat
  | .hbm => 14
  | .vmem => 17
  | .smem => 0
  | _ => 0

abbrev bufTy : (tb : Table) → Fin (tcTables nBuf tb) → BufTy
  | .hbm, ⟨0, _⟩ => ⟨S16x2048x2048, .f32⟩
  | .hbm, ⟨1, _⟩ => ⟨S2x32x1x12288, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S32768x2048, .f32⟩
  | .hbm, ⟨6, _⟩ => ⟨S4x1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S2048x8192, .bf16⟩
  | .hbm, ⟨12, _⟩ => ⟨S8192x2048, .bf16⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c3_i32 : BitVec 32 := 3#32
  let c0_i32_6 : BitVec 32 := 0#32
  ![c1_i32_4.toNat, v16.toNat, c0_i32_5.toNat, c3_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c4_i32 : BitVec 32 := 4#32
  let c0_i32_6 : BitVec 32 := 0#32
  ![c1_i32_4.toNat, v16.toNat, c0_i32_5.toNat, c4_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c5_i32 : BitVec 32 := 5#32
  let c0_i32_6 : BitVec 32 := 0#32
  ![c1_i32_4.toNat, v16.toNat, c0_i32_5.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpReferenceIdeal.lean ====
abbrev S16x2048x2048 : Shape := ⟨3, ![16, 2048, 2048]⟩
abbrev S2x32x1x12288 : Shape := ⟨4, ![2, 32, 1, 12288]⟩
abbrev S4x2048 : Shape := ⟨2, ![4, 2048]⟩
abbrev S2048x8192 : Shape := ⟨2, ![2048, 8192]⟩
abbrev S8192x2048 : Shape := ⟨2, ![8192, 2048]⟩
abbrev S1x16x1x12288 : Shape := ⟨4, ![1, 16, 1, 12288]⟩
abbrev S16x1x12288 : Shape := ⟨3, ![16, 1, 12288]⟩
abbrev S16x1x2048 : Shape := ⟨3, ![16, 1, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x32x1x12288, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S1x16x1x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x2048, .f32⟩
  | .hbm, ⟨14, _⟩ => ⟨S2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S1x1x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x1x2048, .f32⟩
  | .hbm, ⟨33, _⟩ => ⟨S16x1x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x8192, .f32⟩
  | .hbm, ⟨39, _⟩ => ⟨S_, .f32⟩
  | .hbm, ⟨40, _⟩ => ⟨S16x2048x8192, .f32⟩
  | .hbm, ⟨41, _⟩ => ⟨S16x2048x8192, .f32⟩
  | .hbm, ⟨42, _⟩ => ⟨S16x2048x8192, .f32⟩
  | .hbm, ⟨43, _⟩ => ⟨S16x2048x2048, .f32⟩
  | .hbm, ⟨44, _⟩ => ⟨S1x2048, .f32⟩
  | .hbm, ⟨45, _⟩ => ⟨S2048, .f32⟩
  | .hbm, ⟨46, _⟩ => ⟨S16x2048x2048, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x2048, .f32⟩
  | .hbm, ⟨58, _⟩ => ⟨S16x2048x2048, .f32⟩
  | .hbm, ⟨59, _⟩ => ⟨S1x1x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S16x2048x2048, .f32⟩
  | .hbm, ⟨65, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_cst : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== CtxMlp.lean ====
abbrev S16x256x2048 : Shape := ⟨3, ![16, 256, 2048]⟩
abbrev S2x32x1x12288 : Shape := ⟨4, ![2, 32, 1, 12288]⟩
abbrev S4x2048 : Shape := ⟨2, ![4, 2048]⟩
abbrev S2048x8192 : Shape := ⟨2, ![2048, 8192]⟩
abbrev S8192x2048 : Shape := ⟨2, ![8192, 2048]⟩
abbrev S4096x2048 : Shape := ⟨2, ![4096, 2048]⟩
abbrev S4x1x2048 : Shape := ⟨3, ![4, 1, 2048]⟩
abbrev S1x1x2048 : Shape := ⟨3, ![1, 1, 2048]⟩
abbrev S1x2048 : Shape := ⟨2, ![1, 2048]⟩
abbrev S1024x2048 : Shape := ⟨2, ![1024, 2048]⟩
abbrev S1x1x1x2048 : Shape := ⟨4, ![1, 1, 1, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x512 : Shape := ⟨2, ![512, 512]⟩
abbrev S1024x256 : Shape := ⟨2, ![1024, 256]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S16x256x2048, .f32⟩
  | .hbm, ⟨1, _⟩ => ⟨S2x32x1x12288, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S4096x2048, .f32⟩
  | .hbm, ⟨6, _⟩ => ⟨S4x1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S2048x8192, .bf16⟩
  | .hbm, ⟨12, _⟩ => ⟨S8192x2048, .bf16⟩
  | .hbm, ⟨13, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  let c3_i32 : BitVec 32 := 3#32
  let c0_i32_1 : BitVec 32 := 0#32
  ![c0_i32.toNat, c16_i32.toNat, c0_i32_0.toNat, c3_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  let c4_i32 : BitVec 32 := 4#32
  let c0_i32_1 : BitVec 32 := 0#32
  ![c0_i32.toNat, c16_i32.toNat, c0_i32_0.toNat, c4_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  let c5_i32 : BitVec 32 := 5#32
  let c0_i32_1 : BitVec 32 := 0#32
  ![c0_i32.toNat, c16_i32.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== CtxMlpReferenceIdeal.lean ====
abbrev S16x256x2048 : Shape := ⟨3, ![16, 256, 2048]⟩
abbrev S2x32x1x12288 : Shape := ⟨4, ![2, 32, 1, 12288]⟩
abbrev S4x2048 : Shape := ⟨2, ![4, 2048]⟩
abbrev S2048x8192 : Shape := ⟨2, ![2048, 8192]⟩
abbrev S8192x2048 : Shape := ⟨2, ![8192, 2048]⟩
abbrev S1x1x1x12288 : Shape := ⟨4, ![1, 1, 1, 12288]⟩
abbrev S1x12288 : Shape := ⟨2, ![1, 12288]⟩
abbrev S1x2048 : Shape := ⟨2, ![1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S16x256x8192 : Shape := ⟨3, ![16, 256, 8192]⟩
abbrev S4096x2048 : Shape := ⟨2, ![4096, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2x32x1x12288, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S1x1x1x12288, .f32⟩
  | .hbm, ⟨6, _⟩ => ⟨S1x12288, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S16x256x2048, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x2048, .f32⟩
  | .hbm, ⟨27, _⟩ => ⟨S16x256x2048, .f32⟩
  | .hbm, ⟨28, _⟩ => ⟨S1x1x2048, .f32⟩
  | .hbm, ⟨29, _⟩ => ⟨S16x256x2048, .f32⟩
  | .hbm, ⟨30, _⟩ => ⟨S16x256x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x1x2048, .f32⟩
  | .hbm, ⟨35, _⟩ => ⟨S16x256x2048, .f32⟩
  | .hbm, ⟨36, _⟩ => ⟨S16x256x2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S16x256x8192, .f32⟩
  | .hbm, ⟨41, _⟩ => ⟨S_, .f32⟩
  | .hbm, ⟨42, _⟩ => ⟨S16x256x8192, .f32⟩
  | .hbm, ⟨43, _⟩ => ⟨S16x256x8192, .f32⟩
  | .hbm, ⟨44, _⟩ => ⟨S16x256x8192, .f32⟩
  | .hbm, ⟨45, _⟩ => ⟨S16x256x2048, .f32⟩
  | .hbm, ⟨46, _⟩ => ⟨S1x2048, .f32⟩
  | .hbm, ⟨47, _⟩ => ⟨S2048, .f32⟩
  | .hbm, ⟨48, _⟩ => ⟨S16x256x2048, .f32⟩
  | .hbm, ⟨49, _⟩ => ⟨S_, .f32⟩
  | .hbm, ⟨50, _⟩ => ⟨S16x256, .f32⟩
  | .hbm, ⟨51, _⟩ => ⟨S16x256x1, .f32⟩
  | .hbm, ⟨52, _⟩ => ⟨S_, .f32⟩
  | .hbm, ⟨53, _⟩ => ⟨S16x256x1, .f32⟩
  | .hbm, ⟨54, _⟩ => ⟨S16x256x1, .f32⟩
  | .hbm, ⟨55, _⟩ => ⟨S_, .f32⟩
  | .hbm, ⟨56, _⟩ => ⟨S16x256x1, .f32⟩
  | .hbm, ⟨57, _⟩ => ⟨S16x256x1, .f32⟩
  | .hbm, ⟨58, _⟩ => ⟨S16x256x1, .f32⟩
  | .hbm, ⟨59, _⟩ => ⟨S16x256x2048, .f32⟩
  | .hbm, ⟨60, _⟩ => ⟨S16x256x2048, .f32⟩
  | .hbm, ⟨61, _⟩ => ⟨S1x1x2048, .f32⟩
  | .hbm, ⟨62, _⟩ => ⟨S16x256x2048, .f32⟩
  | .hbm, ⟨63, _⟩ => ⟨S16x256x2048, .f32⟩
  | .hbm, ⟨64, _⟩ => ⟨S1x1x2048, .f32⟩
  | .hbm, ⟨65, _⟩ => ⟨S16x256x2048, .f32⟩
  | .hbm, ⟨66, _⟩ => ⟨S16x256x2048, .f32⟩
  | .hbm, ⟨67, _⟩ => ⟨S16x256x2048, .f32⟩
  | .hbm, ⟨68, _⟩ => ⟨S4096x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_cst : Ref sig .tc := ⟨.hbm, 41, rfl⟩
abbrev main_call0_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Ada.lean ====
abbrev S16x2048 : Shape := ⟨2, ![16, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S32x2048 : Shape := ⟨2, ![32, 2048]⟩
abbrev S1 : Shape := ⟨1, ![1]⟩
abbrev S2x1x12288 : Shape := ⟨3, ![2, 1, 12288]⟩
abbrev S2x32x12288 : Shape := ⟨3, ![2, 32, 12288]⟩
abbrev S1x2048x1024 : Shape := ⟨3, ![1, 2048, 1024]⟩
abbrev S1x1x1024 : Shape := ⟨3, ![1, 1, 1024]⟩
abbrev S1x32x1024 : Shape := ⟨3, ![1, 32, 1024]⟩
abbrev S2048x1024 : Shape := ⟨2, ![2048, 1024]⟩
abbrev S32x1024 : Shape := ⟨2, ![32, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S32x2048, .f32⟩
  | .hbm, ⟨6, _⟩ => ⟨S_, .i32⟩
  | .hbm, ⟨7, _⟩ => ⟨S1, .i32⟩
  | .hbm, ⟨8, _⟩ => ⟨S32x2048, .f32⟩
  | .hbm, ⟨9, _⟩ => ⟨S_, .i32⟩
  | .hbm, ⟨10, _⟩ => ⟨S1, .i32⟩
  | .hbm, ⟨11, _⟩ => ⟨S32x2048, .f32⟩
  | .hbm, ⟨12, _⟩ => ⟨S2x1x12288, .f32⟩
  | .hbm, ⟨13, _⟩ => ⟨S2x32x12288, .f32⟩
  | .local _ .vmem, ⟨0, _⟩ => ⟨S32x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S16x2048 : Shape := ⟨2, ![16, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S15x2048 : Shape := ⟨2, ![15, 2048]⟩
abbrev S32x2048 : Shape := ⟨2, ![32, 2048]⟩
abbrev S1x2048x12288 : Shape := ⟨3, ![1, 2048, 12288]⟩
abbrev S2048x12288 : Shape := ⟨2, ![2048, 12288]⟩
abbrev S32x12288 : Shape := ⟨2, ![32, 12288]⟩
abbrev S1x12288 : Shape := ⟨2, ![1, 12288]⟩
abbrev S12288 : Shape := ⟨1, ![12288]⟩
abbrev S1x32x12288 : Shape := ⟨3, ![1, 32, 12288]⟩
abbrev S2x32x12288 : Shape := ⟨3, ![2, 32, 12288]⟩

abbrev nBuf : Space → Nat
  | .hbm => 45
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S15x2048, .f32⟩
  | .hbm, ⟨7, _⟩ => ⟨S32x2048, .f32⟩
  | .hbm, ⟨8, _⟩ => ⟨S32x2048, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S_, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S1x2048x12288, .f32⟩
  | .hbm, ⟨18, _⟩ => ⟨S2048x12288, .f32⟩
  | .hbm, ⟨19, _⟩ => ⟨S32x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S32x12288, .f32⟩
  | .hbm, ⟨24, _⟩ => ⟨S32x12288, .f32⟩
  | .hbm, ⟨25, _⟩ => ⟨S32x2048, .f32⟩
  | .hbm, ⟨26, _⟩ => ⟨S32x2048, .f32⟩
  | .hbm, ⟨27, _⟩ => ⟨S_, .f32⟩
  | .hbm, ⟨28, _⟩ => ⟨S32x2048, .f32⟩
  | .hbm, ⟨29, _⟩ => ⟨S32x2048, .f32⟩
  | .hbm, ⟨30, _⟩ => ⟨S_, .f32⟩
  | .hbm, ⟨31, _⟩ => ⟨S32x2048, .f32⟩
  | .hbm, ⟨32, _⟩ => ⟨S32x2048, .f32⟩
  | .hbm, ⟨33, _⟩ => ⟨S32x2048, .f32⟩
  | .hbm, ⟨34, _⟩ => ⟨S1x2048x12288, .f32⟩
  | .hbm, ⟨35, _⟩ => ⟨S2048x12288, .f32⟩
  | .hbm, ⟨36, _⟩ => ⟨S32x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S32x12288, .f32⟩
  | .hbm, ⟨41, _⟩ => ⟨S32x12288, .f32⟩
  | .hbm, ⟨42, _⟩ => ⟨S1x32x12288, .f32⟩
  | .hbm, ⟨43, _⟩ => ⟨S1x32x12288, .f32⟩
  | .hbm, ⟨44, _⟩ => ⟨S2x32x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Mlp.Rows.lean ====
module

public import Idealize.ShloMosaic.Lib.Pointwise
public import Idealize.ShloMosaic.PureOps.Ideal

@[expose] public section

/-!
# The feed-forward block, one row at a time

The mathematics that both programs compute, on one row of the residual stream, over the extended
reals: the root-mean-square normalisation, the modulation, the squared rectifier and the two products.
-/

noncomputable section

namespace Cert.MlpMath

open Idealize.ShloMosaic

/-- The factor that a row is divided by in its root-mean-square normalisation:
    `1 / √(Σ f² / 2048 + ε)`. -/
def inorm (f : Fin 2048 → EReal) : EReal :=
  Ideal.rsqrt (Ideal.div (∑ k, f k * f k) (Ideal.ofBits .f32 0x45000000#32) + Ideal.ofBits .f32 0x358637BD#32)

/-- The modulated row that goes into the first product: the normalised row times `g (1 + scale)`,
    plus the shift. -/
def modulated (x g sh sc : Fin 2048 → EReal) (k : Fin 2048) : EReal :=
  x k * inorm x * (g k * (1 + sc k)) + sh k

/-- One hidden unit: the product of the row with the unit's column, rectified and squared. -/
def unit (h w : Fin 2048 → EReal) : EReal :=
  max (∑ k, h k * w k) 0 * max (∑ k, h k * w k) 0

/-- What leaves the block: the row plus the gate times the normalised product times the gain. -/
def leave (x f g gate : Fin 2048 → EReal) (k : Fin 2048) : EReal :=
  x k + gate k * (f k * inorm f * g k)

end Cert.MlpMath
-- ==== Proof.Mlp.Block.lean ====
module

public import proofs.«01_k».proof.Proof.Mlp.Rows
public import proofs.«01_k».proof.Proof.Gen.MlpIdeal.Skeleton
public import Idealize.ShloMosaic.Lib.Pointwise
public import Idealize.ShloMosaic.Lib.Pointwise.IndexVar

@[expose] public section

/-!
# What the kernel's body computes on its blocks

The body treats either the 1024 rows of its block at once or two times 512 rows. Each vector
expression it stores is named here once per height and read at an index.
-/

noncomputable section

namespace Cert.MlpIdeal.Body

open Cert.MlpIdeal Cert.MlpIdeal.Gen Cert.MlpMath Idealize.ShloMosaic

/-- The rectified and squared product of 512 rows with 256 columns. -/
def units512 (h : FVec Ideal S512x2048 .bf16) (w : FVec Ideal S2048x256 .bf16) : FVec Ideal S512x256 .bf16 :=
  have a := maximumf (matmul dot_S512x2048_S2048x256_S512x256_1_0_0_1_n_n none h
    (shapeCast S2048x256 w shapeCasts_S2048x256_S2048x256) (constant S512x256 .f32 0x00000000#32))
    (broadcast S512x256 (Scalar.ofBits .f32 0x00000000#32))
  truncf .bf16 (mulf a a) bitsLt_bf16_f32

/-- The rectified and squared product of 1024 rows with 256 columns. -/
def units1024 (h : FVec Ideal S1024x2048 .bf16) (w : FVec Ideal S2048x256 .bf16) : FVec Ideal S1024x256 .bf16 :=
  have a := maximumf (matmul dot_S1024x2048_S2048x256_S1024x256_1_0_0_1_n_n none h
    (shapeCast S2048x256 w shapeCasts_S2048x256_S2048x256) (constant S1024x256 .f32 0x00000000#32))
    (broadcast S1024x256 (Scalar.ofBits .f32 0x00000000#32))
  truncf .bf16 (mulf a a) bitsLt_bf16_f32

theorem units512_apply (h : FVec Ideal S512x2048 .bf16) (w : FVec Ideal S2048x256 .bf16) (r : Fin 512) (f : Fin 256) :
    units512 h w (ix2 r f) = unit (fun k => h (ix2 r k)) (fun k => w (ix2 k f)) := by
  pointwise [units512, unit]

theorem units1024_apply (h : FVec Ideal S1024x2048 .bf16) (w : FVec Ideal S2048x256 .bf16) (r : Fin 1024) (f : Fin 256) :
    units1024 h w (ix2 r f) = unit (fun k => h (ix2 r k)) (fun k => w (ix2 k f)) := by
  pointwise [units1024, unit]

/-- Four pieces of 256 columns laid side by side are the function they are pieces of. -/
theorem concat4_apply {R : Nat} (G : Fin R → Fin 1024 → EReal) (p0 p1 p2 p3 : (⟨2, ![R, 256]⟩ : Shape).Idx → EReal)
    (e0 : ∀ r (f : Fin 256), p0 (ix2 r f) = G r ⟨0 + f.val, by omega⟩)
    (e1 : ∀ r (f : Fin 256), p1 (ix2 r f) = G r ⟨256 + f.val, by omega⟩)
    (e2 : ∀ r (f : Fin 256), p2 (ix2 r f) = G r ⟨512 + f.val, by omega⟩)
    (e3 : ∀ r (f : Fin 256), p3 (ix2 r f) = G r ⟨768 + f.val, by omega⟩)
    (hc : Shape.Concatenates [(⟨2, ![R, 256]⟩ : Shape), ⟨2, ![R, 256]⟩, ⟨2, ![R, 256]⟩, ⟨2, ![R, 256]⟩] ⟨2, ![R, 1024]⟩ 1)
    (r : Fin R) (f : Fin 1024) :
    concatenate (⟨2, ![R, 1024]⟩ : Shape) 1 [⟨⟨2, ![R, 256]⟩, p0⟩, ⟨⟨2, ![R, 256]⟩, p1⟩, ⟨⟨2, ![R, 256]⟩, p2⟩, ⟨⟨2, ![R, 256]⟩, p3⟩] hc (ix2 r f)
      = G r f := by
  pointwise
  split
  · exact (e0 r ⟨f.val, by assumption⟩).trans (congrArg (G r) (Fin.ext (Nat.zero_add f.val)))
  · split
    · refine (e1 r ⟨f.val - 256, by assumption⟩).trans (congrArg (G r) (Fin.ext ?_))
      show 256 + (f.val - 256) = f.val; omega
    · split
      · refine (e2 r ⟨f.val - 256 - 256, by assumption⟩).trans (congrArg (G r) (Fin.ext ?_))
        show 512 + (f.val - 256 - 256) = f.val; omega
      · refine (e3 r ⟨f.val - 256 - 256 - 256, by omega⟩).trans (congrArg (G r) (Fin.ext ?_))
        show 768 + (f.val - 256 - 256 - 256) = f.val; omega

/-- The two products of 512 rows with the block's 1024 hidden columns, which arrive in four pieces. -/
def hidden512 (h : FVec Ideal S512x2048 .bf16) (wa wb wc wd : FVec Ideal S2048x256 .bf16) (w2 : FVec Ideal S1024x2048 .bf16) :
    FVec Ideal S512x2048 .f32 :=
  matmul dot_S512x1024_S1024x2048_S512x2048_1_0_0_1_n_n none
    (concatenate S512x1024 1 [⟨S512x256, units512 h wa⟩, ⟨S512x256, units512 h wb⟩, ⟨S512x256, units512 h wc⟩, ⟨S512x256, units512 h wd⟩]
      concatenates_S512x256_S512x256_S512x256_S512x256_S512x1024_d1)
    (shapeCast S1024x2048 w2 shapeCasts_S1024x2048_S1024x2048) (constant S512x2048 .f32 0x00000000#32)

/-- The two products of 1024 rows with the block's 1024 hidden columns, which arrive in four pieces. -/
def hidden1024 (h : FVec Ideal S1024x2048 .bf16) (wa wb wc wd : FVec Ideal S2048x256 .bf16) (w2 : FVec Ideal S1024x2048 .bf16) :
    FVec Ideal S1024x2048 .f32 :=
  matmul dot_S1024x1024_S1024x2048_S1024x2048_1_0_0_1_n_n none
    (concatenate S1024x1024 1 [⟨S1024x256, units1024 h wa⟩, ⟨S1024x256, units1024 h wb⟩, ⟨S1024x256, units1024 h wc⟩, ⟨S1024x256, units1024 h wd⟩]
      concatenates_S1024x256_S1024x256_S1024x256_S1024x256_S1024x1024_d1)
    (shapeCast S1024x2048 w2 shapeCasts_S1024x2048_S1024x2048) (constant S1024x2048 .f32 0x00000000#32)

/-- Columns `o` to `o + 255` of the first product's block, as the body loads them. -/
def cols (w : FVec Ideal S2048x1024 .bf16) (o : Nat) (h : ∀ a, (![0, o] : Fin 2 → Nat) a + (![2048, 256] : Fin 2 → Nat) a ≤ S2048x1024.size a) :
    FVec Ideal S2048x256 .bf16 :=
  View.ld (Val := Elt Ideal) (S := S2048x1024) (e' := .bf16) w (Rect.unit (s := S2048x1024) ![0, o] ![2048, 256] h)

theorem cols_apply (w : FVec Ideal S2048x1024 .bf16) (o : Nat) (h) (k : Fin 2048) (f : Fin 256) :
    cols w o h (ix2 k f) = w (ix2 k ⟨o + f.val, by have h1 : o + 256 ≤ 1024 := h 1; omega⟩) := by
  show w _ = w _
  congr 1
  funext a
  apply Fin.ext
  match a with
  | ⟨0, _⟩ => show 0 + 1 * k.val = k.val; omega
  | ⟨1, _⟩ => show o + 1 * f.val = o + f.val; omega

/-- What a block of 1024 hidden units contributes to one entry. -/
def contrib (h : Fin 2048 → EReal) (w : FVec Ideal S2048x1024 .bf16) (w2 : FVec Ideal S1024x2048 .bf16) (c : Fin 2048) : EReal :=
  ∑ f : Fin 1024, unit h (fun k => w (ix2 k f)) * w2 (ix2 f c)

theorem hidden512_apply (h : FVec Ideal S512x2048 .bf16) (w : FVec Ideal S2048x1024 .bf16) (w2 : FVec Ideal S1024x2048 .bf16) (h0 h1 h2 h3)
    (r : Fin 512) (c : Fin 2048) :
    hidden512 h (cols w 0 h0) (cols w 256 h1) (cols w 512 h2) (cols w 768 h3) w2 (ix2 r c)
      = contrib (fun k => h (ix2 r k)) w w2 c := by
  have key := fun f => concat4_apply (fun r f => unit (fun k => h (ix2 r k)) (fun k => w (ix2 k f)))
    (units512 h (cols w 0 h0)) (units512 h (cols w 256 h1)) (units512 h (cols w 512 h2)) (units512 h (cols w 768 h3))
    (fun r f => by rw [units512_apply]; simp only [cols_apply])
    (fun r f => by rw [units512_apply]; simp only [cols_apply])
    (fun r f => by rw [units512_apply]; simp only [cols_apply])
    (fun r f => by rw [units512_apply]; simp only [cols_apply])
    concatenates_S512x256_S512x256_S512x256_S512x256_S512x1024_d1 r f
  unfold hidden512 contrib
  generalize concatenate S512x1024 1 _ _ = G at key ⊢
  pointwise
  exact Finset.sum_congr rfl fun f _ => congrArg (· * _) (key f)

theorem hidden1024_apply (h : FVec Ideal S1024x2048 .bf16) (w : FVec Ideal S2048x1024 .bf16) (w2 : FVec Ideal S1024x2048 .bf16) (h0 h1 h2 h3)
    (r : Fin 1024) (c : Fin 2048) :
    hidden1024 h (cols w 0 h0) (cols w 256 h1) (cols w 512 h2) (cols w 768 h3) w2 (ix2 r c)
      = contrib (fun k => h (ix2 r k)) w w2 c := by
  have key := fun f => concat4_apply (fun r f => unit (fun k => h (ix2 r k)) (fun k => w (ix2 k f)))
    (units1024 h (cols w 0 h0)) (units1024 h (cols w 256 h1)) (units1024 h (cols w 512 h2)) (units1024 h (cols w 768 h3))
    (fun r f => by rw [units1024_apply]; simp only [cols_apply])
    (fun r f => by rw [units1024_apply]; simp only [cols_apply])
    (fun r f => by rw [units1024_apply]; simp only [cols_apply])
    (fun r f => by rw [units1024_apply]; simp only [cols_apply])
    concatenates_S1024x256_S1024x256_S1024x256_S1024x256_S1024x1024_d1 r f
  unfold hidden1024 contrib
  generalize concatenate S1024x1024 1 _ _ = G at key ⊢
  pointwise
  exact Finset.sum_congr rfl fun f _ => congrArg (· * _) (key f)

/-- The modulated rows, as the body stores 512 of them. -/
theorem modulated512_apply (x : FVec Ideal S512x2048 .f32) (g : FVec Ideal S1x2048 .f32) (sc sh : FVec Ideal S1x1x1x2048 .f32)
    (r : Fin 512) (c : Fin 2048) :
    k0_pay3 (F := Ideal) x g sc sh (ix2 r c) = modulated (fun k => x (ix2 r k)) (fun k => g (ix2 0 k)) (fun k => sh (ix4 0 0 0 k))
      (fun k => sc (ix4 0 0 0 k)) c := by
  pointwise [k0_pay3, modulated, inorm]

/-- What leaves the block, as the body stores 512 rows of it. -/
theorem leave512_apply (f x : FVec Ideal S512x2048 .f32) (g : FVec Ideal S1x2048 .f32) (gate : FVec Ideal S1x1x1x2048 .f32)
    (r : Fin 512) (c : Fin 2048) :
    k0_pay14 (F := Ideal) f (mulf f f) x gate g (ix2 r c) = leave (fun k => x (ix2 r k)) (fun k => f (ix2 r k)) (fun k => g (ix2 0 k))
      (fun k => gate (ix4 0 0 0 k)) c := by
  pointwise [k0_pay14, leave, inorm]

end Cert.MlpIdeal.Body
-- ==== Proof.Mlp.Case.lean ====
module

public import proofs.«01_k».proof.Proof.Mlp.Block
public import proofs.«01_k».proof.Proof.Gen.MlpIdeal.Frame
public import Idealize.ShloMosaic.Lib.Pipeline.Value
public import Idealize.ShloMosaic.Lib.Tactic

@[expose] public section

/-!
# What one grid point leaves, per case of the body's conditionals

Case A is the first of the eight points of a row block (the block's rows are modulated into the
scratch and the first products are stored), case B a point between (products are added), case C
the last (the sum is finished, normalised and added to the rows).
-/

noncomputable section

namespace Cert.MlpIdeal.Body

open Cert.MlpIdeal Cert.MlpIdeal.Gen Cert.MlpMath Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Rows `o` to `o + 511` of a block of 1024 rows, as the body loads them. -/
def half {e : EltTy} (x : Vec Ideal S1024x2048 e) (o : Nat) (h : ∀ a, (![o, 0] : Fin 2 → Nat) a + (![512, 2048] : Fin 2 → Nat) a ≤ S1024x2048.size a) :
    Vec Ideal S512x2048 e :=
  View.ld (Val := Elt Ideal) (S := S1024x2048) (e' := e) x (Rect.unit (s := S1024x2048) ![o, 0] ![512, 2048] h)

theorem half_apply {e : EltTy} (x : Vec Ideal S1024x2048 e) (o : Nat) (h) (r : Fin 512) (k : Fin 2048) :
    half x o h (ix2 r k) = x (ix2 ⟨o + r.val, by have h1 : o + 512 ≤ 1024 := h 0; omega⟩ k) := by
  show x _ = x _
  congr 1
  funext a
  apply Fin.ext
  match a with
  | ⟨0, _⟩ => show o + 1 * r.val = o + r.val; omega
  | ⟨1, _⟩ => show 0 + 1 * k.val = k.val; omega

/-- A block of 1024 rows put together from two stores of 512 rows that both restrict one function
    of the block's entries is that function. -/
theorem canon_halves {Val : EltTy → Type} [∀ e, Nonempty (Val e)] {e : EltTy} (G : Fin 1024 → Fin 2048 → Val e) (h0 h1)
    (w0 w1 : S512x2048.Idx → Val e) (e0 : ∀ (r : Fin 512) k, w0 (ix2 r k) = G ⟨0 + r.val, by omega⟩ k)
    (e1 : ∀ (r : Fin 512) k, w1 (ix2 r k) = G ⟨512 + r.val, by omega⟩ k) :
    View.canon (s := S1024x2048) (e := e)
      [⟨Rect.unit (s := S1024x2048) ![512, 0] ![512, 2048] h1, w1⟩, ⟨Rect.unit (s := S1024x2048) ![0, 0] ![512, 2048] h0, w0⟩]
      = fun i => G (i 0) (i 1) := by
  funext y
  refine View.canon_apply_of_pieces (fun i => G (i 0) (i 1)) _ ?_ y ?_
  · intro p hp x
    rcases List.mem_cons.mp hp with rfl | hp
    · obtain ⟨a, b, rfl⟩ : ∃ (a : Fin 512) (b : Fin 2048), x = ix2 a b := ⟨x 0, x 1, eq_ix2 x⟩
      refine (e1 a b).trans ?_
      show G _ _ = G _ _
      congr 1
      · apply Fin.ext; show 512 + a.val = 512 + 1 * a.val; omega
      · apply Fin.ext; show b.val = 0 + 1 * b.val; omega
    · obtain rfl := List.mem_singleton.mp hp
      obtain ⟨a, b, rfl⟩ : ∃ (a : Fin 512) (b : Fin 2048), x = ix2 a b := ⟨x 0, x 1, eq_ix2 x⟩
      refine (e0 a b).trans ?_
      show G _ _ = G _ _
      congr 1
      · apply Fin.ext; show 0 + a.val = 0 + 1 * a.val; omega
      · apply Fin.ext; show b.val = 0 + 1 * b.val; omega
  · have y0 : (y 0).val < 1024 := (y 0).isLt
    have y1 : (y 1).val < 2048 := (y 1).isLt
    by_cases hy : (y 0).val < 512
    · refine ⟨_, List.mem_cons_of_mem _ (List.mem_singleton_self _), ?_⟩
      rw [Rect.mem_set_unit]
      intro a
      match a with
      | ⟨0, _⟩ => show 0 ≤ (y 0).val ∧ (y 0).val < 0 + 512; omega
      | ⟨1, _⟩ => show 0 ≤ (y 1).val ∧ (y 1).val < 0 + 2048; omega
    · refine ⟨_, List.mem_cons_self .., ?_⟩
      rw [Rect.mem_set_unit]
      intro a
      match a with
      | ⟨0, _⟩ => show 512 ≤ (y 0).val ∧ (y 0).val < 512 + 512; omega
      | ⟨1, _⟩ => show 0 ≤ (y 1).val ∧ (y 1).val < 0 + 2048; omega

/-- A store read back through its own rectangle. -/
theorem readCov_head {Val : EltTy → Type} [∀ e, Nonempty (Val e)] {sig : RefSig} {κ : Kind} {sp : Space} {s : Shape} {e : EltTy}
    (v : View sig κ sp s e) (r : Rect s) (w : r.shape.Idx → Val e) (L : List (View.Piece Val s e)) :
    v.readCov (⟨r, w⟩ :: L) r.toLoadRect = w := by
  rw [View.readCov_eq_canon']
  funext x
  exact View.canon_cons_emb r w L x

variable (c : Dev nD) (i : grid0.Coords) (arg2 : Memref sig .tc .vmem S1024x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1024x2048 .bf16) (harg9 : arg9.IsWhole) (arg10 : Memref sig .tc .vmem S1024x2048 .f32) (harg10 : arg10.IsWhole) (arg11 : Memref sig .tc .vmem S1024x2048 .bf16) (harg11 : arg11.IsWhole)
    (x0 : Vec Ideal S1024x2048 .f32) (x1 : Vec Ideal S1x1x1x2048 .f32) (x2 : Vec Ideal S1x1x1x2048 .f32) (x3 : Vec Ideal S1x1x1x2048 .f32) (x4 : Vec Ideal S1x2048 .f32) (x5 : Vec Ideal S1x2048 .f32) (x6 : Vec Ideal S2048x1024 .bf16) (x7 : Vec Ideal S1024x2048 .bf16) (xo8 : Vec Ideal S1024x2048 .f32) (xs0 : Vec Ideal S1024x2048 .bf16)

/-- The modulated rows of a block. -/
def modRows (r : Fin 1024) (k : Fin 2048) : EReal :=
  modulated (fun k => x0 (ix2 r k)) (fun k => x4 (ix2 0 k)) (fun k => x1 (ix4 0 0 0 k)) (fun k => x2 (ix4 0 0 0 k)) k

theorem modHalf (o : Nat) (h) (r : Fin 512) (k : Fin 2048) :
    k0_pay3 (F := Ideal) (half (e := .f32) x0 o h) x4 x2 x1 (ix2 r k)
      = modRows x0 x1 x2 x4 ⟨o + r.val, by have h1 : o + 512 ≤ 1024 := h 0; omega⟩ k := by
  rw [modulated512_apply]
  simp only [half_apply]
  rfl

include harg2 harg3 harg4 harg6 in
/-- Case A leaves the modulated rows in the scratch. -/
theorem scratch_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7
      = fun i => modRows x0 x1 x2 x4 (i 0) (i 1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  simp only [View.readAt_eq_ld, harg2.read_unread, harg3.read_unread, harg4.read_unread, harg6.read_unread]
  rw [View.ld_unit_zero (S := S1x2048) hz2, View.ld_unit_zero (S := S1x1x1x2048) hz4, View.ld_unit_zero (S := S1x1x1x2048) hz4]
  refine canon_halves (Val := Elt Ideal) (e := .bf16) (modRows x0 x1 x2 x4) _ _ _ _ ?_ ?_
  · exact modHalf x0 x1 x2 x4 0 _
  · exact modHalf x0 x1 x2 x4 512 _

include harg2 harg3 harg4 harg6 harg8 harg9 in
/-- Case A leaves the first block's products in the output's buffer. -/
theorem out_A (hc0 : cond0_0 i) (hc1 : ¬cond0_1 i) (hc2 : ¬cond0_2 i) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7
      = fun i => contrib (modRows x0 x1 x2 x4 (i 0)) x6 x7 (i 1) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  simp only [View.readAt_eq_ld, harg2.read_unread, harg3.read_unread, harg4.read_unread, harg6.read_unread, harg8.read_unread, harg9.read_unread]
  simp only [View.ld_unit_zero (S := S1x2048) hz2, View.ld_unit_zero (S := S1x1x1x2048) hz4, View.ld_unit_zero (S := S1024x2048) hz2]
  rw [readCov_head, readCov_head]
  refine canon_halves (Val := Elt Ideal) (e := .f32) (fun r c => contrib (modRows x0 x1 x2 x4 r) x6 x7 c) _ _ _ _ ?_ ?_
  · intro r k
    refine (hidden512_apply (k0_pay3 (F := Ideal) (half (e := .f32) x0 0 inb_S1024x2048_S512x2048_0_0) x4 x2 x1) x6 x7 _ _ _ _ r k).trans ?_
    simp only [modHalf]
  · intro r k
    refine (hidden512_apply (k0_pay3 (F := Ideal) (half (e := .f32) x0 512 inb_S1024x2048_S512x2048_512_0) x4 x2 x1) x6 x7 _ _ _ _ r k).trans ?_
    simp only [modHalf]

include harg8 harg9 harg10 harg11 in
/-- Case B adds its block's products. -/
theorem out_B (hc0 : ¬cond0_0 i) (hc1 : cond0_1 i) (hc2 : ¬cond0_2 i) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0
      = fun i => xo8 i + contrib (fun k => xs0 (ix2 (i 0) k)) x6 x7 (i 1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0)]
  unfold kernelRun0_B
  dsimp only
  sl_unfold_words
  simp only [View.readAt_eq_ld, harg8.read_unread, harg9.read_unread, harg10.read_unread, harg11.read_unread]
  rw [View.canon_unit_zero (S := S1024x2048) hz2]
  simp only [View.ld_unit_zero (S := S1024x2048) hz2]
  funext i
  obtain ⟨r, k, rfl⟩ : ∃ (a : Fin 1024) (b : Fin 2048), i = ix2 a b := ⟨i 0, i 1, eq_ix2 i⟩
  show shapeCast S1024x2048 xo8 shapeCasts_S1024x2048_S1024x2048 (ix2 r k)
    + hidden1024 xs0 (cols x6 0 inb_S2048x1024_S2048x256_0_0) (cols x6 256 inb_S2048x1024_S2048x256_0_256)
      (cols x6 512 inb_S2048x1024_S2048x256_0_512) (cols x6 768 inb_S2048x1024_S2048x256_0_768) x7 (ix2 r k) = _
  rw [shapeCast_self]
  exact congrArg (xo8 (ix2 r k) + ·) (hidden1024_apply xs0 x6 x7 _ _ _ _ r k)

/-- The finished sum of a block, normalised, scaled, gated and added to the rows. -/
def leaveRows (r : Fin 1024) (k : Fin 2048) : EReal :=
  leave (fun k => x0 (ix2 r k)) (fun k => xo8 (ix2 r k) + contrib (fun k => xs0 (ix2 r k)) x6 x7 k) (fun k => x5 (ix2 0 k))
    (fun k => x3 (ix4 0 0 0 k)) k

/-- The finished sum of 512 rows of a block. -/
def summed (a : FVec Ideal S512x2048 .f32) (h : FVec Ideal S512x2048 .bf16) (wa wb wc wd : FVec Ideal S2048x256 .bf16) (w2 : FVec Ideal S1024x2048 .bf16) :
    FVec Ideal S512x2048 .f32 :=
  addf (shapeCast S512x2048 a shapeCasts_S512x2048_S512x2048) (hidden512 h wa wb wc wd w2)

theorem summed_apply (a : FVec Ideal S512x2048 .f32) (h : FVec Ideal S512x2048 .bf16) (w : FVec Ideal S2048x1024 .bf16) (w2 : FVec Ideal S1024x2048 .bf16)
    (h0 h1 h2 h3) (r : Fin 512) (k : Fin 2048) :
    summed a h (cols w 0 h0) (cols w 256 h1) (cols w 512 h2) (cols w 768 h3) w2 (ix2 r k) = a (ix2 r k) + contrib (fun k => h (ix2 r k)) w w2 k := by
  unfold summed
  rw [shapeCast_self]
  exact congrArg (a (ix2 r k) + ·) (hidden512_apply h w w2 _ _ _ _ r k)

theorem leaveHalf (o : Nat) (h) (h0 h1 h2 h3) (r : Fin 512) (k : Fin 2048) :
    k0_pay14 (F := Ideal)
      (summed (half (e := .f32) xo8 o h) (half (e := .bf16) xs0 o h) (cols x6 0 h0) (cols x6 256 h1) (cols x6 512 h2) (cols x6 768 h3) x7)
      (mulf (summed (half (e := .f32) xo8 o h) (half (e := .bf16) xs0 o h) (cols x6 0 h0) (cols x6 256 h1) (cols x6 512 h2) (cols x6 768 h3) x7)
        (summed (half (e := .f32) xo8 o h) (half (e := .bf16) xs0 o h) (cols x6 0 h0) (cols x6 256 h1) (cols x6 512 h2) (cols x6 768 h3) x7))
      (half (e := .f32) x0 o h) x3 x5 (ix2 r k)
      = leaveRows x0 x3 x5 x6 x7 xo8 xs0 ⟨o + r.val, by have h1 : o + 512 ≤ 1024 := h 0; omega⟩ k := by
  rw [leave512_apply]
  simp only [summed_apply, half_apply]
  rfl

include harg2 harg5 harg7 harg8 harg9 harg10 harg11 in
/-- Case C leaves the finished rows. -/
theorem out_C (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0
      = fun i => leaveRows x0 x3 x5 x6 x7 xo8 xs0 (i 0) (i 1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0)]
  unfold kernelRun0_C
  dsimp only
  sl_unfold_words
  simp only [View.readAt_eq_ld, harg2.read_unread, harg5.read_unread, harg7.read_unread, harg8.read_unread, harg9.read_unread, harg10.read_unread, harg11.read_unread]
  simp only [View.ld_unit_zero (S := S1x2048) hz2, View.ld_unit_zero (S := S1x1x1x2048) hz4, View.ld_unit_zero (S := S1024x2048) hz2]
  refine canon_halves (Val := Elt Ideal) (e := .f32) (leaveRows x0 x3 x5 x6 x7 xo8 xs0) _ _ _ _ ?_ ?_
  · exact leaveHalf x0 x3 x5 x6 x7 xo8 xs0 0 _ _ _ _ _
  · exact leaveHalf x0 x3 x5 x6 x7 xo8 xs0 512 _ _ _ _ _

end Cert.MlpIdeal.Body
-- ==== Proof.Mlp.Blocks.lean ====
module

public import proofs.«01_k».proof.Proof.Gen.MlpIdeal.Value
public import Idealize.ShloMosaic.Lib.Pointwise
public import Idealize.ShloMosaic.Lib.Tactic

@[expose] public section

/-!
# What the windows of the fused MLP hold

Grid point `t = 8 * i + j` works on rows `1024 * i` to `1024 * i + 1023` of the flattened rows and on
hidden units `1024 * j` to `1024 * j + 1023`. Each theorem reads one window's block in terms of the
arguments of the call.
-/

noncomputable section

namespace Cert.MlpIdeal.Body

open Cert.MlpIdeal Cert.MlpIdeal.Gen Idealize.ShloMosaic Idealize.ShloMosaic.TcCoe Idealize.SL.Sem

variable (m : (ℓ : Loc nD τ sig) → Buf (Elt Ideal) ℓ) (c : Dev nD)

/-- The five arguments. -/
abbrev argX : Vec Ideal S16x2048x2048 .f32 := m ((c : Thread nD τ).loc main_arg0)
abbrev argMods : Vec Ideal S2x32x1x12288 .f32 := m ((c : Thread nD τ).loc main_arg1)
abbrev argG : Vec Ideal S4x2048 .f32 := m ((c : Thread nD τ).loc main_arg2)
abbrev argW1 : Vec Ideal S2048x8192 .f32 := m ((c : Thread nD τ).loc main_arg3)
abbrev argW2 : Vec Ideal S8192x2048 .f32 := m ((c : Thread nD τ).loc main_arg4)

theorem V_v0 : V m c main_v0 = shapeCast S32768x2048 (argX m c) shapeCasts_S16x2048x2048_S32768x2048 := by
  unfold V hostOps0
  after_results_simp <;> rfl

theorem V_v3 : V m c main_v3 = shapeCast S1x2048 (extractStridedSlice S1x1x2048 ![2, 0, 0]
    (shapeCast S4x1x2048 (argG m c) shapeCasts_S4x2048_S4x1x2048) slices_S4x1x2048_S1x1x2048_2_0_0) shapeCasts_S1x1x2048_S1x2048 := by
  unfold V hostOps0
  after_results_simp <;> rfl

theorem V_v5 : V m c main_v5 = shapeCast S1x2048 (extractStridedSlice S1x1x2048 ![3, 0, 0]
    (shapeCast S4x1x2048 (argG m c) shapeCasts_S4x2048_S4x1x2048) slices_S4x1x2048_S1x1x2048_3_0_0) shapeCasts_S1x1x2048_S1x2048 := by
  unfold V hostOps0
  after_results_simp <;> rfl

theorem V_v6 : V m c main_v6 = (argW1 m c : S2048x8192.Idx → EReal) := by
  unfold V hostOps0
  after_results_simp <;> rfl

theorem V_v7 : V m c main_v7 = (argW2 m c : S8192x2048.Idx → EReal) := by
  unfold V hostOps0
  after_results_simp <;> rfl

theorem index0 : ∀ t : Fin cfg0.N, win0_0.index t 0 = t.val / 8 ∧ win0_0.index t 1 = 0 :=
  (by decide +kernel : ∀ t : Fin grid0.N, _)
theorem index1 : ∀ t : Fin cfg0.N, win0_1.index t 0 = 1 ∧ win0_1.index t 1 = t.val / 16 ∧ win0_1.index t 2 = 0 ∧ win0_1.index t 3 = 3 :=
  (by decide +kernel : ∀ t : Fin grid0.N, _)
theorem index2 : ∀ t : Fin cfg0.N, win0_2.index t 0 = 1 ∧ win0_2.index t 1 = t.val / 16 ∧ win0_2.index t 2 = 0 ∧ win0_2.index t 3 = 4 :=
  (by decide +kernel : ∀ t : Fin grid0.N, _)
theorem index3 : ∀ t : Fin cfg0.N, win0_3.index t 0 = 1 ∧ win0_3.index t 1 = t.val / 16 ∧ win0_3.index t 2 = 0 ∧ win0_3.index t 3 = 5 :=
  (by decide +kernel : ∀ t : Fin grid0.N, _)
theorem index4 : ∀ t : Fin cfg0.N, win0_4.index t 0 = 0 ∧ win0_4.index t 1 = 0 :=
  (by decide +kernel : ∀ t : Fin grid0.N, _)
theorem index5 : ∀ t : Fin cfg0.N, win0_5.index t 0 = 0 ∧ win0_5.index t 1 = 0 :=
  (by decide +kernel : ∀ t : Fin grid0.N, _)
theorem index6 : ∀ t : Fin cfg0.N, win0_6.index t 0 = 0 ∧ win0_6.index t 1 = t.val % 8 :=
  (by decide +kernel : ∀ t : Fin grid0.N, _)
theorem index7 : ∀ t : Fin cfg0.N, win0_7.index t 0 = t.val % 8 ∧ win0_7.index t 1 = 0 :=
  (by decide +kernel : ∀ t : Fin grid0.N, _)

theorem lt256 (t : Fin cfg0.N) : t.val < 256 := lt_of_lt_of_eq t.isLt N_0

/-- The batch element point `t` works on, and the position in it of row `r` of the point's block. -/
def batchOf (t : Fin cfg0.N) : Fin 16 := ⟨t.val / 16, by have := lt256 t; omega⟩
def posOf (t : Fin cfg0.N) (r : Fin 1024) : Fin 2048 := ⟨(t.val / 8 % 2) * 1024 + r.val, by omega⟩

/-- Row `r` of the block of rows of point `t`. -/
theorem blk_x (t : Fin cfg0.N) (r : Fin 1024) (k : Fin 2048) :
    (iblk m c 0 t : Vec Ideal S1024x2048 .f32) (ix2 r k)
      = argX m c (ix3 (batchOf t) (posOf t r) k) := by
  have ht := lt256 t
  obtain ⟨e0, e1⟩ := index0 t
  have h : (iblk m c 0 t : Vec Ideal S1024x2048 .f32) (ix2 r k) = V m c main_v0 (ix2 (⟨(t.val / 8) * 1024 + r.val, by omega⟩ : Fin 32768) k) := by
    unfold iblk
    show V m c main_v0 _ = V m c main_v0 _
    congr 1
    funext a
    apply Fin.ext
    match a with
    | ⟨0, _⟩ => show win0_0.index t 0 * 1024 + 1 * r.val = t.val / 8 * 1024 + r.val; rw [e0]; omega
    | ⟨1, _⟩ => show win0_0.index t 1 * 2048 + 1 * k.val = k.val; rw [e1]; omega
  rw [h, V_v0]
  refine shapeCast_apply _ _ _ _ ?_
  rewrite [Shape.rowMajor_val_three, Shape.rowMajor_val_two]
  show (t.val / 16 * 2048 + (t.val / 8 % 2 * 1024 + r.val)) * 2048 + k.val = (t.val / 8 * 1024 + r.val) * 2048 + k.val
  omega

/-- Entry `k` of chunk `q` of batch element `b`'s modulation vector. -/
def modsOf (q : Fin 6) (b : Fin 16) (k : Fin 2048) : EReal :=
  argMods m c (ix4 1 ⟨b.val, by omega⟩ 0 ⟨q.val * 2048 + k.val, by omega⟩)

theorem blk_shift (t : Fin cfg0.N) (k : Fin 2048) :
    (iblk m c 1 t : Vec Ideal S1x1x1x2048 .f32) (ix4 0 0 0 k) = modsOf m c 3 (batchOf t) k := by
  obtain ⟨e0, e1, e2, e3⟩ := index1 t
  unfold iblk modsOf
  show V m c main_arg1 _ = argMods m c _
  rw [V_main_arg1]
  congr 1
  funext a
  apply Fin.ext
  match a with
  | ⟨0, _⟩ => show win0_1.index t 0 * 1 + 1 * 0 = 1; rw [e0]
  | ⟨1, _⟩ => show win0_1.index t 1 * 1 + 1 * 0 = t.val / 16; rw [e1]; omega
  | ⟨2, _⟩ => show win0_1.index t 2 * 1 + 1 * 0 = 0; rw [e2]
  | ⟨3, _⟩ => show win0_1.index t 3 * 2048 + 1 * k.val = 3 * 2048 + k.val; rw [e3]; omega

theorem blk_scale (t : Fin cfg0.N) (k : Fin 2048) :
    (iblk m c 2 t : Vec Ideal S1x1x1x2048 .f32) (ix4 0 0 0 k) = modsOf m c 4 (batchOf t) k := by
  obtain ⟨e0, e1, e2, e3⟩ := index2 t
  unfold iblk modsOf
  show V m c main_arg1 _ = argMods m c _
  rw [V_main_arg1]
  congr 1
  funext a
  apply Fin.ext
  match a with
  | ⟨0, _⟩ => show win0_2.index t 0 * 1 + 1 * 0 = 1; rw [e0]
  | ⟨1, _⟩ => show win0_2.index t 1 * 1 + 1 * 0 = t.val / 16; rw [e1]; omega
  | ⟨2, _⟩ => show win0_2.index t 2 * 1 + 1 * 0 = 0; rw [e2]
  | ⟨3, _⟩ => show win0_2.index t 3 * 2048 + 1 * k.val = 4 * 2048 + k.val; rw [e3]; omega

theorem blk_gate (t : Fin cfg0.N) (k : Fin 2048) :
    (iblk m c 3 t : Vec Ideal S1x1x1x2048 .f32) (ix4 0 0 0 k) = modsOf m c 5 (batchOf t) k := by
  obtain ⟨e0, e1, e2, e3⟩ := index3 t
  unfold iblk modsOf
  show V m c main_arg1 _ = argMods m c _
  rw [V_main_arg1]
  congr 1
  funext a
  apply Fin.ext
  match a with
  | ⟨0, _⟩ => show win0_3.index t 0 * 1 + 1 * 0 = 1; rw [e0]
  | ⟨1, _⟩ => show win0_3.index t 1 * 1 + 1 * 0 = t.val / 16; rw [e1]; omega
  | ⟨2, _⟩ => show win0_3.index t 2 * 1 + 1 * 0 = 0; rw [e2]
  | ⟨3, _⟩ => show win0_3.index t 3 * 2048 + 1 * k.val = 5 * 2048 + k.val; rw [e3]; omega

/-- The first gain of the MLP is row 2 of the gains. -/
theorem blk_gin (t : Fin cfg0.N) (k : Fin 2048) :
    (iblk m c 4 t : Vec Ideal S1x2048 .f32) (ix2 0 k) = argG m c (ix2 2 k) := by
  obtain ⟨e0, e1⟩ := index4 t
  have h : (iblk m c 4 t : Vec Ideal S1x2048 .f32) (ix2 0 k) = V m c main_v3 (ix2 (0 : Fin 1) k) := by
    unfold iblk
    show V m c main_v3 _ = V m c main_v3 _
    congr 1
    funext a
    apply Fin.ext
    match a with
    | ⟨0, _⟩ => show win0_4.index t 0 * 1 + 1 * 0 = 0; rw [e0]
    | ⟨1, _⟩ => show win0_4.index t 1 * 2048 + 1 * k.val = k.val; rw [e1]; omega
  rw [h, V_v3]
  pointwise
  try rfl

/-- The second gain of the MLP is row 3 of the gains. -/
theorem blk_gout (t : Fin cfg0.N) (k : Fin 2048) :
    (iblk m c 5 t : Vec Ideal S1x2048 .f32) (ix2 0 k) = argG m c (ix2 3 k) := by
  obtain ⟨e0, e1⟩ := index5 t
  have h : (iblk m c 5 t : Vec Ideal S1x2048 .f32) (ix2 0 k) = V m c main_v5 (ix2 (0 : Fin 1) k) := by
    unfold iblk
    show V m c main_v5 _ = V m c main_v5 _
    congr 1
    funext a
    apply Fin.ext
    match a with
    | ⟨0, _⟩ => show win0_5.index t 0 * 1 + 1 * 0 = 0; rw [e0]
    | ⟨1, _⟩ => show win0_5.index t 1 * 2048 + 1 * k.val = k.val; rw [e1]; omega
  rw [h, V_v5]
  pointwise
  try rfl

theorem blk_w1 (t : Fin cfg0.N) (k : Fin 2048) (f : Fin 1024) :
    (iblk m c 6 t : Vec Ideal S2048x1024 .bf16) (ix2 k f) = argW1 m c (ix2 k ⟨(t.val % 8) * 1024 + f.val, by omega⟩) := by
  obtain ⟨e0, e1⟩ := index6 t
  have h : (iblk m c 6 t : Vec Ideal S2048x1024 .bf16) (ix2 k f) = V m c main_v6 (ix2 k (⟨(t.val % 8) * 1024 + f.val, by omega⟩ : Fin 8192)) := by
    unfold iblk
    show V m c main_v6 _ = V m c main_v6 _
    congr 1
    funext a
    apply Fin.ext
    match a with
    | ⟨0, _⟩ => show win0_6.index t 0 * 2048 + 1 * k.val = k.val; rw [e0]; omega
    | ⟨1, _⟩ => show win0_6.index t 1 * 1024 + 1 * f.val = t.val % 8 * 1024 + f.val; rw [e1]; omega
  exact h.trans (congrFun (V_v6 m c) _)

theorem blk_w2 (t : Fin cfg0.N) (f : Fin 1024) (k : Fin 2048) :
    (iblk m c 7 t : Vec Ideal S1024x2048 .bf16) (ix2 f k) = argW2 m c (ix2 ⟨(t.val % 8) * 1024 + f.val, by omega⟩ k) := by
  obtain ⟨e0, e1⟩ := index7 t
  have h : (iblk m c 7 t : Vec Ideal S1024x2048 .bf16) (ix2 f k) = V m c main_v7 (ix2 (⟨(t.val % 8) * 1024 + f.val, by omega⟩ : Fin 8192) k) := by
    unfold iblk
    show V m c main_v7 _ = V m c main_v7 _
    congr 1
    funext a
    apply Fin.ext
    match a with
    | ⟨0, _⟩ => show win0_7.index t 0 * 1024 + 1 * f.val = t.val % 8 * 1024 + f.val; rw [e0]; omega
    | ⟨1, _⟩ => show win0_7.index t 1 * 2048 + 1 * k.val = k.val; rw [e1]; omega
  exact h.trans (congrFun (V_v7 m c) _)

end Cert.MlpIdeal.Body
-- ==== Proof.Mlp.Array.lean ====
module

public import proofs.«01_k».proof.Proof.Mlp.Case
public import proofs.«01_k».proof.Proof.Mlp.Blocks

@[expose] public section

/-!
# What the result array of the fused MLP holds

The eight points of a row block leave, one after the other, the partial sums of the block's rows over the
hidden units; the last one leaves the finished rows, which is what is written back.
-/

noncomputable section

namespace Cert.MlpIdeal.Body

open Cert.MlpIdeal Cert.MlpIdeal.Gen Cert.MlpIdeal.Value Cert.MlpMath Idealize.ShloMosaic Idealize.ShloMosaic.TcCoe Idealize.SL.Sem

variable (m : (ℓ : Loc nD τ sig) → Buf (Elt Ideal) ℓ) (c : Dev nD)

/-- The modulated row at position `s` of batch element `b`. -/
def hRow (b : Fin 16) (s : Fin 2048) : Fin 2048 → EReal :=
  modulated (fun k => argX m c (ix3 b s k)) (fun k => argG m c (ix2 2 k)) (modsOf m c 3 b) (modsOf m c 4 b)

/-- What block `n` of the hidden units (modulo 8) adds to the row at position `s` of batch element `b`. -/
def products (b : Fin 16) (s : Fin 2048) (n : ℕ) (k : Fin 2048) : EReal :=
  ∑ f : Fin 1024, unit (hRow m c b s) (fun q => argW1 m c (ix2 q ⟨(n % 8) * 1024 + f.val, by omega⟩))
    * argW2 m c (ix2 ⟨(n % 8) * 1024 + f.val, by omega⟩ k)

/-- The partial sum over the first blocks of the hidden units, up to block `n % 8`. -/
def partialSum (b : Fin 16) (s : Fin 2048) (n : ℕ) (k : Fin 2048) : EReal :=
  ∑ j ∈ Finset.range (n % 8 + 1), products m c b s j k

/-- The finished row. -/
def finished (b : Fin 16) (s : Fin 2048) (k : Fin 2048) : EReal :=
  leave (fun k => argX m c (ix3 b s k)) (partialSum m c b s 7) (fun k => argG m c (ix2 3 k)) (modsOf m c 5 b) k

theorem products_mod (b : Fin 16) (s : Fin 2048) (n : ℕ) (k : Fin 2048) : products m c b s (n % 8) k = products m c b s n k := by
  unfold products
  simp only [Nat.mod_mod]

theorem modRows_blk (t : Fin cfg0.N) (r : Fin 1024) :
    modRows (iblk m c 0 t) (iblk m c 1 t) (iblk m c 2 t) (iblk m c 4 t) r = hRow m c (batchOf t) (posOf t r) := by
  funext k
  unfold modRows hRow
  simp only [blk_x, blk_shift, blk_scale, blk_gin]

theorem contrib_blk (t : Fin cfg0.N) (r : Fin 1024) (k : Fin 2048) :
    contrib (hRow m c (batchOf t) (posOf t r)) (iblk m c 6 t) (iblk m c 7 t) k = products m c (batchOf t) (posOf t r) t.val k := by
  unfold contrib products
  simp only [blk_w1, blk_w2]

/-- The block of 1024 rows with these entries. -/
def asBlock (G : Fin 1024 → Fin 2048 → EReal) : S1024x2048.Idx → EReal := fun i => G (i 0) (i 1)

theorem asBlock_congr {G G' : Fin 1024 → Fin 2048 → EReal} (h : ∀ r k, G r k = G' r k) : asBlock G = asBlock G' :=
  congrArg asBlock (funext fun r => funext fun k => h r k)

/-- The modulated rows of point `t`'s block. -/
abbrev hBlock (t : Fin cfg0.N) : S1024x2048.Idx → EReal := asBlock fun r k => hRow m c (batchOf t) (posOf t r) k

theorem step_A (t : Fin cfg0.N) (h0 : t.val % 8 = 0) (h1 : ¬(1 ≤ t.val % 8 ∧ t.val % 8 ≤ 6)) (h2 : ¬t.val % 8 = 7) :
    outsAt0 m c t.val t.isLt = (asBlock fun r k => products m c (batchOf t) (posOf t r) t.val k, hBlock m c t) := by
  rw [outsAt0_A m c t h0 h1 h2]
  refine Prod.ext ?_ ?_
  · dsimp only
    rw [out_A]
    exact asBlock_congr (G := fun r k => contrib (modRows _ _ _ _ r) _ _ k) fun r k => by rw [modRows_blk, contrib_blk]
  · dsimp only
    rw [scratch_A]
    exact asBlock_congr (G := fun r k => modRows _ _ _ _ r k) fun r k => by rw [modRows_blk]

theorem step_B (t : Fin cfg0.N) (h0 : ¬t.val % 8 = 0) (h1 : (1 ≤ t.val % 8 ∧ t.val % 8 ≤ 6)) (h2 : ¬t.val % 8 = 7)
    (A : Fin 1024 → Fin 2048 → EReal)
    (e : outsAt0 m c (t.val - 1) (Nat.lt_of_le_of_lt (Nat.sub_le _ _) t.isLt) = (asBlock A, hBlock m c t)) :
    outsAt0 m c t.val t.isLt = (asBlock fun r k => A r k + products m c (batchOf t) (posOf t r) t.val k, hBlock m c t) := by
  rw [outsAt0_B m c t h0 h1 h2, e]
  refine Prod.ext ?_ rfl
  dsimp only
  rw [out_B]
  exact asBlock_congr (G := fun r k => A r k + contrib (hRow m c (batchOf t) (posOf t r)) _ _ k) fun r k => by rw [contrib_blk]

theorem step_C (t : Fin cfg0.N) (h0 : ¬t.val % 8 = 0) (h1 : ¬(1 ≤ t.val % 8 ∧ t.val % 8 ≤ 6)) (h2 : t.val % 8 = 7)
    (A : Fin 1024 → Fin 2048 → EReal)
    (e : outsAt0 m c (t.val - 1) (Nat.lt_of_le_of_lt (Nat.sub_le _ _) t.isLt) = (asBlock A, hBlock m c t)) :
    (outsAt0 m c t.val t.isLt).1 = asBlock fun r => leave (fun k => argX m c (ix3 (batchOf t) (posOf t r) k))
      (fun k => A r k + products m c (batchOf t) (posOf t r) t.val k) (fun k => argG m c (ix2 3 k)) (modsOf m c 5 (batchOf t)) := by
  rw [outsAt0_C m c t h0 h1 h2, e]
  dsimp only
  rw [out_C]
  refine asBlock_congr (G := fun r k => leaveRows _ _ _ _ _ (asBlock A) (hBlock m c t) r k) fun r k => ?_
  unfold leaveRows
  have hc : ∀ k, contrib (fun q => hBlock m c t (ix2 r q)) (iblk m c 6 t) (iblk m c 7 t) k = products m c (batchOf t) (posOf t r) t.val k :=
    fun k => contrib_blk m c t r k
  simp only [blk_x, blk_gate, blk_gout, hc]
  rfl

/-- Before the last point of a row block, the output's buffer holds the partial sums and the scratch the modulated rows. -/
theorem outs_eq (n : ℕ) (hn : n < cfg0.N) (h7 : n % 8 ≠ 7) :
    outsAt0 m c n hn = (asBlock fun r k => partialSum m c (batchOf ⟨n, hn⟩) (posOf ⟨n, hn⟩ r) n k, hBlock m c ⟨n, hn⟩) := by
  have first : ∀ (n : ℕ) (hn : n < cfg0.N), n % 8 = 0 →
      outsAt0 m c n hn = (asBlock fun r k => partialSum m c (batchOf ⟨n, hn⟩) (posOf ⟨n, hn⟩ r) n k, hBlock m c ⟨n, hn⟩) := by
    intro n hn h0
    rw [step_A m c ⟨n, hn⟩ h0 (by dsimp only; omega) (by dsimp only; omega)]
    refine congrArg₂ Prod.mk (asBlock_congr fun r k => ?_) rfl
    simp only [partialSum, h0, Finset.sum_range_one, Nat.zero_add]
    rw [← products_mod m c _ _ n, h0]
  induction n with
  | zero => exact first 0 hn rfl
  | succ n ih =>
    by_cases h0 : (n + 1) % 8 = 0
    · exact first (n + 1) hn h0
    · have hb : batchOf (⟨n + 1, hn⟩ : Fin cfg0.N) = batchOf ⟨n, Nat.lt_of_succ_lt hn⟩ := Fin.ext (by show (n + 1) / 16 = n / 16; omega)
      have hp : ∀ r, posOf (⟨n + 1, hn⟩ : Fin cfg0.N) r = posOf ⟨n, Nat.lt_of_succ_lt hn⟩ r :=
        fun r => Fin.ext (by show (n + 1) / 8 % 2 * 1024 + r.val = n / 8 % 2 * 1024 + r.val; omega)
      have e := ih (Nat.lt_of_succ_lt hn) (by omega)
      have hm : (n + 1) % 8 = n % 8 + 1 := by omega
      simp only [← hb, ← hp] at e
      rw [step_B m c ⟨n + 1, hn⟩ h0 (by dsimp only; omega) (by dsimp only; omega) _ (e.trans (congrArg₂ Prod.mk rfl (asBlock_congr (G := fun r k => hRow m c (batchOf ⟨n, _⟩) (posOf ⟨n, _⟩ r) k) fun r k => by rw [hb, hp])))]
      refine congrArg₂ Prod.mk (asBlock_congr fun r k => ?_) rfl
      unfold partialSum
      dsimp only
      rw [hm, Finset.sum_range_succ _ (n % 8 + 1), ← hm, products_mod]

/-- The last point of a row block leaves the finished rows. -/
theorem outs_last (t : Fin cfg0.N) (h7 : t.val % 8 = 7) :
    (outsAt0 m c t.val t.isLt).1 = asBlock fun r k => finished m c (batchOf t) (posOf t r) k := by
  obtain ⟨n, hn⟩ := t
  obtain ⟨n, rfl⟩ : ∃ k, n = k + 1 := ⟨n - 1, by dsimp only at h7; omega⟩
  dsimp only at h7 ⊢
  have hb : batchOf (⟨n + 1, hn⟩ : Fin cfg0.N) = batchOf ⟨n, Nat.lt_of_succ_lt hn⟩ := Fin.ext (by show (n + 1) / 16 = n / 16; omega)
  have hp : ∀ r, posOf (⟨n + 1, hn⟩ : Fin cfg0.N) r = posOf ⟨n, Nat.lt_of_succ_lt hn⟩ r :=
    fun r => Fin.ext (by show (n + 1) / 8 % 2 * 1024 + r.val = n / 8 % 2 * 1024 + r.val; omega)
  have e := outs_eq m c n (Nat.lt_of_succ_lt hn) (by omega)
  simp only [← hb, ← hp] at e
  rw [step_C m c ⟨n + 1, hn⟩ (by dsimp only; omega) (by dsimp only; omega) h7 _ (e.trans (congrArg₂ Prod.mk rfl (asBlock_congr (G := fun r k => hRow m c (batchOf ⟨n, _⟩) (posOf ⟨n, _⟩ r) k) fun r k => by rw [hb, hp])))]
  refine asBlock_congr fun r k => ?_
  unfold finished
  refine congrArg (leave _ · _ _ _) (funext fun k => ?_)
  unfold partialSum
  dsimp only
  rw [← products_mod m c _ _ (n + 1), h7, show n % 8 = 6 by omega, Finset.sum_range_succ _ 7]

/-- The result array: row `1024 * i + r` is the finished row of its batch element and position. -/
theorem array_eq (R : Fin 32768) (k : Fin 2048) :
    G8 m c (ix2 R k) = finished m c ⟨R.val / 2048, by omega⟩ ⟨R.val % 2048, by omega⟩ k := by
  have hN : cfg0.N = 256 := N_0
  have hp : pt8Of (ix2 R k) = 8 * (R.val / 1024) + 7 := by
    show 8 * (1 * (R.val / 1024 - 0) + 1 * (k.val / 2048 - 0)) + 7 = _
    omega
  have hlt : pt8Of (ix2 R k) < cfg0.N := by rw [hp, hN]; omega
  unfold G8
  rw [dif_pos hlt, ← outsAt0_sweep m c _ hlt, outs_last m c ⟨pt8Of (ix2 R k), hlt⟩ (by dsimp only; rw [hp]; omega)]
  show finished m c _ _ _ = finished m c _ _ _
  congr 1
  · apply Fin.ext; show pt8Of (ix2 R k) / 16 = R.val / 2048; rw [hp]; omega
  · apply Fin.ext; show pt8Of (ix2 R k) / 8 % 2 * 1024 + R.val % 1024 = R.val % 2048; rw [hp]; omega
  · apply Fin.ext; show k.val % 2048 = k.val; omega

end Cert.MlpIdeal.Body
-- ==== Proof.Mlp.Ref.lean ====
module

public import proofs.«01_k».proof.Proof.Mlp.Rows
public import proofs.«01_k».proof.Proof.Gen.MlpReferenceIdeal.Read
public import Idealize.ShloMosaic.Lib.Pointwise

@[expose] public section

/-!
# What the reference's MLP computes

The stages of the plain program, read entry by entry: the modulated row, the hidden units, the second
product, and the normalised, gated result.
-/

noncomputable section

namespace Cert.MlpReferenceIdeal.Body

open Cert.MlpReferenceIdeal Cert.MlpReferenceIdeal.Gen Cert.MlpReferenceIdeal.Read Cert.MlpMath Idealize.ShloMosaic Idealize.ShloMosaic.TcCoe Idealize.SL.Sem

variable (x : FVec Ideal S16x2048x2048 .f32) (mods : FVec Ideal S2x32x1x12288 .f32) (g : FVec Ideal S4x2048 .f32)
  (w1 : FVec Ideal S2048x8192 .f32) (w2 : FVec Ideal S8192x2048 .f32) (b : Fin 16) (s : Fin 2048)

/-- Entry `k` of chunk `q` of batch element `b`'s modulation vector. -/
def modsOf (q : Fin 6) (k : Fin 2048) : EReal := mods (ix4 1 ⟨b.val, by omega⟩ 0 ⟨q.val * 2048 + k.val, by omega⟩)

theorem chunk3 (k : Fin 2048) : val_main_v5 (F := Ideal) mods (ix3 b 0 k) = modsOf mods b 3 k := by
  pointwise [val_main_v5, val_main_v1, val_main_v0, modsOf]
theorem chunk4 (k : Fin 2048) : val_main_v6 (F := Ideal) mods (ix3 b 0 k) = modsOf mods b 4 k := by
  pointwise [val_main_v6, val_main_v1, val_main_v0, modsOf]
theorem chunk5 (k : Fin 2048) : val_main_v7 (F := Ideal) mods (ix3 b 0 k) = modsOf mods b 5 k := by
  pointwise [val_main_v7, val_main_v1, val_main_v0, modsOf]

/-- The scaled and shifted normalised row, in the reference's order of multiplication. -/
def hRow (k : Fin 2048) : EReal :=
  x (ix3 b s k) * inorm (fun k => x (ix3 b s k)) * g (ix2 2 k) * (1 + modsOf mods b 4 k) + modsOf mods b 3 k

theorem inorm_x : val_main_v17 (F := Ideal) x (ix3 b s 0) = inorm fun k => x (ix3 b s k) := by
  pointwise [val_main_v17, val_main_v16, val_main_v14, val_main_v12, val_main_v11, val_main_v10, val_main_v13, val_main_v15, val_main_cst, val_main_cst_0, val_main_cst_1, inorm]

theorem hRow_eq (k : Fin 2048) : val_main_v28 (F := Ideal) x mods g (ix3 b s k) = hRow x mods g b s k := by
  have e1 := inorm_x x b s
  have e3 := chunk3 mods b k
  have e4 := chunk4 mods b k
  unfold hRow
  rw [← e1, ← e3, ← e4]
  generalize ha : val_main_v17 (F := Ideal) x = a
  generalize hc : val_main_v5 (F := Ideal) mods = c3
  generalize hd : val_main_v6 (F := Ideal) mods = c4
  pointwise [val_main_v28, val_main_v27, val_main_v26, val_main_v25, val_main_v24, val_main_v23, val_main_cst_2, val_main_v22, val_main_v21, val_main_v20, val_main_v9, val_main_v8, val_main_v19, val_main_v18, ha, hc, hd]

/-- Hidden unit `f` of the row, rectified and squared. -/
theorem unit_eq (f : Fin 8192) : val_main_v31 (F := Ideal) x mods g w1 (ix3 b s f) = unit (hRow x mods g b s) (fun k => w1 (ix2 k f)) := by
  have e := fun k => hRow_eq x mods g b s k
  unfold unit
  simp only [← e]
  generalize hh : val_main_v28 (F := Ideal) x mods g = h
  pointwise [val_main_v31, val_main_v30, val_main_v29, val_main_call0_v0, val_main_call0_cst, hh]

/-- Entry `c` of the second product of the row. -/
def secondProduct (c : Fin 2048) : EReal := ∑ f : Fin 8192, unit (hRow x mods g b s) (fun k => w1 (ix2 k f)) * w2 (ix2 f c)

theorem secondProduct_eq (c : Fin 2048) : val_main_v32 (F := Ideal) x mods g w1 w2 (ix3 b s c) = secondProduct x mods g w1 w2 b s c := by
  have e := fun f => unit_eq x mods g w1 b s f
  unfold secondProduct
  simp only [← e]
  generalize hh : val_main_v31 (F := Ideal) x mods g w1 = h
  pointwise [val_main_v32, hh]

theorem inorm_second : val_main_v42 (F := Ideal) x mods g w1 w2 (ix3 b s 0) = inorm (secondProduct x mods g w1 w2 b s) := by
  have e := fun c => secondProduct_eq x mods g w1 w2 b s c
  unfold inorm
  simp only [← e]
  generalize hh : val_main_v32 (F := Ideal) x mods g w1 w2 = h
  pointwise [val_main_v42, val_main_v41, val_main_v40, val_main_v39, val_main_v38, val_main_v37, val_main_v36, val_main_v35, val_main_cst_3, val_main_cst_4, val_main_cst_5, hh]

/-- The reference's result, row by row. -/
theorem result_eq (R : Fin 32768) (k : Fin 2048) :
    val_main_v51 (F := Ideal) x mods g w1 w2 (ix2 R k)
      = leave (fun k => x (ix3 ⟨R.val / 2048, by omega⟩ ⟨R.val % 2048, by omega⟩ k))
          (secondProduct x mods g w1 w2 ⟨R.val / 2048, by omega⟩ ⟨R.val % 2048, by omega⟩) (fun k => g (ix2 3 k))
          (modsOf mods ⟨R.val / 2048, by omega⟩ 5) k := by
  have key : ∀ (b : Fin 16) (s k : Fin 2048), val_main_v50 (F := Ideal) x mods g w1 w2 (ix3 b s k)
      = leave (fun k => x (ix3 b s k)) (secondProduct x mods g w1 w2 b s) (fun k => g (ix2 3 k)) (modsOf mods b 5) k := by
    intro b s k
    unfold leave
    rw [← inorm_second x mods g w1 w2 b s, ← secondProduct_eq x mods g w1 w2 b s k, ← chunk5 mods b k]
    generalize hh : val_main_v32 (F := Ideal) x mods g w1 w2 = h
    generalize ha : val_main_v42 (F := Ideal) x mods g w1 w2 = a
    generalize hc : val_main_v7 (F := Ideal) mods = c5
    pointwise [val_main_v50, val_main_v49, val_main_v48, val_main_v47, val_main_v46, val_main_v45, val_main_v34, val_main_v33, val_main_v44, val_main_v43, hh, ha, hc]
  rw [← key]
  refine (val_main_v51_apply (F := Ideal) x mods g w1 w2 _).trans (congrArg _ ?_)
  funext a
  apply Fin.ext
  match a with
  | ⟨0, _⟩ => show (R.val * 2048 + k.val) / 4194304 = R.val / 2048; omega
  | ⟨1, _⟩ => show (R.val * 2048 + k.val) / 2048 % 2048 = R.val % 2048; omega
  | ⟨2, _⟩ => show (R.val * 2048 + k.val) % 2048 = k.val; omega

end Cert.MlpReferenceIdeal.Body
-- ==== Proof.Mlp.Eq.lean ====
module

public import proofs.«01_k».proof.Proof.Mlp.Array
public import proofs.«01_k».proof.Proof.Mlp.Ref

@[expose] public section

/-!
# The fused MLP's result is the reference's

The kernel sums the hidden units block by block, the reference in one sum; the kernel multiplies the gain
into the scale first. Both are rearrangements.
-/

noncomputable section

namespace Cert.MlpIdeal.Body

open Cert.MlpIdeal Cert.MlpIdeal.Gen Cert.MlpIdeal.Value Cert.MlpMath Idealize.ShloMosaic Idealize.ShloMosaic.TcCoe Idealize.SL.Sem

/-- A sum over `a * b` terms, taken in `a` blocks of `b`. -/
theorem sum_blocks (a b : ℕ) (G : ℕ → EReal) : ∑ j ∈ Finset.range a, ∑ f : Fin b, G (j * b + f.val) = ∑ F : Fin (a * b), G F.val := by
  rw [Finset.sum_range, ← Finset.sum_product', Finset.univ_product_univ]
  refine Fintype.sum_equiv finProdFinEquiv _ _ fun p => ?_
  rw [finProdFinEquiv_apply_val]
  congr 1
  ring

variable (m : (ℓ : Loc nD τ sig) → Buf (Elt Ideal) ℓ) (c : Dev nD)

theorem hRow_ref (b : Fin 16) (s : Fin 2048) :
    hRow m c b s = Cert.MlpReferenceIdeal.Body.hRow (argX m c) (argMods m c) (argG m c) b s := by
  funext k
  unfold hRow Cert.MlpReferenceIdeal.Body.hRow modulated
  rw [← mul_assoc]
  rfl

theorem sum_ref (b : Fin 16) (s k : Fin 2048) :
    partialSum m c b s 7 k = Cert.MlpReferenceIdeal.Body.secondProduct (argX m c) (argMods m c) (argG m c) (argW1 m c) (argW2 m c) b s k := by
  unfold partialSum Cert.MlpReferenceIdeal.Body.secondProduct
  rw [← hRow_ref]
  have key := sum_blocks 8 1024 fun F => unit (hRow m c b s) (fun q => argW1 m c (ix2 q ⟨F % 8192, Nat.mod_lt _ (by decide)⟩))
    * argW2 m c (ix2 ⟨F % 8192, Nat.mod_lt _ (by decide)⟩ k)
  refine Eq.trans (Finset.sum_congr rfl fun j hj => ?_) (key.trans (Finset.sum_congr rfl fun F _ => ?_))
  · have hj : j < 8 := Finset.mem_range.mp hj
    unfold products
    refine Finset.sum_congr rfl fun f _ => ?_
    have e : (⟨j % 8 * 1024 + f.val, by omega⟩ : Fin 8192) = ⟨(j * 1024 + f.val) % 8192, Nat.mod_lt _ (by decide)⟩ := Fin.ext (by show j % 8 * 1024 + f.val = (j * 1024 + f.val) % 8192; omega)
    rw [e]
  · have e : (⟨F.val % 8192, Nat.mod_lt _ (by decide)⟩ : Fin 8192) = F := Fin.ext (Nat.mod_eq_of_lt F.isLt)
    simp only [e]

/-- The array the kernel leaves is the array the reference computes from the same arguments. -/
theorem array_ref : G8 m c = Cert.MlpReferenceIdeal.Read.val_main_v51 (F := Ideal) (argX m c) (argMods m c) (argG m c) (argW1 m c) (argW2 m c) := by
  funext i
  obtain ⟨R, k, rfl⟩ : ∃ (R : Fin 32768) (k : Fin 2048), i = ix2 R k := ⟨i 0, i 1, eq_ix2 i⟩
  rw [array_eq]
  refine Eq.trans ?_ (Cert.MlpReferenceIdeal.Body.result_eq (argX m c) (argMods m c) (argG m c) (argW1 m c) (argW2 m c) R k).symm
  unfold finished
  exact congrArg (leave _ · _ _ k) (funext fun k => sum_ref m c _ _ k)

end Cert.MlpIdeal.Body
-- ==== Proof.Mlp.Claims.lean ====
/- The MLP's claims: the runs of its programs, and the equality of the kernel's array with the reference's. -/
module

public import proofs.«01_k».proof.Defs
public import proofs.«01_k».proof.Proof.Gen.Mlp.Frame
public import proofs.«01_k».proof.Proof.Gen.MlpReferenceIdeal.Run
public import proofs.«01_k».proof.Proof.Mlp.Eq
public import Idealize.ShloMosaic.Adequacy
public import Idealize.ShloMosaic.Init

@[expose] public section

noncomputable section

namespace Cert.MlpClaims

open Idealize.ShloMosaic Idealize.SL.Sem

attribute [local instance] Cert.Mlp.Gen.facts Cert.MlpIdeal.Gen.facts Cert.MlpReferenceIdeal.Gen.facts

/-- The kernel as written runs and leaves its arguments and its counters as they were. -/
theorem frame : Cert.quiescent_Mlp := fun m ρ _ => Cert.Mlp.Gen.frame m ρ

/-- So does the kernel over the extended reals. -/
theorem frame_ideal : Cert.quiescent_MlpIdeal := fun m ρ _ => Cert.MlpIdeal.Gen.frame m ρ

/-- So does the reference; it declares no semaphore. -/
theorem frame_reference : Cert.quiescent_MlpReferenceIdeal := fun m ρ _ =>
  (θ_run Cert.MlpReferenceIdeal.defs _ _).mono
    (fun r h => ⟨fun c => (h c).2, sem_eq_zero_of_no_sems (by decide) r.2⟩)
    (Cert.MlpReferenceIdeal.Value.run (F := Ideal) m ρ)

/-- The kernel's result is the reference's result, at equal arguments. -/
theorem algebraic : Cert.algebraic_MlpIdeal_MlpReferenceIdeal := by
  intro m ρ m' ρ' _ hagree
  refine ⟨fun c => Cert.MlpIdeal.Value.G8 m c, Cert.MlpIdeal.Value.run m ρ,
    (θ_run Cert.MlpReferenceIdeal.defs _ _).mono (fun r h c => ⟨(h c).1.trans ?_, (h c).2⟩)
      (Cert.MlpReferenceIdeal.Value.run (F := Ideal) m' ρ')⟩
  obtain ⟨h0, h1, h2, h3, h4⟩ := hagree c
  rw [Cert.MlpReferenceIdeal.Read.val_main_v51_eq]
  refine Eq.trans ?_ (Cert.MlpIdeal.Body.array_ref m c).symm
  rw [h0, h1, h2, h3, h4]

end Cert.MlpClaims

end
-- ==== Proof.Attn.Tile.lean ====
/- What one step of the attention's kernel computes: 256 query rows of one head pair against all its keys. -/
module

public import proofs.«01_k».proof.Proof.Gen.KernelIdeal.Value
public import Idealize.ShloMosaic.Lib.Pointwise

@[expose] public section

noncomputable section

namespace Cert.KernelIdeal.Body

open Cert.KernelIdeal Cert.KernelIdeal.Gen Idealize.ShloMosaic Idealize.ShloMosaic.TcCoe Idealize.SL.Sem

/-- The queries times the named scale. -/
def scaled (q : Vec Ideal S256x128 .bf16) : FVec Ideal S256x128 .bf16 :=
  truncf .bf16 (mulf (extf .f32 q bitsLt_bf16_f32) (broadcast S256x128 (Named.named κ "qscale" 0x3E0293EE#32))) bitsLt_bf16_f32

/-- A tile's scores against the 2048 latent keys. -/
def scores (q : Vec Ideal S256x128 .bf16) (k : Vec Ideal S2048x128 .bf16) : FVec Ideal S256x2048 .f32 :=
  matmul (φ₂ := .bf16) dot_S256x128_S2048x128_S256x2048_1_1_0_0_n_n none (scaled q) k (constant S256x2048 .f32 0x00000000#32)

/-- A tile's scores against the 256 context keys. -/
def scores' (q : Vec Ideal S256x128 .bf16) (k : Vec Ideal S256x128 .bf16) : FVec Ideal S256x256 .f32 :=
  matmul (φ₂ := .bf16) dot_S256x128_S256x128_S256x256_1_1_0_0_n_n none (scaled q) k (constant S256x256 .f32 0x00000000#32)

/-- 128 columns of a row-major 256 by 2048 array. -/
abbrev slab {φ : FTy} (s : FVec Ideal S256x2048 φ) (o : ℕ) (h : S256x2048.Slices ![0, o] S256x128) : FVec Ideal S256x128 φ :=
  extractStridedSlice S256x128 ![0, o] s h

/-- 128 columns of a row-major 256 by 256 array. -/
abbrev slab' {φ : FTy} (s : FVec Ideal S256x256 φ) (o : ℕ) (h : S256x256.Slices ![0, o] S256x128) : FVec Ideal S256x128 φ :=
  extractStridedSlice S256x128 ![0, o] s h

/-- The slabs' maximum, entry by entry. -/
def slabMax (s : FVec Ideal S256x2048 .f32) (s' : FVec Ideal S256x256 .f32) : FVec Ideal S256x128 .f32 :=
  (maximumf (maximumf (maximumf (maximumf (maximumf (maximumf (maximumf (maximumf (maximumf (maximumf (maximumf (maximumf (maximumf (maximumf (maximumf (maximumf (maximumf (slab s 0 slices_S256x2048_o0_0_S256x128)
    (slab s 128 slices_S256x2048_o0_128_S256x128))
    (slab s 256 slices_S256x2048_o0_256_S256x128))
    (slab s 384 slices_S256x2048_o0_384_S256x128))
    (slab s 512 slices_S256x2048_o0_512_S256x128))
    (slab s 640 slices_S256x2048_o0_640_S256x128))
    (slab s 768 slices_S256x2048_o0_768_S256x128))
    (slab s 896 slices_S256x2048_o0_896_S256x128))
    (slab s 1024 slices_S256x2048_o0_1024_S256x128))
    (slab s 1152 slices_S256x2048_o0_1152_S256x128))
    (slab s 1280 slices_S256x2048_o0_1280_S256x128))
    (slab s 1408 slices_S256x2048_o0_1408_S256x128))
    (slab s 1536 slices_S256x2048_o0_1536_S256x128))
    (slab s 1664 slices_S256x2048_o0_1664_S256x128))
    (slab s 1792 slices_S256x2048_o0_1792_S256x128))
    (slab s 1920 slices_S256x2048_o0_1920_S256x128))
    (slab' s' 0 slices_S256x256_o0_0_S256x128))
    (slab' s' 128 slices_S256x256_o0_128_S256x128))

/-- Each row's greatest score. -/
def rowTop (s : FVec Ideal S256x2048 .f32) (s' : FVec Ideal S256x256 .f32) : FVec Ideal S256x1 .f32 :=
  shapeCast S256x1 (multiReduction .maximumf [1] S256 (slabMax s s') 0xFF800000#32 reduces_S256x128_S256 (.inl rfl) rfl)
    shapeCasts_S256_S256x1

/-- Powers of two of the latent scores less the row's greatest. -/
def weights (s : FVec Ideal S256x2048 .f32) (m : FVec Ideal S256x1 .f32) : FVec Ideal S256x2048 .bf16 :=
  exp2 (truncf .bf16 (subf s (broadcastTo S256x2048 m broadcasts_S256x1_S256x2048)) bitsLt_bf16_f32)

/-- Powers of two of the context scores less the row's greatest. -/
def weights' (s : FVec Ideal S256x256 .f32) (m : FVec Ideal S256x1 .f32) : FVec Ideal S256x256 .bf16 :=
  exp2 (truncf .bf16 (subf s (broadcastTo S256x256 m broadcasts_S256x1_S256x256)) bitsLt_bf16_f32)

/-- The slabs' sum, entry by entry. -/
def slabSum (s : FVec Ideal S256x2048 .bf16) (s' : FVec Ideal S256x256 .bf16) : FVec Ideal S256x128 .f32 :=
  (addf (addf (addf (addf (addf (addf (addf (addf (extf .f32 (addf (slab s 0 slices_S256x2048_o0_0_S256x128) (slab s 128 slices_S256x2048_o0_128_S256x128)) bitsLt_bf16_f32)
    (extf .f32 (addf (slab s 256 slices_S256x2048_o0_256_S256x128) (slab s 384 slices_S256x2048_o0_384_S256x128)) bitsLt_bf16_f32))
    (extf .f32 (addf (slab s 512 slices_S256x2048_o0_512_S256x128) (slab s 640 slices_S256x2048_o0_640_S256x128)) bitsLt_bf16_f32))
    (extf .f32 (addf (slab s 768 slices_S256x2048_o0_768_S256x128) (slab s 896 slices_S256x2048_o0_896_S256x128)) bitsLt_bf16_f32))
    (extf .f32 (addf (slab s 1024 slices_S256x2048_o0_1024_S256x128) (slab s 1152 slices_S256x2048_o0_1152_S256x128)) bitsLt_bf16_f32))
    (extf .f32 (addf (slab s 1280 slices_S256x2048_o0_1280_S256x128) (slab s 1408 slices_S256x2048_o0_1408_S256x128)) bitsLt_bf16_f32))
    (extf .f32 (addf (slab s 1536 slices_S256x2048_o0_1536_S256x128) (slab s 1664 slices_S256x2048_o0_1664_S256x128)) bitsLt_bf16_f32))
    (extf .f32 (addf (slab s 1792 slices_S256x2048_o0_1792_S256x128) (slab s 1920 slices_S256x2048_o0_1920_S256x128)) bitsLt_bf16_f32))
    (extf .f32 (addf (slab' s' 0 slices_S256x256_o0_0_S256x128) (slab' s' 128 slices_S256x256_o0_128_S256x128)) bitsLt_bf16_f32))

/-- The reciprocal of each row's sum. -/
def recip (s : FVec Ideal S256x2048 .bf16) (s' : FVec Ideal S256x256 .bf16) : FVec Ideal S256x1 .f32 :=
  divf (broadcast S256x1 (Scalar.ofBits .f32 0x3F800000#32))
    (shapeCast S256x1 (multiReduction .add [1] S256 (slabSum s s') 0x00000000#32 reduces_S256x128_S256 (.inl rfl) rfl)
      shapeCasts_S256_S256x1)

/-- The mixing factor, from its four vectors. -/
def factor (l : Vec Ideal S4x128 .f32) : FVec Ideal S1x1 .f32 := k0_pay2 l

/-- `lam` times each row's reciprocal. -/
def lamTimes (lam : FVec Ideal S1x1 .f32) (r : FVec Ideal S256x1 .f32) : FVec Ideal S256x1 .bf16 :=
  truncf .bf16 (mulf (broadcastTo S256x1 lam broadcasts_S1x1_S256x1) r) bitsLt_bf16_f32

/-- The mixture of the values of both key sets. -/
def mixed (p0 p1 : FVec Ideal S256x2048 .bf16) (p0' p1' : FVec Ideal S256x256 .bf16) (w0 w1 : FVec Ideal S256x1 .bf16)
    (v : Vec Ideal S2048x256 .bf16) (v' : Vec Ideal S256x256 .bf16) : FVec Ideal S256x256 .f32 :=
  addf (addf (broadcast S256x256 (Scalar.ofBits .f32 0x00000000#32))
      (matmul (φ₂ := .bf16) (φ₁ := .bf16) dot_S256x2048_S2048x256_S256x256_1_0_0_1_n_n none
        (subf (mulf p0 (broadcastTo S256x2048 w0 broadcasts_S256x1_S256x2048))
          (mulf p1 (broadcastTo S256x2048 w1 broadcasts_S256x1_S256x2048))) v (constant S256x256 .f32 0x00000000#32)))
    (matmul (φ₂ := .bf16) (φ₁ := .bf16) dot_S256x256_S256x256_S256x256_1_0_0_1_n_n none
        (subf (mulf p0' (broadcastTo S256x256 w0 broadcasts_S256x1_S256x256))
          (mulf p1' (broadcastTo S256x256 w1 broadcasts_S256x1_S256x256))) v' (constant S256x256 .f32 0x00000000#32))

/-- The mixture normalised and scaled, as it is stored. -/
def stored (o : FVec Ideal S256x256 .f32) (g : Vec Ideal S1x256 .f32) : FVec Ideal S256x256 .bf16 :=
  truncf .bf16 (mulf (mulf (mulf o (broadcastTo S256x256
      (rsqrt (addf (divf (shapeCast S256x1 (multiReduction .add [1] S256 (mulf o o) 0x00000000#32 reduces_S256x256_S256 (.inl rfl) rfl)
        shapeCasts_S256_S256x1) (broadcast S256x1 (Scalar.ofBits .f32 0x43800000#32)))
        (broadcast S256x1 (Scalar.ofBits .f32 0x358637BD#32)))) broadcasts_S256x1_S256x256))
    (broadcastTo S256x256 (shapeCast S1x256 g shapeCasts_S1x256_S1x256) broadcasts_S1x256_S256x256))
    (broadcast S256x256 (Scalar.ofBits .f32 0x3F24FD5C#32))) bitsLt_bf16_f32

/-- One tile: the stored mixture of its two heads. -/
def tile (q0 q1 : Vec Ideal S256x128 .bf16) (k0 k1 : Vec Ideal S2048x128 .bf16) (k0' k1' : Vec Ideal S256x128 .bf16)
    (v : Vec Ideal S2048x256 .bf16) (v' : Vec Ideal S256x256 .bf16) (l : Vec Ideal S4x128 .f32) (g : Vec Ideal S1x256 .f32) :
    FVec Ideal S256x256 .bf16 :=
  let m0 := rowTop (scores q0 k0) (scores' q0 k0')
  let m1 := rowTop (scores q1 k1) (scores' q1 k1')
  let p0 := weights (scores q0 k0) m0
  let p0' := weights' (scores' q0 k0') m0
  let p1 := weights (scores q1 k1) m1
  let p1' := weights' (scores' q1 k1') m1
  stored (mixed p0 p1 p0' p1' (truncf .bf16 (recip p0 p0') bitsLt_bf16_f32) (lamTimes (factor l) (recip p1 p1')) v v') g

/-- The query rows `o` to `o + 255` of a block, columns `c` to `c + 127`. -/
abbrev rows (x : Vec Ideal S2048x256 .bf16) (o c : ℕ) (h : ∀ a, (![o, c] : Fin 2 → ℕ) a + S256x128.size a ≤ S2048x256.size a) :
    Vec Ideal S256x128 .bf16 :=
  View.ld (Val := Elt Ideal) (S := S2048x256) (e' := .bf16) x (Rect.unit (s := S2048x256) ![o, c] S256x128.size h)

section
variable (x0 x1 x2 : Vec Ideal S2048x256 .bf16) (x3 x4 : Vec Ideal S256x256 .bf16) (x5 : Vec Ideal S4x128 .f32) (x6 : Vec Ideal S1x256 .f32)

/-- The tile of the query rows from `o` on of a block, given the block's operands. -/
def tileFrom (o : ℕ) (h : ∀ a, (![o, 0] : Fin 2 → ℕ) a + S256x128.size a ≤ S2048x256.size a)
    (h' : ∀ a, (![o, 128] : Fin 2 → ℕ) a + S256x128.size a ≤ S2048x256.size a) : FVec Ideal S256x256 .bf16 :=
  tile (rows x0 o 0 h) (rows x0 o 128 h') (View.ld x1 r0_2) (View.ld x1 r0_4) (View.ld x3 r0_5) (View.ld x3 r0_6)
    (View.ld x2 r0_11) (View.ld x4 r0_12) (View.ld x5 r0_0) (View.ld x6 r0_13)

/-- The block the body leaves is put together from eight tiles. -/
theorem out_eq : out0_7 x0 x1 x2 x3 x4 x5 x6 = View.canon [
    ⟨r0_31, tileFrom x0 x1 x2 x3 x4 x5 x6 1792 inb_S2048x256_S256x128_1792_0 inb_S2048x256_S256x128_1792_128⟩,
    ⟨r0_30, tileFrom x0 x1 x2 x3 x4 x5 x6 1536 inb_S2048x256_S256x128_1536_0 inb_S2048x256_S256x128_1536_128⟩,
    ⟨r0_29, tileFrom x0 x1 x2 x3 x4 x5 x6 1280 inb_S2048x256_S256x128_1280_0 inb_S2048x256_S256x128_1280_128⟩,
    ⟨r0_26, tileFrom x0 x1 x2 x3 x4 x5 x6 1024 inb_S2048x256_S256x128_1024_0 inb_S2048x256_S256x128_1024_128⟩,
    ⟨r0_23, tileFrom x0 x1 x2 x3 x4 x5 x6 768 inb_S2048x256_S256x128_768_0 inb_S2048x256_S256x128_768_128⟩,
    ⟨r0_20, tileFrom x0 x1 x2 x3 x4 x5 x6 512 inb_S2048x256_S256x128_512_0 inb_S2048x256_S256x128_512_128⟩,
    ⟨r0_17, tileFrom x0 x1 x2 x3 x4 x5 x6 256 inb_S2048x256_S256x128_256_0 inb_S2048x256_S256x128_256_128⟩,
    ⟨r0_14, tileFrom x0 x1 x2 x3 x4 x5 x6 0 inb_S2048x256_S256x128_0_0 inb_S2048x256_S256x128_0_128⟩] := rfl

end

end Cert.KernelIdeal.Body

end
-- ==== Proof.Attn.Softmax.lean ====
/- One row of the attention over the extended reals: two spellings of the softmax of two key sets, and of their
difference. Nothing here mentions a program. -/
module

public import Idealize.ShloMosaic.PureOps.Ideal
public import Idealize.ShloMosaic.Lib.Pointwise

@[expose] public section

noncomputable section

namespace Cert.AttnMath

open Idealize.ShloMosaic

/-- A positive real factor distributes over a sum. -/
theorem sum_mul_pos {n : ℕ} {c : ℝ} (hc : 0 < c) (f : Fin n → EReal) :
    (∑ j, f j) * (c : EReal) = ∑ j, f j * (c : EReal) := by
  have h (s : Finset (Fin n)) : (∑ j ∈ s, f j) * (c : EReal) = ∑ j ∈ s, f j * (c : EReal) := by
    induction s using Finset.cons_induction with
    | empty => simp
    | cons a s ha ih =>
      rw [Finset.sum_cons, Finset.sum_cons, ← ih,
        EReal.right_distrib_of_nonneg_of_ne_top (EReal.coe_nonneg.mpr hc.le) (EReal.coe_ne_top c)]
  exact h Finset.univ

/-- A positive real factor distributes over a difference. -/
theorem sub_mul_pos {c : ℝ} (hc : 0 < c) (a b : EReal) : (a - b) * (c : EReal) = a * c - b * c := by
  rw [sub_eq_add_neg, EReal.right_distrib_of_nonneg_of_ne_top (EReal.coe_nonneg.mpr hc.le) (EReal.coe_ne_top c),
    EReal.neg_mul, ← sub_eq_add_neg]

/-- A positive real factor passes through a maximum of two. -/
theorem max_mul_pos {c : ℝ} (hc : 0 < c) (a b : EReal) : max a b * (c : EReal) = max (a * c) (b * c) := by
  have hm : Monotone fun x : EReal => x * (c : EReal) := fun x y h =>
    mul_le_mul_of_nonneg_right h (EReal.coe_nonneg.mpr hc.le)
  exact hm.map_max

/-- A positive real factor passes through a maximum over an index set. -/
theorem sup_mul_pos {n : ℕ} {c : ℝ} (hc : 0 < c) (f : Fin n → EReal) :
    Finset.univ.sup f * (c : EReal) = Finset.univ.sup fun j => f j * (c : EReal) := by
  have h (s : Finset (Fin n)) : s.sup f * (c : EReal) = s.sup fun j => f j * (c : EReal) := by
    induction s using Finset.cons_induction with
    | empty => simp [EReal.bot_mul_coe_of_pos hc]
    | cons a s ha ih => rw [Finset.sup_cons, Finset.sup_cons, ← ih]; exact max_mul_pos hc _ _
  exact h Finset.univ

theorem log2_pos : (0 : ℝ) < (Real.log 2)⁻¹ := inv_pos.mpr (Real.log_pos (by norm_num))

/-- The power of two at `x / ln 2` is the exponential of `x`. -/
theorem exp2_scaled (x : EReal) : Ideal.exp2 (x * ((Real.log 2)⁻¹ : ℝ)) = Ideal.exp x := by
  induction x with
  | bot => rw [EReal.bot_mul_coe_of_pos log2_pos, Ideal.exp2_bot, Ideal.exp_bot]
  | top => rw [EReal.top_mul_coe_of_pos log2_pos, Ideal.exp2_top, Ideal.exp_top]
  | coe r =>
    rw [← EReal.coe_mul, Ideal.exp2_coe, Ideal.exp_coe]
    congr 1
    show (2 : ℝ) ^ (r * (Real.log 2)⁻¹) = Real.exp r
    rw [Real.rpow_def_of_pos (by norm_num), mul_comm, mul_assoc, inv_mul_cancel₀ (Real.log_pos (by norm_num)).ne', mul_one]

/-- Two families joined one after the other. -/
def join (f : Fin 2048 → EReal) (g : Fin 256 → EReal) (x : Fin 2304) : EReal :=
  if h : x.val < 2048 then f ⟨x.val, h⟩ else g ⟨x.val - 2048, by omega⟩

theorem sum_join (f : Fin 2048 → EReal) (g : Fin 256 → EReal) : ∑ x, join f g x = ∑ j, f j + ∑ j, g j := by
  have h := Fin.sum_univ_add (a := 2048) (b := 256) (join f g)
  refine h.trans (congrArg₂ (· + ·) (Finset.sum_congr rfl fun j _ => ?_) (Finset.sum_congr rfl fun j _ => ?_))
  · have hj : (Fin.castAdd 256 j).val < 2048 := j.isLt
    exact dif_pos hj
  · have hj : ¬ (Fin.natAdd 2048 j).val < 2048 := Nat.not_lt.mpr (Nat.le_add_right _ _)
    exact (dif_neg hj).trans (congrArg g (Fin.ext (Nat.add_sub_cancel_left 2048 j.val)))

theorem sup_join (f : Fin 2048 → EReal) (g : Fin 256 → EReal) :
    Finset.univ.sup (join f g) = max (Finset.univ.sup f) (Finset.univ.sup g) := by
  apply eq_of_forall_ge_iff
  intro c
  simp only [max_le_iff, Finset.sup_le_iff, Finset.mem_univ, true_imp_iff]
  constructor
  · intro h
    refine ⟨fun j => ?_, fun j => ?_⟩
    · have := h ⟨j.val, by omega⟩; simpa [join] using this
    · have := h ⟨2048 + j.val, by omega⟩; simpa [join] using this
  · rintro ⟨hf, hg⟩ x
    unfold join
    split
    · exact hf _
    · exact hg _

theorem join_map₂ (op : EReal → EReal → EReal) (f f' : Fin 2048 → EReal) (g g' : Fin 256 → EReal) (x : Fin 2304) :
    op (join f g x) (join f' g' x) = join (fun j => op (f j) (f' j)) (fun j => op (g j) (g' j)) x := by
  unfold join; split <;> rfl

theorem join_map (op : EReal → EReal) (f : Fin 2048 → EReal) (g : Fin 256 → EReal) (x : Fin 2304) :
    op (join f g x) = join (fun j => op (f j)) (fun j => op (g j)) x := by
  unfold join; split <;> rfl

/-- The greatest score of a row, over both key sets. -/
def top (s : Fin 2048 → EReal) (s' : Fin 256 → EReal) : EReal := max (Finset.univ.sup s) (Finset.univ.sup s')

/-- The sum of a row's exponentials (powers of two), over both key sets. -/
def total (s : Fin 2048 → EReal) (s' : Fin 256 → EReal) : EReal :=
  ∑ j, Ideal.exp2 (s j - top s s') + ∑ j, Ideal.exp2 (s' j - top s s')

/-- A key's weight in the kernel: the first head's share less `lam` times the second's, by the reciprocals of the totals. -/
def diffWeight (lam m0 t0 m1 t1 x0 x1 : EReal) : EReal :=
  Ideal.exp2 (x0 - m0) * Ideal.div 1 t0 - Ideal.exp2 (x1 - m1) * (lam * Ideal.div 1 t1)

/-- One entry of a row's mixture of values, from the two heads' scores over the two key sets. -/
def mixture (lam : EReal) (s0 : Fin 2048 → EReal) (s0' : Fin 256 → EReal) (s1 : Fin 2048 → EReal) (s1' : Fin 256 → EReal)
    (v : Fin 2048 → EReal) (v' : Fin 256 → EReal) : EReal :=
  ∑ j, diffWeight lam (top s0 s0') (total s0 s0') (top s1 s1') (total s1 s1') (s0 j) (s1 j) * v j
    + ∑ j, diffWeight lam (top s0 s0') (total s0 s0') (top s1 s1') (total s1 s1') (s0' j) (s1' j) * v' j

/-- The softmax of a row of scores, at one key. -/
def softmax (s : Fin 2304 → EReal) (x : Fin 2304) : EReal :=
  Ideal.div (Ideal.exp (s x - Finset.univ.sup s)) (∑ y, Ideal.exp (s y - Finset.univ.sup s))

/-- The same mixture as the reference writes it: the difference of two softmaxes against the joined values. -/
def refMixture (lam : EReal) (s0 s1 v : Fin 2304 → EReal) : EReal :=
  ∑ x, (softmax s0 x - lam * softmax s1 x) * v x

/-- The exponential is nonnegative. -/
theorem exp_nonneg (x : EReal) : 0 ≤ Ideal.exp x := by
  induction x with
  | bot => simp
  | top => simp
  | coe r => rw [Ideal.exp_coe]; exact EReal.coe_nonneg.mpr (Real.exp_pos r).le

/-- A row of real scores has a nonzero sum of exponentials: the greatest score's is 1. -/
theorem sum_exp_ne_zero (r : Fin 2304 → ℝ) :
    ∑ y, Ideal.exp ((r y : EReal) - Finset.univ.sup fun x => (r x : EReal)) ≠ 0 := by
  obtain ⟨a, -, ha⟩ := Finset.exists_max_image Finset.univ r ⟨0, Finset.mem_univ _⟩
  have hs : (Finset.univ.sup fun x => (r x : EReal)) = (r a : EReal) :=
    le_antisymm (Finset.sup_le fun x _ => EReal.coe_le_coe_iff.mpr (ha x (Finset.mem_univ x)))
      (Finset.le_sup (f := fun x => (r x : EReal)) (Finset.mem_univ a))
  rw [hs]
  have h1 : (1 : EReal) ≤ ∑ y, Ideal.exp ((r y : EReal) - (r a : EReal)) := by
    refine le_trans (le_of_eq ?_) (Finset.single_le_sum (f := fun y => Ideal.exp ((r y : EReal) - (r a : EReal)))
      (fun y _ => exp_nonneg _) (Finset.mem_univ a))
    rw [← EReal.coe_sub, sub_self, Ideal.exp_coe, Real.exp_zero, EReal.coe_one]
  exact fun h => absurd (h ▸ h1) (by norm_num)

/-- By a nonzero number, dividing is multiplying by the quotient of one. -/
theorem mul_div_one {y : EReal} (h : y ≠ 0) (x : EReal) : x * Ideal.div 1 y = Ideal.div x y := by
  simp only [Ideal.div, if_neg h, one_mul]

section
variable (s : Fin 2048 → EReal) (s' : Fin 256 → EReal)

local notation "κ" => (((Real.log 2)⁻¹ : ℝ) : EReal)

theorem top_scaled : top (fun j => s j * κ) (fun j => s' j * κ) = Finset.univ.sup (join s s') * κ := by
  rw [sup_join, max_mul_pos log2_pos, sup_mul_pos log2_pos, sup_mul_pos log2_pos]; rfl

theorem exp2_sub_scaled (a b : EReal) : Ideal.exp2 (a * κ - b * κ) = Ideal.exp (a - b) := by
  rw [← sub_mul_pos log2_pos, exp2_scaled]

theorem total_scaled : total (fun j => s j * κ) (fun j => s' j * κ)
    = ∑ x, Ideal.exp (join s s' x - Finset.univ.sup (join s s')) := by
  unfold total
  rw [top_scaled]
  simp only [exp2_sub_scaled]
  rw [← sum_join]
  exact Finset.sum_congr rfl fun x _ => (join_map (fun a => Ideal.exp (a - Finset.univ.sup (join s s'))) s s' x).symm

end

/-- The two spellings agree where the scores are real: the kernel's are the reference's divided by `ln 2`. -/
theorem mixture_eq (lam : EReal) (s0 : Fin 2048 → EReal) (s0' : Fin 256 → EReal) (s1 : Fin 2048 → EReal)
    (s1' : Fin 256 → EReal) (v : Fin 2048 → EReal) (v' : Fin 256 → EReal)
    (h0 : ∃ r : Fin 2304 → ℝ, join s0 s0' = fun x => (r x : EReal))
    (h1 : ∃ r : Fin 2304 → ℝ, join s1 s1' = fun x => (r x : EReal)) :
    mixture lam (fun j => s0 j * (((Real.log 2)⁻¹ : ℝ) : EReal)) (fun j => s0' j * (((Real.log 2)⁻¹ : ℝ) : EReal))
        (fun j => s1 j * (((Real.log 2)⁻¹ : ℝ) : EReal)) (fun j => s1' j * (((Real.log 2)⁻¹ : ℝ) : EReal)) v v'
      = refMixture lam (join s0 s0') (join s1 s1') (join v v') := by
  unfold mixture refMixture softmax
  simp only [top_scaled, total_scaled]
  have t0 : ∑ x, Ideal.exp (join s0 s0' x - Finset.univ.sup (join s0 s0')) ≠ 0 := by
    obtain ⟨r, hr⟩ := h0; rw [hr]; exact sum_exp_ne_zero r
  have t1 : ∑ x, Ideal.exp (join s1 s1' x - Finset.univ.sup (join s1 s1')) ≠ 0 := by
    obtain ⟨r, hr⟩ := h1; rw [hr]; exact sum_exp_ne_zero r
  generalize ∑ x, Ideal.exp (join s0 s0' x - Finset.univ.sup (join s0 s0')) = T0 at t0
  generalize ∑ x, Ideal.exp (join s1 s1' x - Finset.univ.sup (join s1 s1')) = T1 at t1
  generalize Finset.univ.sup (join s0 s0') = M0
  generalize Finset.univ.sup (join s1 s1') = M1
  have e (a b : EReal) : diffWeight lam (M0 * (((Real.log 2)⁻¹ : ℝ) : EReal)) T0 (M1 * (((Real.log 2)⁻¹ : ℝ) : EReal)) T1
      (a * (((Real.log 2)⁻¹ : ℝ) : EReal)) (b * (((Real.log 2)⁻¹ : ℝ) : EReal))
      = Ideal.div (Ideal.exp (a - M0)) T0 - lam * Ideal.div (Ideal.exp (b - M1)) T1 := by
    unfold diffWeight
    rw [exp2_sub_scaled, exp2_sub_scaled, mul_div_one t0, mul_left_comm, mul_div_one t1]
  simp only [e]
  rw [← sum_join]
  refine Finset.sum_congr rfl fun x _ => ?_
  unfold join; split <;> rfl

/-- The scores of the kernel's scaled queries are the reference's scores divided by `ln 2`. -/
theorem score_scaled (q k : Fin 128 → EReal) :
    ∑ d, (q d * (((Real.sqrt 128)⁻¹ * (Real.log 2)⁻¹ : ℝ) : EReal)) * k d
      = Ideal.div (∑ d, q d * k d) ((Real.sqrt 128 : ℝ) : EReal) * (((Real.log 2)⁻¹ : ℝ) : EReal) := by
  have hs : (0 : ℝ) < Real.sqrt 128 := Real.sqrt_pos.mpr (by norm_num)
  rw [Ideal.div_coe hs.ne', mul_assoc, ← EReal.coe_mul, one_div, sum_mul_pos (mul_pos (inv_pos.mpr hs) log2_pos)]
  exact Finset.sum_congr rfl fun d _ => mul_right_comm _ _ _

/-- A score of real queries and keys is real. -/
theorem score_real (q k : Fin 128 → EReal) (hq : ∀ d, ∃ r : ℝ, q d = r) (hk : ∀ d, ∃ r : ℝ, k d = r) :
    ∃ r : ℝ, Ideal.div (∑ d, q d * k d) ((Real.sqrt 128 : ℝ) : EReal) = r := by
  choose a ha using hq
  choose b hb using hk
  have hs : (0 : ℝ) < Real.sqrt 128 := Real.sqrt_pos.mpr (by norm_num)
  refine ⟨(∑ d, a d * b d) * (1 / Real.sqrt 128), ?_⟩
  rw [Ideal.div_coe hs.ne', EReal.coe_mul]
  congr 1
  rw [Finset.sum_congr rfl fun d _ => show q d * k d = ((a d * b d : ℝ) : EReal) by rw [ha, hb, EReal.coe_mul]]
  exact (map_sum (⟨⟨fun x : ℝ => (x : EReal), EReal.coe_zero⟩, EReal.coe_add⟩ : ℝ →+ EReal) _ _).symm

end Cert.AttnMath

end
-- ==== Proof.Attn.Entry.lean ====
module

public import proofs.«01_k».proof.Proof.Attn.Softmax
public import Idealize.ShloMosaic.Lib.ValueIdxCore

@[expose] public section

/-!
# One entry of the attention, as the kernel and as the reference write it

For one batch element and one head pair: `q`, `k`, `v` are the latent rows' queries, keys and values (the two
heads' 128 columns side by side), `k'`, `v'` the context rows' keys and values, `l` the four vectors of the
mixing factor and `g` the gain of the normalisation.
-/

noncomputable section

namespace Cert.AttnMath

open Idealize.ShloMosaic Idealize.SL.Sem

/-- The least extended real is the encoding the maxima start from. -/
theorem ofBits_bot : Ideal.ofBits .f32 0xFF800000#32 = ⊥ := by simp [Ideal.ofBits, Ideal.ieee]

/-- The factor on the queries: one over the root of the head size and over the logarithm of two. -/
abbrev qscale : EReal := (((Real.sqrt 128)⁻¹ * (Real.log 2)⁻¹ : ℝ) : EReal)

/-- A row of the mixture normalised by its root mean square, with the gain and the last factor. -/
def normed (o : Fin 256 → EReal) (g : Fin 256 → EReal) (e : Fin 256) : EReal :=
  o e * Ideal.rsqrt (Ideal.div (∑ x, o x * o x) (Ideal.ofBits .f32 0x43800000#32) + Ideal.ofBits .f32 0x358637BD#32)
    * g e * Ideal.ofBits .f32 0x3F24FD5C#32

/-- The mixing factor from its four vectors. -/
def mixing (l : Fin 4 → Fin 128 → EReal) : EReal :=
  Ideal.exp (∑ x, l 0 x * l 1 x) - Ideal.exp (∑ x, l 2 x * l 3 x) + Ideal.ofBits .f32 0x3EB60549#32

/-- A row's scores against some keys, as the kernel takes them: the queries scaled first. -/
def scoreRow {n : ℕ} (q : Fin 128 → EReal) (k : Fin n → Fin 128 → EReal) (j : Fin n) : EReal := ∑ d, (q d * qscale) * k j d

/-- A row's scores as the reference takes them: divided by the root of the head size. -/
def refScoreRow {n : ℕ} (q : Fin 128 → EReal) (k : Fin n → Fin 128 → EReal) (j : Fin n) : EReal :=
  Ideal.div (∑ d, q d * k j d) ((Real.sqrt 128 : ℝ) : EReal)

/-- The columns of head `c` of a pair. -/
def half (c : Fin 2) (x : Fin 256 → EReal) (d : Fin 128) : EReal := x ⟨c.val * 128 + d.val, by omega⟩

section
variable (q k v : Fin 2048 → Fin 256 → EReal) (k' v' : Fin 256 → Fin 256 → EReal) (l : Fin 4 → Fin 128 → EReal)
  (g : Fin 256 → EReal) (r : Fin 2048) (e : Fin 256)

/-- The kernel's entry at row `r` and column `e` of the pair. -/
def entry : EReal :=
  normed (fun e => mixture (mixing l)
    (scoreRow (half 0 (q r)) fun j => half 0 (k j)) (scoreRow (half 0 (q r)) fun j => half 0 (k' j))
    (scoreRow (half 1 (q r)) fun j => half 1 (k j)) (scoreRow (half 1 (q r)) fun j => half 1 (k' j))
    (fun j => v j e) (fun j => v' j e)) g e

/-- A head's scores in the reference, over the joined keys. -/
def refScores (c : Fin 2) : Fin 2304 → EReal :=
  join (refScoreRow (half c (q r)) fun j => half c (k j)) (refScoreRow (half c (q r)) fun j => half c (k' j))

/-- The reference's entry. -/
def refEntry : EReal :=
  normed (fun e => refMixture (mixing l) (refScores q k k' r 0) (refScores q k k' r 1) (join (fun j => v j e) (fun j => v' j e))) g e

/-- Real queries and keys have real scores. -/
theorem refScores_real (hq : ∀ r x, ∃ a : ℝ, q r x = a) (hk : ∀ r x, ∃ a : ℝ, k r x = a) (hk' : ∀ r x, ∃ a : ℝ, k' r x = a) (c : Fin 2) :
    ∃ a : Fin 2304 → ℝ, refScores q k k' r c = fun x => (a x : EReal) := by
  have h : ∀ x, ∃ a : ℝ, refScores q k k' r c x = a := by
    intro x
    unfold refScores join
    split
    · exact score_real _ _ (fun d => hq _ _) (fun d => hk _ _)
    · exact score_real _ _ (fun d => hq _ _) (fun d => hk' _ _)
  choose a ha using h
  exact ⟨a, funext ha⟩

/-- The two entries agree where the queries and the keys are real. -/
theorem entry_eq (hq : ∀ r x, ∃ a : ℝ, q r x = a) (hk : ∀ r x, ∃ a : ℝ, k r x = a) (hk' : ∀ r x, ∃ a : ℝ, k' r x = a) :
    entry q k v k' v' l g r e = refEntry q k v k' v' l g r e := by
  unfold entry refEntry
  refine congrArg (normed · g e) (funext fun e => ?_)
  have hs {n : ℕ} (q : Fin 128 → EReal) (k : Fin n → Fin 128 → EReal) :
      scoreRow q k = fun j => refScoreRow q k j * (((Real.log 2)⁻¹ : ℝ) : EReal) := funext fun j => score_scaled q (k j)
  rw [hs, hs, hs, hs]
  exact mixture_eq _ _ _ _ _ _ _ (refScores_real q k k' r hq hk hk' 0) (refScores_real q k k' r hq hk hk' 1)

end

/-- Column `x` of head pair `h` in part `w` (queries, keys or values) of the latent rows' projection, at position `j` of batch element `b`. -/
def latAt (P : (⟨2, ![32768, 6144]⟩ : Shape).Idx → EReal) (w : Fin 3) (b : Fin 16) (h : Fin 8) (j : Fin 2048) (x : Fin 256) : EReal :=
  P (ValueIdx.ix2 ⟨b.val * 2048 + j.val, by omega⟩ ⟨w.val * 2048 + h.val * 256 + x.val, by omega⟩)

/-- The same of the context rows' projection (keys and values). -/
def ctxAt (C : (⟨2, ![4096, 4096]⟩ : Shape).Idx → EReal) (w : Fin 2) (b : Fin 16) (h : Fin 8) (j : Fin 256) (x : Fin 256) : EReal :=
  C (ValueIdx.ix2 ⟨b.val * 256 + j.val, by omega⟩ ⟨w.val * 2048 + h.val * 256 + x.val, by omega⟩)

end Cert.AttnMath
-- ==== Proof.Attn.Block.lean ====
module

public import proofs.«01_k».proof.Proof.Attn.Tile
public import proofs.«01_k».proof.Proof.Attn.Entry

@[expose] public section

/-!
# The entries of one tile

Each stage of a tile at a row and a column, as a formula in the entries of its operands.
-/

noncomputable section

namespace Cert.KernelIdeal.Body

open Cert.KernelIdeal Cert.KernelIdeal.Gen Cert.AttnMath Idealize.ShloMosaic Idealize.ShloMosaic.TcCoe Idealize.SL.Sem

theorem qscale_eq : (Named.named κ "qscale" 0x3E0293EE#32 : Ideal .f32) = qscale :=
  IdealRules.named_const.ideal_named_scalar _ _ _ _ rfl

theorem scores_apply (q : Vec Ideal S256x128 .bf16) (k : Vec Ideal S2048x128 .bf16) (r : Fin 256) (j : Fin 2048) :
    scores q k (ix2 r j) = ∑ d : Fin 128, (q (ix2 r d) * qscale) * k (ix2 j d) := by
  rw [← qscale_eq]
  pointwise [scores, scaled]

theorem scores'_apply (q : Vec Ideal S256x128 .bf16) (k : Vec Ideal S256x128 .bf16) (r : Fin 256) (j : Fin 256) :
    scores' q k (ix2 r j) = ∑ d : Fin 128, (q (ix2 r d) * qscale) * k (ix2 j d) := by
  rw [← qscale_eq]
  pointwise [scores', scaled]

/-- A property of all of `a * 128` columns is a property of all columns of `a` slabs. -/
theorem forall_slabs (a : ℕ) (P : Fin (a * 128) → Prop) :
    (∀ j, P j) ↔ ∀ x : Fin 128, ∀ i : Fin a, P ⟨128 * i.val + x.val, by omega⟩ := by
  refine ⟨fun h x i => h _, fun h j => ?_⟩
  have := h ⟨j.val % 128, Nat.mod_lt _ (by decide)⟩ ⟨j.val / 128, by omega⟩
  convert this using 1
  apply Fin.ext
  show j.val = 128 * (j.val / 128) + j.val % 128
  omega

/-- A sum over `a * 128` columns, column by column of the slabs. -/
theorem sum_slabs (a : ℕ) (f : Fin (a * 128) → EReal) :
    ∑ j, f j = ∑ x : Fin 128, ∑ i : Fin a, f ⟨128 * i.val + x.val, by omega⟩ := by
  rw [Finset.sum_comm, ← Finset.sum_product', Finset.univ_product_univ]
  refine (Fintype.sum_equiv finProdFinEquiv _ _ fun p => ?_).symm
  exact congrArg f (Fin.ext (Nat.add_comm _ _))

theorem rowTop_apply (s : FVec Ideal S256x2048 .f32) (s' : FVec Ideal S256x256 .f32) (r : Fin 256) (c : Fin 1) :
    rowTop s s' (ix2 r c) = top (fun j => s (ix2 r j)) (fun j => s' (ix2 r j)) := by
  pointwise [rowTop, slabMax]
  rw [ofBits_bot]
  apply eq_of_forall_ge_iff
  intro c
  unfold top
  rw [max_le_iff]
  refine Iff.trans Finset.sup_le_iff ?_
  rw [Finset.sup_le_iff, Finset.sup_le_iff]
  simp only [Finset.mem_univ, true_imp_iff]
  rw [forall_slabs 16, forall_slabs 2, ← forall_and]
  refine forall_congr' fun x => ?_
  simp only [max_le_iff, Fin.forall_fin_succ, IsEmpty.forall_iff, and_true, and_assoc, Fin.val_succ, Fin.val_zero, Nat.mul_zero, Nat.zero_add]

theorem recip_apply (s : FVec Ideal S256x2048 .bf16) (s' : FVec Ideal S256x256 .bf16) (r : Fin 256) (c : Fin 1) :
    recip s s' (ix2 r c) = Ideal.div 1 (∑ j, s (ix2 r j) + ∑ j, s' (ix2 r j)) := by
  pointwise [recip, slabSum]
  congr 1
  rw [sum_slabs 16, sum_slabs 2, ← Finset.sum_add_distrib]
  refine Finset.sum_congr rfl fun x _ => ?_
  simp only [Fin.sum_univ_succ, Fin.sum_univ_zero, add_zero, add_assoc, Fin.val_succ, Fin.val_zero, Nat.mul_zero, Nat.zero_add]
  rfl

theorem weights_apply (s : FVec Ideal S256x2048 .f32) (m : FVec Ideal S256x1 .f32) (r : Fin 256) (j : Fin 2048) :
    weights s m (ix2 r j) = Ideal.exp2 (s (ix2 r j) - m (ix2 r 0)) := by
  pointwise [weights]
  rfl

theorem weights'_apply (s : FVec Ideal S256x256 .f32) (m : FVec Ideal S256x1 .f32) (r : Fin 256) (j : Fin 256) :
    weights' s m (ix2 r j) = Ideal.exp2 (s (ix2 r j) - m (ix2 r 0)) := by
  pointwise [weights']
  rfl

theorem mixed_apply (p0 p1 : FVec Ideal S256x2048 .bf16) (p0' p1' : FVec Ideal S256x256 .bf16) (w0 w1 : FVec Ideal S256x1 .bf16)
    (v : Vec Ideal S2048x256 .bf16) (v' : Vec Ideal S256x256 .bf16) (r e : Fin 256) :
    mixed p0 p1 p0' p1' w0 w1 v v' (ix2 r e)
      = ∑ j, (p0 (ix2 r j) * w0 (ix2 r 0) - p1 (ix2 r j) * w1 (ix2 r 0)) * v (ix2 j e)
        + ∑ j, (p0' (ix2 r j) * w0 (ix2 r 0) - p1' (ix2 r j) * w1 (ix2 r 0)) * v' (ix2 j e) := by
  pointwise [mixed]

theorem stored_apply (o : FVec Ideal S256x256 .f32) (g : Vec Ideal S1x256 .f32) (r e : Fin 256) :
    stored o g (ix2 r e) = normed (fun e => o (ix2 r e)) (fun e => g (ix2 0 e)) e := by
  unfold normed
  pointwise [stored]

theorem lamTimes_apply (lam : FVec Ideal S1x1 .f32) (w : FVec Ideal S256x1 .f32) (r : Fin 256) (c : Fin 1) :
    lamTimes lam w (ix2 r c) = lam (ix2 0 0) * w (ix2 r c) := by
  pointwise [lamTimes]

theorem factor_apply (l : Vec Ideal S4x128 .f32) : factor l (ix2 0 0) = mixing fun a x => l (ix2 a x) := by
  unfold mixing
  pointwise [factor, k0_pay2]

/-- One entry of a tile: the normalised mixture of its row's scores. -/
theorem tile_apply (q0 q1 : Vec Ideal S256x128 .bf16) (k0 k1 : Vec Ideal S2048x128 .bf16) (k0' k1' : Vec Ideal S256x128 .bf16)
    (v : Vec Ideal S2048x256 .bf16) (v' : Vec Ideal S256x256 .bf16) (l : Vec Ideal S4x128 .f32) (g : Vec Ideal S1x256 .f32)
    (r e : Fin 256) :
    tile q0 q1 k0 k1 k0' k1' v v' l g (ix2 r e)
      = normed (fun e => mixture (mixing fun a x => l (ix2 a x))
          (scoreRow (fun d => q0 (ix2 r d)) fun j d => k0 (ix2 j d)) (scoreRow (fun d => q0 (ix2 r d)) fun j d => k0' (ix2 j d))
          (scoreRow (fun d => q1 (ix2 r d)) fun j d => k1 (ix2 j d)) (scoreRow (fun d => q1 (ix2 r d)) fun j d => k1' (ix2 j d))
          (fun j => v (ix2 j e)) (fun j => v' (ix2 j e))) (fun e => g (ix2 0 e)) e := by
  unfold tile
  rw [stored_apply]
  congr 1
  funext e
  rw [mixed_apply]
  have t0 : (truncf .bf16 (recip (weights (scores q0 k0) (rowTop (scores q0 k0) (scores' q0 k0')))
      (weights' (scores' q0 k0') (rowTop (scores q0 k0) (scores' q0 k0')))) bitsLt_bf16_f32 : FVec Ideal S256x1 .bf16) (ix2 r 0)
      = recip (weights (scores q0 k0) (rowTop (scores q0 k0) (scores' q0 k0')))
      (weights' (scores' q0 k0') (rowTop (scores q0 k0) (scores' q0 k0'))) (ix2 r 0) := rfl
  rw [t0, lamTimes_apply, factor_apply]
  simp only [weights_apply, weights'_apply, recip_apply, rowTop_apply, scores_apply, scores'_apply]
  rfl

end Cert.KernelIdeal.Body
-- ==== Proof.Attn.Array.lean ====
module

public import proofs.«01_k».proof.Proof.Attn.Block
public import Idealize.ShloMosaic.Lib.Tactic

@[expose] public section

/-!
# What the attention's result array holds

Grid point `t = 8 * b + h` works on batch element `b` and head pair `h`: its block of the result is the 2048 rows
of the batch element and the 256 columns of the pair, put together from eight tiles of 256 rows.
-/

noncomputable section

namespace Cert.KernelIdeal.Body

open Cert.KernelIdeal Cert.KernelIdeal.Gen Cert.KernelIdeal.Value Cert.AttnMath Idealize.ShloMosaic Idealize.ShloMosaic.TcCoe Idealize.SL.Sem

/-- A rectangle of a block of 2048 rows read at a row and a column. -/
theorem ld_rows (x : Vec Ideal S2048x256 .bf16) (o c n w : ℕ) (h : ∀ a, (![o, c] : Fin 2 → ℕ) a + (![n, w] : Fin 2 → ℕ) a ≤ S2048x256.size a)
    (r : Fin n) (d : Fin w) :
    View.ld (Val := Elt Ideal) (S := S2048x256) (e' := .bf16) x (Rect.unit (s := S2048x256) ![o, c] ![n, w] h) (ix2 r d)
      = x (ix2 ⟨o + r.val, by have h0 : o + n ≤ 2048 := h 0; omega⟩ ⟨c + d.val, by have h1 : c + w ≤ 256 := h 1; omega⟩) := by
  show x _ = x _
  congr 1
  funext a
  apply Fin.ext
  match a with
  | ⟨0, _⟩ => show o + 1 * r.val = o + r.val; omega
  | ⟨1, _⟩ => show c + 1 * d.val = c + d.val; omega

/-- The same of a block of 256 rows. -/
theorem ld_rows' (x : Vec Ideal S256x256 .bf16) (o c n w : ℕ) (h : ∀ a, (![o, c] : Fin 2 → ℕ) a + (![n, w] : Fin 2 → ℕ) a ≤ S256x256.size a)
    (r : Fin n) (d : Fin w) :
    View.ld (Val := Elt Ideal) (S := S256x256) (e' := .bf16) x (Rect.unit (s := S256x256) ![o, c] ![n, w] h) (ix2 r d)
      = x (ix2 ⟨o + r.val, by have h0 : o + n ≤ 256 := h 0; omega⟩ ⟨c + d.val, by have h1 : c + w ≤ 256 := h 1; omega⟩) := by
  show x _ = x _
  congr 1
  funext a
  apply Fin.ext
  match a with
  | ⟨0, _⟩ => show o + 1 * r.val = o + r.val; omega
  | ⟨1, _⟩ => show c + 1 * d.val = c + d.val; omega

theorem hz2 : (![0, 0] : Fin 2 → Nat) = fun _ => 0 := funext fun a => by fin_cases a <;> rfl

section
variable (x0 x1 x2 : Vec Ideal S2048x256 .bf16) (x3 x4 : Vec Ideal S256x256 .bf16) (x5 : Vec Ideal S4x128 .f32) (x6 : Vec Ideal S1x256 .f32)

/-- The entry of a block at row `r` and column `e`, from the point's operands. -/
def blockEntry (r : Fin 2048) (e : Fin 256) : EReal :=
  entry (fun r x => x0 (ix2 r x)) (fun j x => x1 (ix2 j x)) (fun j x => x2 (ix2 j x)) (fun j x => x3 (ix2 j x)) (fun j x => x4 (ix2 j x))
    (fun a x => x5 (ix2 a x)) (fun x => x6 (ix2 0 x)) r e

/-- A tile holds its rows of the block. -/
theorem tileFrom_apply (o : ℕ) (h h') (r e : Fin 256) (ho : o + 256 ≤ 2048) :
    tileFrom x0 x1 x2 x3 x4 x5 x6 o h h' (ix2 r e) = blockEntry x0 x1 x2 x3 x4 x5 x6 ⟨o + r.val, by omega⟩ e := by
  unfold tileFrom blockEntry entry
  rw [tile_apply]
  have q (c : Fin 2) (hc : ∀ a, (![o, c.val * 128] : Fin 2 → ℕ) a + S256x128.size a ≤ S2048x256.size a) :
      (fun d => rows x0 o (c.val * 128) hc (ix2 r d)) = half c fun x => x0 (ix2 ⟨o + r.val, by omega⟩ x) :=
    funext fun d => ld_rows x0 o (c.val * 128) 256 128 hc r d
  have k (c : Fin 2) (hc : ∀ a, (![0, c.val * 128] : Fin 2 → ℕ) a + S2048x128.size a ≤ S2048x256.size a) (j : Fin 2048) :
      (fun d => View.ld (Val := Elt Ideal) (S := S2048x256) (e' := .bf16) x1 (Rect.unit (s := S2048x256) ![0, c.val * 128] S2048x128.size hc) (ix2 j d))
        = half c fun x => x1 (ix2 j x) :=
    funext fun d => (ld_rows x1 0 (c.val * 128) 2048 128 hc j d).trans (congrArg (fun i => x1 (ix2 i _)) (Fin.ext (Nat.zero_add j.val)))
  have k' (c : Fin 2) (hc : ∀ a, (![0, c.val * 128] : Fin 2 → ℕ) a + S256x128.size a ≤ S256x256.size a) (j : Fin 256) :
      (fun d => View.ld (Val := Elt Ideal) (S := S256x256) (e' := .bf16) x3 (Rect.unit (s := S256x256) ![0, c.val * 128] S256x128.size hc) (ix2 j d))
        = half c fun x => x3 (ix2 j x) :=
    funext fun d => (ld_rows' x3 0 (c.val * 128) 256 128 hc j d).trans (congrArg (fun i => x3 (ix2 i _)) (Fin.ext (Nat.zero_add j.val)))
  have v : View.ld x2 r0_11 = x2 := View.ld_unit_zero (S := S2048x256) hz2 _ _
  have v' : View.ld x4 r0_12 = x4 := View.ld_unit_zero (S := S256x256) hz2 _ _
  have hl : View.ld x5 r0_0 = x5 := View.ld_unit_zero (S := S4x128) hz2 _ _
  have hg : View.ld x6 r0_13 = x6 := View.ld_unit_zero (S := S1x256) hz2 _ _
  rw [v, v', hl, hg]
  have q0 := q 0 h
  have q1 := q 1 h'
  have k0 := fun j => k 0 inb_S2048x256_S2048x128_0_0 j
  have k1 := fun j => k 1 inb_S2048x256_S2048x128_0_128 j
  have k0' := fun j => k' 0 inb_S256x256_S256x128_0_0 j
  have k1' := fun j => k' 1 inb_S256x256_S256x128_0_128 j
  rw [← q0, ← q1]
  simp only [← k0, ← k1, ← k0', ← k1']
  rfl

/-- The block with these entries. -/
def asBlock (G : Fin 2048 → Fin 256 → EReal) : S2048x256.Idx → EReal := fun i => G (i 0) (i 1)

/-- A tile of the block agrees with it where it is stored. -/
theorem piece_apply (o : ℕ) (h h') (hs : ∀ a, (![o, 0] : Fin 2 → ℕ) a + S256x256.size a ≤ S2048x256.size a) (x : S256x256.Idx) :
    tileFrom x0 x1 x2 x3 x4 x5 x6 o h h' x
      = asBlock (blockEntry x0 x1 x2 x3 x4 x5 x6) ((Rect.unit (s := S2048x256) ![o, 0] S256x256.size hs).emb x) := by
  obtain ⟨r, e, rfl⟩ : ∃ (r : Fin 256) (e : Fin 256), x = ix2 r e := ⟨x 0, x 1, eq_ix2 x⟩
  refine (tileFrom_apply x0 x1 x2 x3 x4 x5 x6 o h h' r e (hs 0)).trans ?_
  unfold asBlock
  congr 1
  · apply Fin.ext; show o + r.val = o + 1 * r.val; omega
  · apply Fin.ext; show e.val = 0 + 1 * e.val; omega

/-- What the body leaves in the result's block. -/
theorem out_apply (r : Fin 2048) (e : Fin 256) :
    out0_7 x0 x1 x2 x3 x4 x5 x6 (ix2 r e) = blockEntry x0 x1 x2 x3 x4 x5 x6 r e := by
  rw [out_eq]
  refine View.canon_apply_of_pieces (Val := Elt Ideal) (asBlock (blockEntry x0 x1 x2 x3 x4 x5 x6)) _ ?_ (ix2 r e) (cover0_7 _ _ _ _ _ _ _ _ _)
  simp only [List.forall_mem_cons, List.not_mem_nil, false_imp_iff, implies_true, and_true]
  exact ⟨piece_apply x0 x1 x2 x3 x4 x5 x6 _ _ _ _, piece_apply x0 x1 x2 x3 x4 x5 x6 _ _ _ _, piece_apply x0 x1 x2 x3 x4 x5 x6 _ _ _ _,
    piece_apply x0 x1 x2 x3 x4 x5 x6 _ _ _ _, piece_apply x0 x1 x2 x3 x4 x5 x6 _ _ _ _, piece_apply x0 x1 x2 x3 x4 x5 x6 _ _ _ _,
    piece_apply x0 x1 x2 x3 x4 x5 x6 _ _ _ _, piece_apply x0 x1 x2 x3 x4 x5 x6 _ _ _ _⟩

end

variable (m : (ℓ : Loc nD τ sig) → Buf (Elt Ideal) ℓ) (c : Dev nD)

/-- The four arguments. -/
abbrev argP : Vec Ideal S32768x6144 .bf16 := m ((c : Thread nD τ).loc main_arg0)
abbrev argC : Vec Ideal S4096x4096 .bf16 := m ((c : Thread nD τ).loc main_arg1)
abbrev argL : Vec Ideal S4x128 .f32 := m ((c : Thread nD τ).loc main_arg2)
abbrev argG : Vec Ideal S256 .f32 := m ((c : Thread nD τ).loc main_arg3)

theorem V_v0 : V m c main_v0 = shapeCast S1x256 (argG m c) shapeCasts_S256_S1x256 := by
  unfold V hostOps0
  after_results_simp <;> rfl

theorem index0 : ∀ t : Fin cfg0.N, win0_0.index t 0 = t.val / 8 ∧ win0_0.index t 1 = t.val % 8 :=
  (by decide +kernel : ∀ t : Fin grid0.N, _)
theorem index1 : ∀ t : Fin cfg0.N, win0_1.index t 0 = t.val / 8 ∧ win0_1.index t 1 = 8 + t.val % 8 :=
  (by decide +kernel : ∀ t : Fin grid0.N, _)
theorem index2 : ∀ t : Fin cfg0.N, win0_2.index t 0 = t.val / 8 ∧ win0_2.index t 1 = 16 + t.val % 8 :=
  (by decide +kernel : ∀ t : Fin grid0.N, _)
theorem index3 : ∀ t : Fin cfg0.N, win0_3.index t 0 = t.val / 8 ∧ win0_3.index t 1 = t.val % 8 :=
  (by decide +kernel : ∀ t : Fin grid0.N, _)
theorem index4 : ∀ t : Fin cfg0.N, win0_4.index t 0 = t.val / 8 ∧ win0_4.index t 1 = 8 + t.val % 8 :=
  (by decide +kernel : ∀ t : Fin grid0.N, _)
theorem index5 : ∀ t : Fin cfg0.N, win0_5.index t 0 = 0 ∧ win0_5.index t 1 = 0 :=
  (by decide +kernel : ∀ t : Fin grid0.N, _)
theorem index6 : ∀ t : Fin cfg0.N, win0_6.index t 0 = 0 ∧ win0_6.index t 1 = 0 :=
  (by decide +kernel : ∀ t : Fin grid0.N, _)
theorem index7 : ∀ t : Fin cfg0.N, win0_7.index t 0 = t.val / 8 ∧ win0_7.index t 1 = t.val % 8 ∧ win0_7.flush t = true :=
  (by decide +kernel : ∀ t : Fin grid0.N, _)

/-- The batch element and the head pair point `t` works on. -/
def batchOf (t : Fin cfg0.N) : Fin 16 := ⟨t.val / 8, by have : t.val < 128 := lt_of_lt_of_eq t.isLt N_0; omega⟩
def pairOf (t : Fin cfg0.N) : Fin 8 := ⟨t.val % 8, by omega⟩

theorem blk_q (t : Fin cfg0.N) (r : Fin 2048) (x : Fin 256) :
    (iblk m c 0 t : Vec Ideal S2048x256 .bf16) (ix2 r x) = latAt (argP m c) 0 (batchOf t) (pairOf t) r x := by
  obtain ⟨e0, e1⟩ := index0 t
  unfold iblk latAt
  show V m c main_arg0 _ = argP m c _
  rw [V_main_arg0]
  congr 1
  funext a
  apply Fin.ext
  match a with
  | ⟨0, _⟩ => show win0_0.index t 0 * 2048 + 1 * r.val = t.val / 8 * 2048 + r.val; rw [e0]; omega
  | ⟨1, _⟩ => show win0_0.index t 1 * 256 + 1 * x.val = 0 * 2048 + t.val % 8 * 256 + x.val; rw [e1]; omega

theorem blk_k (t : Fin cfg0.N) (r : Fin 2048) (x : Fin 256) :
    (iblk m c 1 t : Vec Ideal S2048x256 .bf16) (ix2 r x) = latAt (argP m c) 1 (batchOf t) (pairOf t) r x := by
  obtain ⟨e0, e1⟩ := index1 t
  unfold iblk latAt
  show V m c main_arg0 _ = argP m c _
  rw [V_main_arg0]
  congr 1
  funext a
  apply Fin.ext
  match a with
  | ⟨0, _⟩ => show win0_1.index t 0 * 2048 + 1 * r.val = t.val / 8 * 2048 + r.val; rw [e0]; omega
  | ⟨1, _⟩ => show win0_1.index t 1 * 256 + 1 * x.val = 1 * 2048 + t.val % 8 * 256 + x.val; rw [e1]; omega

theorem blk_v (t : Fin cfg0.N) (r : Fin 2048) (x : Fin 256) :
    (iblk m c 2 t : Vec Ideal S2048x256 .bf16) (ix2 r x) = latAt (argP m c) 2 (batchOf t) (pairOf t) r x := by
  obtain ⟨e0, e1⟩ := index2 t
  unfold iblk latAt
  show V m c main_arg0 _ = argP m c _
  rw [V_main_arg0]
  congr 1
  funext a
  apply Fin.ext
  match a with
  | ⟨0, _⟩ => show win0_2.index t 0 * 2048 + 1 * r.val = t.val / 8 * 2048 + r.val; rw [e0]; omega
  | ⟨1, _⟩ => show win0_2.index t 1 * 256 + 1 * x.val = 2 * 2048 + t.val % 8 * 256 + x.val; rw [e1]; omega

theorem blk_k' (t : Fin cfg0.N) (r x : Fin 256) :
    (iblk m c 3 t : Vec Ideal S256x256 .bf16) (ix2 r x) = ctxAt (argC m c) 0 (batchOf t) (pairOf t) r x := by
  obtain ⟨e0, e1⟩ := index3 t
  unfold iblk ctxAt
  show V m c main_arg1 _ = argC m c _
  rw [V_main_arg1]
  congr 1
  funext a
  apply Fin.ext
  match a with
  | ⟨0, _⟩ => show win0_3.index t 0 * 256 + 1 * r.val = t.val / 8 * 256 + r.val; rw [e0]; omega
  | ⟨1, _⟩ => show win0_3.index t 1 * 256 + 1 * x.val = 0 * 2048 + t.val % 8 * 256 + x.val; rw [e1]; omega

theorem blk_v' (t : Fin cfg0.N) (r x : Fin 256) :
    (iblk m c 4 t : Vec Ideal S256x256 .bf16) (ix2 r x) = ctxAt (argC m c) 1 (batchOf t) (pairOf t) r x := by
  obtain ⟨e0, e1⟩ := index4 t
  unfold iblk ctxAt
  show V m c main_arg1 _ = argC m c _
  rw [V_main_arg1]
  congr 1
  funext a
  apply Fin.ext
  match a with
  | ⟨0, _⟩ => show win0_4.index t 0 * 256 + 1 * r.val = t.val / 8 * 256 + r.val; rw [e0]; omega
  | ⟨1, _⟩ => show win0_4.index t 1 * 256 + 1 * x.val = 1 * 2048 + t.val % 8 * 256 + x.val; rw [e1]; omega

theorem blk_l (t : Fin cfg0.N) (a : Fin 4) (x : Fin 128) :
    (iblk m c 5 t : Vec Ideal S4x128 .f32) (ix2 a x) = argL m c (ix2 a x) := by
  obtain ⟨e0, e1⟩ := index5 t
  unfold iblk
  show V m c main_arg2 _ = argL m c _
  rw [V_main_arg2]
  congr 1
  funext i
  apply Fin.ext
  match i with
  | ⟨0, _⟩ => show win0_5.index t 0 * 4 + 1 * a.val = a.val; rw [e0]; omega
  | ⟨1, _⟩ => show win0_5.index t 1 * 128 + 1 * x.val = x.val; rw [e1]; omega

theorem blk_g (t : Fin cfg0.N) (x : Fin 256) :
    (iblk m c 6 t : Vec Ideal S1x256 .f32) (ix2 0 x) = argG m c (ix1 x) := by
  obtain ⟨e0, e1⟩ := index6 t
  have h : (iblk m c 6 t : Vec Ideal S1x256 .f32) (ix2 0 x) = V m c main_v0 (ix2 0 x) := by
    unfold iblk
    show V m c main_v0 _ = V m c main_v0 _
    congr 1
    funext i
    apply Fin.ext
    match i with
    | ⟨0, _⟩ => show win0_6.index t 0 * 1 + 1 * 0 = 0; rw [e0]
    | ⟨1, _⟩ => show win0_6.index t 1 * 256 + 1 * x.val = x.val; rw [e1]; omega
  rw [h, V_v0]
  pointwise []

/-- The kernel's entry at batch element `b`, head pair `h`, position `s` and column `e`. -/
def attended (b : Fin 16) (h : Fin 8) (s : Fin 2048) (e : Fin 256) : EReal :=
  entry (latAt (argP m c) 0 b h) (latAt (argP m c) 1 b h) (latAt (argP m c) 2 b h) (ctxAt (argC m c) 0 b h) (ctxAt (argC m c) 1 b h)
    (fun a x => argL m c (ix2 a x)) (fun x => argG m c (ix1 x)) s e

/-- Point `t` leaves the entries of its batch element and head pair. -/
theorem out_blk (t : Fin cfg0.N) (r : Fin 2048) (e : Fin 256) :
    out0_7 (iblk m c 0 t) (iblk m c 1 t) (iblk m c 2 t) (iblk m c 3 t) (iblk m c 4 t) (iblk m c 5 t) (iblk m c 6 t) (ix2 r e)
      = attended m c (batchOf t) (pairOf t) r e := by
  rw [out_apply]
  unfold blockEntry attended
  simp only [blk_q, blk_k, blk_v, blk_k', blk_v', blk_l, blk_g]

/-- The result array. -/
theorem array_eq (b : Fin 16) (h : Fin 8) (s : Fin 2048) (e : Fin 256) :
    ((dats m 0 c).arrAt 7 cfg0.N : S32768x2048.Idx → EReal) (ix2 ⟨b.val * 2048 + s.val, by omega⟩ ⟨h.val * 256 + e.val, by omega⟩)
      = attended m c b h s e := by
  obtain ⟨t, ht⟩ : ∃ t : Fin cfg0.N, t.val = 8 * b.val + h.val := ⟨⟨8 * b.val + h.val, lt_of_lt_of_eq (by omega : 8 * b.val + h.val < 128) N_0.symm⟩, rfl⟩
  obtain ⟨e0, e1, hf⟩ := index7 t
  have hb : batchOf t = b := Fin.ext (by show t.val / 8 = b.val; omega)
  have hh : pairOf t = h := Fin.ext (by show t.val % 8 = h.val; omega)
  have key := congrFun ((blocks7 m c t hf).trans (flushed7 m c t)) (ix2 s e)
  rw [← hb, ← hh, ← out_blk]
  refine Eq.trans ?_ (key.trans ?_)
  · show (dats m 0 c).arrAt 7 cfg0.N _ = (dats m 0 c).arrAt 7 cfg0.N _
    congr 1
    funext a
    apply Fin.ext
    match a with
    | ⟨0, _⟩ => show t.val / 8 * 2048 + s.val = win0_7.index t 0 * 2048 + 1 * s.val; rw [e0]; omega
    | ⟨1, _⟩ => show t.val % 8 * 256 + e.val = win0_7.index t 1 * 256 + 1 * e.val; rw [e1]; omega
  · show out0_7 _ _ _ _ _ _ _ _ = out0_7 _ _ _ _ _ _ _ _
    congr 1

end Cert.KernelIdeal.Body
-- ==== Proof.Attn.Ref.lean ====
module

public import proofs.«01_k».proof.Proof.Attn.Entry
public import proofs.«01_k».proof.Proof.Gen.ReferenceIdeal.Read
public import Idealize.ShloMosaic.Lib.Pointwise

@[expose] public section

/-!
# What the reference's attention computes

The stages of the plain program, read entry by entry: queries, joined keys and values, scores, softmax, the
mixture, and its normalisation.
-/

noncomputable section

namespace Cert.ReferenceIdeal.Body

open Cert.ReferenceIdeal Cert.ReferenceIdeal.Gen Cert.ReferenceIdeal.Read Cert.AttnMath Idealize.ShloMosaic Idealize.ShloMosaic.TcCoe Idealize.SL.Sem

variable (P : FVec Ideal S32768x6144 .bf16) (C : FVec Ideal S4096x4096 .bf16) (L : FVec Ideal S4x128 .f32) (G : FVec Ideal S256 .f32)
  (b : Fin 16) (s : Fin 2048) (h : Fin 8) (c : Fin 2)

theorem lam_eq (i : S_.Idx) : val_main_v15 (F := Ideal) L i = mixing fun a x => L (ix2 a x) := by
  unfold mixing
  pointwise [val_main_v15, val_main_cst_1, val_main_v14, val_main_v13, val_main_v12, val_main_v11, val_main_v10, val_main_v9, val_main_v8, val_main_v7,
    val_main_v6, val_main_v5, val_main_v4, val_main_v3, val_main_v2, val_main_v1, val_main_v0, val_main_cst, val_main_cst_0]

theorem query_eq (d : Fin 128) : val_main_v26 (F := Ideal) P (ix5 b s h c d) = half c (latAt P 0 b h s) d := by
  pointwise [val_main_v26, val_main_v19, val_main_v18, val_main_v17, half, latAt]
  simp only [Nat.add_assoc]
  rfl

theorem key_eq (j : Fin 2304) (d : Fin 128) : val_main_v29 (F := Ideal) P C (ix5 b j h c d)
    = join (fun j => half c (latAt P 1 b h j) d) (fun j => half c (ctxAt C 0 b h j) d) j := by
  pointwise [val_main_v29, val_main_v28, val_main_v27, val_main_v24, val_main_v23, val_main_v22, val_main_v20, val_main_v18, val_main_v17, half, latAt, ctxAt, join]
  simp only [Nat.add_assoc]
  rfl

theorem value_eq (j : Fin 2304) (e : Fin 256) : val_main_v32 (F := Ideal) P C (ix4 b j h e)
    = join (fun j => latAt P 2 b h j e) (fun j => ctxAt C 1 b h j e) j := by
  pointwise [val_main_v32, val_main_v31, val_main_v30, val_main_v25, val_main_v23, val_main_v22, val_main_v21, val_main_v18, val_main_v17, half, latAt, ctxAt, join]
  simp only [Nat.add_assoc]
  rfl

theorem root_eq (i : S_.Idx) : val_main_v16 (F := Ideal) i = ((Real.sqrt 128 : ℝ) : EReal) := by
  pointwise [val_main_v16, val_main_cst_2]
  have e : Ideal.ofBits .f32 0x43000000#32 = ((128 : ℝ) : EReal) := by
    have e' : Ideal.ofBits .f32 0x43000000#32 = ((8388608 : ℝ) : EReal) * ((1 / 65536 : ℝ) : EReal) := by
      simp [Ideal.ofBits, Ideal.ieee]
      norm_num
    rw [e', ← EReal.coe_mul]
    norm_num
  rw [e, Ideal.sqrt_coe, if_neg (by norm_num)]

theorem score_eq (j : Fin 2304) : val_main_v35 (F := Ideal) P C (ix5 b h c s j)
    = refScores (latAt P 0 b h) (latAt P 1 b h) (ctxAt C 0 b h) s c j := by
  have e : refScores (latAt P 0 b h) (latAt P 1 b h) (ctxAt C 0 b h) s c j
      = Ideal.div (∑ d, val_main_v26 (F := Ideal) P (ix5 b s h c d) * val_main_v29 (F := Ideal) P C (ix5 b j h c d)) (val_main_v16 (F := Ideal) ix0) := by
    simp only [query_eq, key_eq, root_eq]
    unfold refScores join
    split <;> rfl
  rw [e]
  generalize hq : val_main_v26 (F := Ideal) P = q
  generalize hk : val_main_v29 (F := Ideal) P C = k
  generalize hr : val_main_v16 (F := Ideal) = r
  pointwise [val_main_v35, val_main_v34, val_main_v33, hq, hk, hr]

/-- The maximum over the last axis. -/
theorem max_apply (q : FVec Ideal S16x8x2x2048x2304 .f32) (init : FVec Ideal S_ .f32) :
    Host.reduce FloatOps.maximumf q init reducesTo_S16x8x2x2048x2304_S16x8x2x2048_d4 h_S_ (ix4 b h c s)
      = Finset.univ.fold max (init (Shape.Idx.first h_S_)) fun j => q (ix5 b h c s j) := by
  rw [Host.reduce_eq_fold_single FloatOps.maximumf q init reducesTo_S16x8x2x2048x2304_S16x8x2x2048_d4 (by decide) h_S_]
  refine congrArg (fun f => Finset.fold max _ f Finset.univ) (funext fun j => congrArg q (funext fun a => Fin.ext ?_))
  match a with
  | ⟨0, _⟩ => rfl
  | ⟨1, _⟩ => rfl
  | ⟨2, _⟩ => rfl
  | ⟨3, _⟩ => rfl
  | ⟨4, _⟩ => rfl

theorem max_eq : val_main_v38 (F := Ideal) P C (ix4 b h c s) = Finset.univ.sup fun j => val_main_v35 (F := Ideal) P C (ix5 b h c s j) := by
  have e : val_main_v36 (F := Ideal) P C (ix4 b h c s) = Finset.univ.sup fun j => val_main_v35 (F := Ideal) P C (ix5 b h c s j) := by
    unfold val_main_v36
    rw [max_apply]
    generalize val_main_v35 (F := Ideal) P C = q
    rw [val_main_cst_3_apply]
    exact congrArg (fun z => Finset.univ.fold max z fun j => q (ix5 b h c s j)) ofBits_bot
  have e' : val_main_v37 (F := Ideal) (ix4 b h c s) = ⊥ := (val_main_v37_apply _).trans ofBits_bot
  rw [val_main_v38_apply, e, e']
  exact max_bot_left _

theorem softmax_eq (j : Fin 2304) : val_main_v46 (F := Ideal) P C (ix5 b h c s j)
    = softmax (fun j => val_main_v35 (F := Ideal) P C (ix5 b h c s j)) j := by
  unfold softmax
  rw [← max_eq]
  generalize hq : val_main_v35 (F := Ideal) P C = q
  generalize hm : val_main_v38 (F := Ideal) P C = m
  pointwise [val_main_v46, val_main_v45, val_main_v44, val_main_v43, val_main_v42, val_main_v41, val_main_v40, val_main_v39, val_main_cst_5, hq, hm]

/-- The first head's softmax, sliced from the pair. -/
theorem first_eq (j : Fin 2304) : val_main_v48 (F := Ideal) P C (ix4 b h s j) = val_main_v46 (F := Ideal) P C (ix5 b h 0 s j) := by
  unfold val_main_v48
  refine (shapeCast_apply _ _ _ (ix5 b h (0 : Fin 1) s j) ?_).trans ?_
  · rewrite [Shape.rowMajor_val_five, Shape.rowMajor_val_four]
    show (((b.val * 8 + h.val) * 1 + 0) * 2048 + s.val) * 2304 + j.val = ((b.val * 8 + h.val) * 2048 + s.val) * 2304 + j.val
    omega
  · rw [val_main_v47_apply]
    exact congrArg _ (funext fun a => Fin.ext (by match a with | ⟨0, _⟩ => rfl | ⟨1, _⟩ => rfl | ⟨2, _⟩ => rfl | ⟨3, _⟩ => rfl | ⟨4, _⟩ => rfl))

/-- The second head's. -/
theorem second_eq (j : Fin 2304) : val_main_v50 (F := Ideal) P C (ix4 b h s j) = val_main_v46 (F := Ideal) P C (ix5 b h 1 s j) := by
  unfold val_main_v50
  refine (shapeCast_apply _ _ _ (ix5 b h (0 : Fin 1) s j) ?_).trans ?_
  · rewrite [Shape.rowMajor_val_five, Shape.rowMajor_val_four]
    show (((b.val * 8 + h.val) * 1 + 0) * 2048 + s.val) * 2304 + j.val = ((b.val * 8 + h.val) * 2048 + s.val) * 2304 + j.val
    omega
  · rw [val_main_v49_apply]
    exact congrArg _ (funext fun a => Fin.ext (by match a with | ⟨0, _⟩ => rfl | ⟨1, _⟩ => rfl | ⟨2, _⟩ => rfl | ⟨3, _⟩ => rfl | ⟨4, _⟩ => rfl))

/-- The weights, from the two slices. -/
theorem parts_eq (j : Fin 2304) : val_main_v53 (F := Ideal) P C L (ix4 b h s j)
    = val_main_v48 (F := Ideal) P C (ix4 b h s j) - val_main_v15 (F := Ideal) L ix0 * val_main_v50 (F := Ideal) P C (ix4 b h s j) := by
  rw [val_main_v53_apply, val_main_v52_apply, val_main_v51_apply]
  generalize val_main_v48 (F := Ideal) P C (ix4 b h s j) = p
  generalize val_main_v50 (F := Ideal) P C (ix4 b h s j) = q
  rw [show idx_main_v51 (ix4 b h s j) = ix0 from funext fun a => a.elim0]
  generalize val_main_v15 (F := Ideal) L ix0 = l
  rfl

/-- A head's softmax, of the scores. -/
theorem softmax_scores (j : Fin 2304) : val_main_v46 (F := Ideal) P C (ix5 b h c s j)
    = softmax (refScores (latAt P 0 b h) (latAt P 1 b h) (ctxAt C 0 b h) s c) j := by
  rw [softmax_eq]
  simp only [score_eq]

/-- The difference of the two heads' softmaxes. -/
theorem weight_eq (j : Fin 2304) : val_main_v53 (F := Ideal) P C L (ix4 b h s j)
    = softmax (refScores (latAt P 0 b h) (latAt P 1 b h) (ctxAt C 0 b h) s 0) j
      - mixing (fun a x => L (ix2 a x)) * softmax (refScores (latAt P 0 b h) (latAt P 1 b h) (ctxAt C 0 b h) s 1) j := by
  rw [parts_eq, first_eq, second_eq, softmax_scores, softmax_scores, lam_eq]

/-- The mixture of the values. -/
theorem mixture_apply (e : Fin 256) : val_main_v55 (F := Ideal) P C L (ix4 b s h e)
    = refMixture (mixing fun a x => L (ix2 a x)) (refScores (latAt P 0 b h) (latAt P 1 b h) (ctxAt C 0 b h) s 0)
        (refScores (latAt P 0 b h) (latAt P 1 b h) (ctxAt C 0 b h) s 1) (join (fun j => latAt P 2 b h j e) (fun j => ctxAt C 1 b h j e)) := by
  unfold refMixture
  simp only [← weight_eq, ← value_eq]
  generalize hq : val_main_v53 (F := Ideal) P C L = q
  generalize hv : val_main_v32 (F := Ideal) P C = v
  pointwise [val_main_v55, val_main_v54, hq, hv]
  exact Finset.sum_congr rfl fun x _ => mul_comm _ _

/-- The normalised mixture. -/
theorem normed_eq (e : Fin 256) : val_main_v70 (F := Ideal) P C L G (ix4 b s h e)
    = normed (fun e => val_main_v55 (F := Ideal) P C L (ix4 b s h e)) (fun x => G (ix1 x)) e := by
  unfold normed
  generalize ho : val_main_v55 (F := Ideal) P C L = o
  pointwise [val_main_v70, val_main_v69, val_main_v68, val_main_v67, val_main_v66, val_main_v65, val_main_v64, val_main_v63, val_main_v62, val_main_v61,
    val_main_v60, val_main_v59, val_main_v58, val_main_v57, val_main_v56, val_main_cst_6, val_main_cst_7, val_main_cst_8, val_main_cst_9, ho]

/-- The reference's result at the row of position `s` of batch element `b` and at column `e` of head pair `h`. -/
theorem result_eq (e : Fin 256) : val_main_v72 (F := Ideal) P C L G (ix2 ⟨b.val * 2048 + s.val, by omega⟩ ⟨h.val * 256 + e.val, by omega⟩)
    = refEntry (latAt P 0 b h) (latAt P 1 b h) (latAt P 2 b h) (ctxAt C 0 b h) (ctxAt C 1 b h) (fun a x => L (ix2 a x)) (fun x => G (ix1 x)) s e := by
  unfold refEntry
  simp only [← mixture_apply]
  rw [← normed_eq]
  show val_main_v71 (F := Ideal) P C L G _ = _
  unfold val_main_v71
  generalize val_main_v70 (F := Ideal) P C L G = y
  refine shapeCast_apply _ _ _ _ ?_
  rewrite [Shape.rowMajor_val_four, Shape.rowMajor_val_two]
  show ((b.val * 2048 + s.val) * 8 + h.val) * 256 + e.val = (b.val * 2048 + s.val) * 2048 + (h.val * 256 + e.val)
  omega

end Cert.ReferenceIdeal.Body
-- ==== Proof.Attn.Eq.lean ====
module

public import proofs.«01_k».proof.Proof.Attn.Array
public import proofs.«01_k».proof.Proof.Attn.Ref

@[expose] public section

/-!
# The attention kernel's result is the reference's

Where the queries and the keys are finite the two arrays agree entry by entry.
-/

noncomputable section

namespace Cert.KernelIdeal.Body

open Cert.KernelIdeal Cert.KernelIdeal.Gen Cert.KernelIdeal.Value Cert.AttnMath Idealize.ShloMosaic Idealize.ShloMosaic.TcCoe Idealize.SL.Sem

variable (m : (ℓ : Loc nD τ sig) → Buf (Elt Ideal) ℓ) (c : Dev nD)

/-- Every entry of the kernel's result is the reference's, where the queries and the keys are finite. -/
theorem attended_ref (hP : ∀ (i : Fin 32768) (j : Fin 4096), ∃ a : ℝ, argP m c (ix2 i ⟨j.val, by omega⟩) = a)
    (hC : ∀ (i : Fin 4096) (j : Fin 2048), ∃ a : ℝ, argC m c (ix2 i ⟨j.val, by omega⟩) = a)
    (b : Fin 16) (h : Fin 8) (s : Fin 2048) (e : Fin 256) :
    attended m c b h s e = Cert.ReferenceIdeal.Read.val_main_v72 (F := Ideal) (argP m c) (argC m c) (argL m c) (argG m c)
      (ix2 ⟨b.val * 2048 + s.val, by omega⟩ ⟨h.val * 256 + e.val, by omega⟩) := by
  rw [Cert.ReferenceIdeal.Body.result_eq]
  exact entry_eq _ _ _ _ _ _ _ _ _
    (fun r x => hP ⟨b.val * 2048 + r.val, by omega⟩ ⟨0 * 2048 + h.val * 256 + x.val, by omega⟩)
    (fun r x => hP ⟨b.val * 2048 + r.val, by omega⟩ ⟨1 * 2048 + h.val * 256 + x.val, by omega⟩)
    (fun r x => hC ⟨b.val * 256 + r.val, by omega⟩ ⟨0 * 2048 + h.val * 256 + x.val, by omega⟩)

/-- The array the kernel leaves is the array the reference computes from the same arguments. -/
theorem array_ref (hP : ∀ (i : Fin 32768) (j : Fin 4096), ∃ a : ℝ, argP m c (ix2 i ⟨j.val, by omega⟩) = a)
    (hC : ∀ (i : Fin 4096) (j : Fin 2048), ∃ a : ℝ, argC m c (ix2 i ⟨j.val, by omega⟩) = a) :
    ((dats m 0 c).arrAt 7 cfg0.N : S32768x2048.Idx → EReal)
      = Cert.ReferenceIdeal.Read.val_main_v72 (F := Ideal) (argP m c) (argC m c) (argL m c) (argG m c) := by
  funext i
  obtain ⟨R, k, rfl⟩ : ∃ (R : Fin 32768) (k : Fin 2048), i = ix2 R k := ⟨i 0, i 1, eq_ix2 i⟩
  have e := (array_eq m c ⟨R.val / 2048, by omega⟩ ⟨k.val / 256, by omega⟩ ⟨R.val % 2048, by omega⟩ ⟨k.val % 256, by omega⟩).trans
    (attended_ref m c hP hC _ _ _ _)
  have hR : (⟨R.val / 2048 * 2048 + R.val % 2048, by omega⟩ : Fin 32768) = R := Fin.ext (by show R.val / 2048 * 2048 + R.val % 2048 = R.val; omega)
  have hk : (⟨k.val / 256 * 256 + k.val % 256, by omega⟩ : Fin 2048) = k := Fin.ext (by show k.val / 256 * 256 + k.val % 256 = k.val; omega)
  simpa only [hR, hk] using e

end Cert.KernelIdeal.Body
-- ==== Proof.Attn.Claims.lean ====
/- The attention's claims: the runs of its programs, and the equality of the kernel's array with the reference's. -/
module

public import proofs.«01_k».proof.Defs
public import proofs.«01_k».proof.Proof.Gen.Kernel.Frame
public import proofs.«01_k».proof.Proof.Gen.ReferenceIdeal.Run
public import proofs.«01_k».proof.Proof.Gen.Pre_finite
public import proofs.«01_k».proof.Proof.Attn.Eq
public import Idealize.ShloMosaic.Adequacy
public import Idealize.ShloMosaic.Init

@[expose] public section

noncomputable section

namespace Cert.AttnClaims

open Idealize.ShloMosaic Idealize.SL.Sem

attribute [local instance] Cert.Kernel.Gen.facts Cert.KernelIdeal.Gen.facts Cert.ReferenceIdeal.Gen.facts Cert.Pre_finite.Gen.facts

/-- The kernel as written runs and leaves its arguments and its counters as they were. -/
theorem frame : Cert.quiescent_Kernel := fun m ρ _ => Cert.Kernel.Gen.frame m ρ

/-- So does the kernel over the extended reals, -/
theorem frame_ideal : Cert.quiescent_KernelIdeal := fun m ρ _ => Cert.KernelIdeal.Gen.frame m ρ

/-- and in particular where the queries and the keys are finite. -/
theorem frame_ideal_finite : Cert.quiescent_KernelIdeal_pre_finite := fun m ρ _ => Cert.KernelIdeal.Gen.frame m ρ

/-- So does the reference; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- The softmax's scale, a named constant of the idealised kernel. -/
theorem preserves : Cert.preserves_Kernel_KernelIdeal :=
  IdealRules.named_const.statement Cert.KernelIdeal.κ "qscale" .f32 0x3E0293EE#32 (((Real.sqrt 128)⁻¹ * (Real.log 2)⁻¹ : ℝ) : EReal) rfl

/-- An extended real whose absolute value compares less than infinity is a real. -/
theorem real_of_lt (x : EReal) (h : Ideal.cmp .olt (max x (-x)) (Ideal.ofBits .f32 0x7F800000#32) = 1#1) : ∃ a : ℝ, x = a := by
  have e : Ideal.ofBits .f32 0x7F800000#32 = ⊤ := by simp [Ideal.ofBits, Ideal.ieee]
  rw [e] at h
  have lt : max x (-x) < ⊤ := by
    by_contra hn
    simp [Ideal.cmp, hn] at h
  induction x using EReal.rec with
  | coe a => exact ⟨a, rfl⟩
  | bot => simp at lt
  | top => simp at lt

/-- The precondition read at an entry of the queries and the keys. -/
theorem latent_real (m : (ℓ : Loc Cert.KernelIdeal.nD Cert.KernelIdeal.τ Cert.KernelIdeal.sig) → Buf (Elt Ideal) ℓ)
    (h : Cert.Pre_KernelIdeal_finite m) (c : Dev Cert.KernelIdeal.nD) (i : Fin 32768) (j : Fin 4096) :
    ∃ a : ℝ, Cert.KernelIdeal.Body.argP m c (ix2 i ⟨j.val, by omega⟩) = a := by
  have e : extractStridedSlice Cert.Pre_finite.S32768x4096 ![0, 0] (Cert.KernelIdeal.Body.argP m c)
      Cert.Pre_finite.Gen.slices_S32768x6144_S32768x4096_0_0 (ix2 i j) = Cert.KernelIdeal.Body.argP m c (ix2 i ⟨j.val, by omega⟩) :=
    extractStridedSlice_apply _ _ _ _ _ fun a => by match a with | ⟨0, _⟩ => exact (Nat.zero_add _).symm | ⟨1, _⟩ => exact (Nat.zero_add _).symm
  rw [← e]
  exact real_of_lt _ (congrFun (h c).1 (ix2 i j))

/-- And of the context's keys. -/
theorem context_real (m : (ℓ : Loc Cert.KernelIdeal.nD Cert.KernelIdeal.τ Cert.KernelIdeal.sig) → Buf (Elt Ideal) ℓ)
    (h : Cert.Pre_KernelIdeal_finite m) (c : Dev Cert.KernelIdeal.nD) (i : Fin 4096) (j : Fin 2048) :
    ∃ a : ℝ, Cert.KernelIdeal.Body.argC m c (ix2 i ⟨j.val, by omega⟩) = a := by
  have e : extractStridedSlice Cert.Pre_finite.S4096x2048 ![0, 0] (Cert.KernelIdeal.Body.argC m c)
      Cert.Pre_finite.Gen.slices_S4096x4096_S4096x2048_0_0 (ix2 i j) = Cert.KernelIdeal.Body.argC m c (ix2 i ⟨j.val, by omega⟩) :=
    extractStridedSlice_apply _ _ _ _ _ fun a => by match a with | ⟨0, _⟩ => exact (Nat.zero_add _).symm | ⟨1, _⟩ => exact (Nat.zero_add _).symm
  rw [← e]
  exact real_of_lt _ (congrFun (h c).2 (ix2 i j))

/-- The kernel's result is the reference's result, at equal arguments, where the queries and the keys are finite. -/
theorem algebraic : Cert.algebraic_KernelIdeal_ReferenceIdeal_pre_finite := by
  intro m ρ m' ρ' hpre hagree
  refine ⟨fun c => (Cert.KernelIdeal.Gen.dats m 0 c).arrAt 7 Cert.KernelIdeal.cfg0.N, Cert.KernelIdeal.Value.run_blocks m ρ,
    (θ_run Cert.ReferenceIdeal.defs _ _).mono (fun r h c => ⟨(h c).1.trans ?_, (h c).2⟩)
      (Cert.ReferenceIdeal.Value.run (F := Ideal) m' ρ')⟩
  obtain ⟨h0, h1, h2, h3⟩ := hagree c
  rw [Cert.ReferenceIdeal.Read.val_main_v72_eq]
  refine Eq.trans ?_ (Cert.KernelIdeal.Body.array_ref m c (latent_real m hpre c) (context_real m hpre c)).symm
  rw [h0, h1, h2, h3]

end Cert.AttnClaims

end
-- ==== Proof.Outproj.Array.lean ====
module

public import proofs.«01_k».proof.Proof.Mlp.Rows
public import proofs.«01_k».proof.Proof.Gen.OutprojIdeal.Value
public import Idealize.ShloMosaic.Lib.Pointwise
public import Idealize.ShloMosaic.Lib.Pointwise.IndexVar
public import Idealize.ShloMosaic.Lib.Tactic

@[expose] public section

/-!
# What the output projection's result array holds

Grid point `t` works on rows `512 * t` to `512 * t + 511`: it multiplies them with the weights, normalises the
products, and adds them, scaled and gated, to the rows of the residual stream.
-/

noncomputable section

namespace Cert.OutprojIdeal.Body

open Cert.OutprojIdeal Cert.OutprojIdeal.Gen Cert.OutprojIdeal.Value Cert.MlpMath Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The product of a block's row with the weights. -/
def product {n : ℕ} (y : (⟨2, ![n, 2048]⟩ : Shape).Idx → EReal) (w : S2048x2048.Idx → EReal) (r : Fin n) (k : Fin 2048) : EReal :=
  ∑ q : Fin 2048, y (ix2 r q) * w (ix2 q k)

/-- The product of the block's rows with the weights, as the body computes it. -/
def products (y : FVec Ideal S512x2048 .bf16) (w : FVec Ideal S2048x2048 .bf16) : FVec Ideal S512x2048 .f32 :=
  matmul dot_S512x2048_S2048x2048_S512x2048_1_0_0_1_n_n none y
    (shapeCast S2048x2048 w shapeCasts_S2048x2048_S2048x2048) (constant S512x2048 .f32 0x00000000#32)

theorem products_apply (y : FVec Ideal S512x2048 .bf16) (w : FVec Ideal S2048x2048 .bf16) (r : Fin 512) (k : Fin 2048) :
    products y w (ix2 r k) = product (n := 512) y w r k := by
  pointwise [products, product]

/-- What the body stores, read at an entry. -/
theorem stored_apply (y : FVec Ideal S512x2048 .bf16) (w : FVec Ideal S2048x2048 .bf16) (x : FVec Ideal S512x2048 .f32)
    (gate : FVec Ideal S1x1x1x2048 .f32) (g : FVec Ideal S1x2048 .f32) (r : Fin 512) (k : Fin 2048) :
    k0_pay1 (F := Ideal) y w x gate g (ix2 r k) = leave (fun k => x (ix2 r k)) (product (n := 512) y w r) (fun k => g (ix2 0 k))
      (fun k => gate (ix4 0 0 0 k)) k := by
  unfold leave inorm
  simp only [← products_apply]
  unfold k0_pay1
  change _ = x (ix2 r k) + gate (ix4 0 0 0 k) * (products y w (ix2 r k) * _ * g (ix2 0 k))
  generalize hp : products y w = p
  unfold products at hp
  simp only [hp]
  pointwise

/-- What a grid point leaves, entry by entry. -/
theorem out_apply (y : FVec Ideal S512x2048 .bf16) (w : FVec Ideal S2048x2048 .bf16) (x : FVec Ideal S512x2048 .f32)
    (gate : FVec Ideal S1x1x1x2048 .f32) (g : FVec Ideal S1x2048 .f32) (r : Fin 512) (k : Fin 2048) :
    out0_5 (F := Ideal) y w x gate g (ix2 r k) = leave (fun k => x (ix2 r k)) (product (n := 512) y w r) (fun k => g (ix2 0 k))
      (fun k => gate (ix4 0 0 0 k)) k := by
  rw [← stored_apply]
  unfold out0_5
  rw [View.canon_unit_zero (S := S512x2048) hz2]
  simp only [View.ld_unit_zero (S := S512x2048) hz2, View.ld_unit_zero (S := S2048x2048) hz2, View.ld_unit_zero (S := S1x2048) hz2,
    View.ld_unit_zero (S := S1x1x1x2048) hz4]

variable (m : (ℓ : Loc nD τ sig) → Buf (Elt Ideal) ℓ) (c : Dev nD)

/-- The five arguments. -/
abbrev argY : Vec Ideal S32768x2048 .bf16 := m ((c : Thread nD τ).loc main_arg0)
abbrev argX : Vec Ideal S16x2048x2048 .f32 := m ((c : Thread nD τ).loc main_arg1)
abbrev argMods : Vec Ideal S2x32x1x12288 .f32 := m ((c : Thread nD τ).loc main_arg2)
abbrev argG : Vec Ideal S4x2048 .f32 := m ((c : Thread nD τ).loc main_arg3)
abbrev argW : Vec Ideal S2048x2048 .f32 := m ((c : Thread nD τ).loc main_arg4)

theorem V_v1 : V m c main_v1 = (argW m c : S2048x2048.Idx → EReal) := by
  unfold V hostOps0
  after_results_simp <;> rfl

theorem V_v2 : V m c main_v2 = shapeCast S32768x2048 (argX m c) shapeCasts_S16x2048x2048_S32768x2048 := by
  unfold V hostOps0
  after_results_simp <;> rfl

theorem V_v4 : V m c main_v4 = shapeCast S1x2048 (extractStridedSlice S1x1x2048 ![1, 0, 0]
    (shapeCast S4x1x2048 (argG m c) shapeCasts_S4x2048_S4x1x2048) slices_S4x1x2048_S1x1x2048_1_0_0) shapeCasts_S1x1x2048_S1x2048 := by
  unfold V hostOps0
  after_results_simp <;> rfl

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)
theorem index3 : ∀ t : Fin cfg0.N, win0_3.index t 0 = 1 ∧ win0_3.index t 1 = t.val / 4 ∧ win0_3.index t 2 = 0 ∧ win0_3.index t 3 = 2 :=
  (by decide +kernel : ∀ t : Fin grid0.N, _)
theorem index4 : ∀ t : Fin cfg0.N, win0_4.index t 0 = 0 ∧ win0_4.index t 1 = 0 :=
  (by decide +kernel : ∀ t : Fin grid0.N, _)
theorem index5 : ∀ t : Fin cfg0.N, win0_5.index t 0 = t.val ∧ win0_5.index t 1 = 0 ∧ win0_5.flush t = true :=
  (by decide +kernel : ∀ t : Fin grid0.N, _)

theorem lt64 (t : Fin cfg0.N) : t.val < 64 := lt_of_lt_of_eq t.isLt N_0

/-- The row of the flattened array that row `r` of point `t`'s block is; its batch element and its position in it. -/
def rowOf (t : Fin cfg0.N) (r : Fin 512) : Fin 32768 := ⟨t.val * 512 + r.val, by have := lt64 t; omega⟩
def batchOf (R : Fin 32768) : Fin 16 := ⟨R.val / 2048, by omega⟩
def posOf (R : Fin 32768) : Fin 2048 := ⟨R.val % 2048, by omega⟩

theorem blk_y (t : Fin cfg0.N) (r : Fin 512) (k : Fin 2048) :
    (iblk m c 0 t : Vec Ideal S512x2048 .bf16) (ix2 r k) = argY m c (ix2 (rowOf t r) k) := by
  obtain ⟨e0, e1⟩ := index0 t
  unfold iblk
  show V m c main_arg0 _ = argY m c _
  rw [V_main_arg0]
  congr 1
  funext a
  apply Fin.ext
  match a with
  | ⟨0, _⟩ => show win0_0.index t 0 * 512 + 1 * r.val = t.val * 512 + r.val; rw [e0]; omega
  | ⟨1, _⟩ => show win0_0.index t 1 * 2048 + 1 * k.val = k.val; rw [e1]; omega

theorem blk_w (t : Fin cfg0.N) (q k : Fin 2048) :
    (iblk m c 1 t : Vec Ideal S2048x2048 .bf16) (ix2 q k) = argW m c (ix2 q k) := by
  obtain ⟨e0, e1⟩ := index1 t
  have h : (iblk m c 1 t : Vec Ideal S2048x2048 .bf16) (ix2 q k) = V m c main_v1 (ix2 q k) := by
    unfold iblk
    show V m c main_v1 _ = V m c main_v1 _
    congr 1
    funext a
    apply Fin.ext
    match a with
    | ⟨0, _⟩ => show win0_1.index t 0 * 2048 + 1 * q.val = q.val; rw [e0]; omega
    | ⟨1, _⟩ => show win0_1.index t 1 * 2048 + 1 * k.val = k.val; rw [e1]; omega
  exact h.trans (congrFun (V_v1 m c) _)

theorem blk_x (t : Fin cfg0.N) (r : Fin 512) (k : Fin 2048) :
    (iblk m c 2 t : Vec Ideal S512x2048 .f32) (ix2 r k) = argX m c (ix3 (batchOf (rowOf t r)) (posOf (rowOf t r)) k) := by
  obtain ⟨e0, e1⟩ := index2 t
  have h : (iblk m c 2 t : Vec Ideal S512x2048 .f32) (ix2 r k) = V m c main_v2 (ix2 (rowOf t r) k) := by
    unfold iblk
    show V m c main_v2 _ = V m c main_v2 _
    congr 1
    funext a
    apply Fin.ext
    match a with
    | ⟨0, _⟩ => show win0_2.index t 0 * 512 + 1 * r.val = t.val * 512 + r.val; rw [e0]; omega
    | ⟨1, _⟩ => show win0_2.index t 1 * 2048 + 1 * k.val = k.val; rw [e1]; omega
  rw [h, V_v2]
  generalize rowOf t r = R
  refine shapeCast_apply _ _ _ _ ?_
  rewrite [Shape.rowMajor_val_three, Shape.rowMajor_val_two]
  show (R.val / 2048 * 2048 + R.val % 2048) * 2048 + k.val = R.val * 2048 + k.val
  omega

/-- Entry `k` of the gate of batch element `b`. -/
def gateOf (b : Fin 16) (k : Fin 2048) : EReal :=
  argMods m c (ix4 1 ⟨b.val, by omega⟩ 0 ⟨2 * 2048 + k.val, by omega⟩)

theorem blk_gate (t : Fin cfg0.N) (r : Fin 512) (k : Fin 2048) :
    (iblk m c 3 t : Vec Ideal S1x1x1x2048 .f32) (ix4 0 0 0 k) = gateOf m c (batchOf (rowOf t r)) k := by
  obtain ⟨e0, e1, e2, e3⟩ := index3 t
  unfold iblk gateOf
  show V m c main_arg2 _ = argMods m c _
  rw [V_main_arg2]
  congr 1
  funext a
  apply Fin.ext
  match a with
  | ⟨0, _⟩ => show win0_3.index t 0 * 1 + 1 * 0 = 1; rw [e0]
  | ⟨1, _⟩ => show win0_3.index t 1 * 1 + 1 * 0 = (t.val * 512 + r.val) / 2048; rw [e1]; omega
  | ⟨2, _⟩ => show win0_3.index t 2 * 1 + 1 * 0 = 0; rw [e2]
  | ⟨3, _⟩ => show win0_3.index t 3 * 2048 + 1 * k.val = 2 * 2048 + k.val; rw [e3]; omega

theorem blk_g (t : Fin cfg0.N) (k : Fin 2048) :
    (iblk m c 4 t : Vec Ideal S1x2048 .f32) (ix2 0 k) = argG m c (ix2 1 k) := by
  obtain ⟨e0, e1⟩ := index4 t
  have h : (iblk m c 4 t : Vec Ideal S1x2048 .f32) (ix2 0 k) = V m c main_v4 (ix2 (0 : Fin 1) k) := by
    unfold iblk
    show V m c main_v4 _ = V m c main_v4 _
    congr 1
    funext a
    apply Fin.ext
    match a with
    | ⟨0, _⟩ => show win0_4.index t 0 * 1 + 1 * 0 = 0; rw [e0]
    | ⟨1, _⟩ => show win0_4.index t 1 * 2048 + 1 * k.val = k.val; rw [e1]; omega
  rw [h, V_v4]
  pointwise
  try rfl

/-- The kernel's row `R` of the result. -/
def projected (R : Fin 32768) (k : Fin 2048) : EReal :=
  leave (fun k => argX m c (ix3 (batchOf R) (posOf R) k)) (product (n := 32768) (argY m c) (argW m c) R) (fun k => argG m c (ix2 1 k))
    (gateOf m c (batchOf R)) k

/-- Point `t` leaves its 512 rows. -/
theorem out_blk (t : Fin cfg0.N) (r : Fin 512) (k : Fin 2048) :
    out0_5 (iblk m c 0 t) (iblk m c 1 t) (iblk m c 2 t) (iblk m c 3 t) (iblk m c 4 t) (ix2 r k) = projected m c (rowOf t r) k := by
  rw [out_apply]
  unfold projected
  have hp : product (n := 512) (iblk m c 0 t) (iblk m c 1 t) r = product (n := 32768) (argY m c) (argW m c) (rowOf t r) := by
    funext k
    unfold product
    simp only [blk_y, blk_w]
  rw [hp]
  simp only [blk_x, blk_gate m c t r, blk_g]

/-- The result array at a row of point `t`'s block. -/
theorem array_blk (t : Fin cfg0.N) (r : Fin 512) (k : Fin 2048) :
    ((dats m 0 c).arrAt 5 cfg0.N : S32768x2048.Idx → EReal) (ix2 (rowOf t r) k) = projected m c (rowOf t r) k := by
  obtain ⟨e0, e1, hf⟩ := index5 t
  have key := congrFun ((blocks5 m c t hf).trans (flushed5 m c t)) (ix2 r k)
  rw [← out_blk]
  refine Eq.trans ?_ (key.trans ?_)
  · show (dats m 0 c).arrAt 5 cfg0.N _ = (dats m 0 c).arrAt 5 cfg0.N _
    congr 1
    funext a
    apply Fin.ext
    match a with
    | ⟨0, _⟩ => show t.val * 512 + r.val = win0_5.index t 0 * 512 + 1 * r.val; rw [e0]; omega
    | ⟨1, _⟩ => show k.val = win0_5.index t 1 * 2048 + 1 * k.val; rw [e1]; omega
  · show out0_5 _ _ _ _ _ _ = out0_5 _ _ _ _ _ _
    congr 1

/-- The result array. -/
theorem array_eq (R : Fin 32768) (k : Fin 2048) :
    ((dats m 0 c).arrAt 5 cfg0.N : S32768x2048.Idx → EReal) (ix2 R k) = projected m c R k := by
  obtain ⟨t, ht⟩ : ∃ t : Fin cfg0.N, t.val = R.val / 512 := ⟨⟨R.val / 512, lt_of_lt_of_eq (by omega : R.val / 512 < 64) N_0.symm⟩, rfl⟩
  obtain ⟨r, hr⟩ : ∃ r : Fin 512, r.val = R.val % 512 := ⟨⟨R.val % 512, by omega⟩, rfl⟩
  have hR : rowOf t r = R := Fin.ext (by show t.val * 512 + r.val = R.val; omega)
  rw [← hR]
  exact array_blk m c t r k

end Cert.OutprojIdeal.Body
-- ==== Proof.Outproj.Ref.lean ====
module

public import proofs.«01_k».proof.Proof.Mlp.Rows
public import proofs.«01_k».proof.Proof.Gen.OutprojReferenceIdeal.Read
public import Idealize.ShloMosaic.Lib.Pointwise

@[expose] public section

/-!
# What the reference's output projection computes

The stages of the plain program, read entry by entry: the product of a row with the weights, its normalisation, and the
gated sum with the residual stream.
-/

noncomputable section

namespace Cert.OutprojReferenceIdeal.Body

open Cert.OutprojReferenceIdeal Cert.OutprojReferenceIdeal.Gen Cert.OutprojReferenceIdeal.Read Cert.MlpMath Idealize.ShloMosaic Idealize.ShloMosaic.TcCoe Idealize.SL.Sem

variable (y : FVec Ideal S32768x2048 .bf16) (x : FVec Ideal S16x2048x2048 .f32) (mods : FVec Ideal S2x32x1x12288 .f32) (g : FVec Ideal S4x2048 .f32)
  (w : FVec Ideal S2048x2048 .f32) (b : Fin 16) (s : Fin 2048)

/-- The row's product with the weights. -/
def product (k : Fin 2048) : EReal := ∑ q : Fin 2048, y (ix2 ⟨b.val * 2048 + s.val, by omega⟩ q) * w (ix2 q k)

theorem product_eq (k : Fin 2048) : val_main_v10 (F := Ideal) y w (ix3 b s k) = product y w b s k := by
  unfold product
  pointwise [val_main_v10, val_main_v9, val_main_v8]

/-- The gate of a batch element. -/
theorem gate_eq (k : Fin 2048) : val_main_v4 (F := Ideal) mods (ix3 b 0 k) = mods (ix4 1 ⟨b.val, by omega⟩ 0 ⟨2 * 2048 + k.val, by omega⟩) := by
  pointwise [val_main_v4, val_main_v1, val_main_v0]

theorem inorm_eq : val_main_v20 (F := Ideal) y w (ix3 b s 0) = inorm (product y w b s) := by
  unfold inorm
  simp only [← product_eq]
  generalize hp : val_main_v10 (F := Ideal) y w = p
  pointwise [val_main_v20, val_main_v19, val_main_v18, val_main_v17, val_main_v16, val_main_v15, val_main_v14, val_main_v13,
    val_main_cst, val_main_cst_0, val_main_cst_1, hp]

theorem sum_eq (k : Fin 2048) : val_main_v28 (F := Ideal) y x mods g w (ix3 b s k)
    = leave (fun k => x (ix3 b s k)) (product y w b s) (fun k => g (ix2 1 k)) (fun k => mods (ix4 1 ⟨b.val, by omega⟩ 0 ⟨2 * 2048 + k.val, by omega⟩)) k := by
  unfold leave
  dsimp only
  rw [← inorm_eq, ← product_eq, ← gate_eq mods b k]
  generalize hp : val_main_v10 (F := Ideal) y w = p
  generalize ha : val_main_v20 (F := Ideal) y w = a
  generalize hg : val_main_v4 (F := Ideal) mods = gate
  pointwise [val_main_v28, val_main_v27, val_main_v26, val_main_v25, val_main_v24, val_main_v23, val_main_v22, val_main_v21, val_main_v12, val_main_v11, hp, ha, hg]

/-- The reference's result, row by row. -/
theorem result_eq (R : Fin 32768) (k : Fin 2048) :
    val_main_v29 (F := Ideal) y x mods g w (ix2 R k)
      = leave (fun k => x (ix3 ⟨R.val / 2048, by omega⟩ ⟨R.val % 2048, by omega⟩ k))
          (fun k => ∑ q : Fin 2048, y (ix2 R q) * w (ix2 q k)) (fun k => g (ix2 1 k))
          (fun k => mods (ix4 1 ⟨R.val / 2048, by omega⟩ 0 ⟨2 * 2048 + k.val, by omega⟩)) k := by
  have hp : product y w ⟨R.val / 2048, by omega⟩ ⟨R.val % 2048, by omega⟩ = fun k => ∑ q : Fin 2048, y (ix2 R q) * w (ix2 q k) := by
    funext k
    unfold product
    have hR : (⟨R.val / 2048 * 2048 + R.val % 2048, by omega⟩ : Fin 32768) = R := Fin.ext (by show R.val / 2048 * 2048 + R.val % 2048 = R.val; omega)
    simp only [hR]
  rw [← hp]
  refine (val_main_v29_apply (F := Ideal) y x mods g w _).trans (Eq.trans (congrArg _ ?_) (sum_eq y x mods g w ⟨R.val / 2048, by omega⟩ ⟨R.val % 2048, by omega⟩ k))
  funext a
  apply Fin.ext
  match a with
  | ⟨0, _⟩ => show (R.val * 2048 + k.val) / 4194304 = R.val / 2048; omega
  | ⟨1, _⟩ => show (R.val * 2048 + k.val) / 2048 % 2048 = R.val % 2048; omega
  | ⟨2, _⟩ => show (R.val * 2048 + k.val) % 2048 = k.val; omega

end Cert.OutprojReferenceIdeal.Body
-- ==== Proof.Outproj.Eq.lean ====
module

public import proofs.«01_k».proof.Proof.Outproj.Array
public import proofs.«01_k».proof.Proof.Outproj.Ref

@[expose] public section

/-!
# The output projection's array is the reference's
-/

noncomputable section

namespace Cert.OutprojIdeal.Body

open Cert.OutprojIdeal Cert.OutprojIdeal.Gen Cert.MlpMath Idealize.ShloMosaic Idealize.ShloMosaic.TcCoe Idealize.SL.Sem

variable (m : (ℓ : Loc nD τ sig) → Buf (Elt Ideal) ℓ) (c : Dev nD)

/-- The array the kernel leaves is the reference's result, at the same arguments. -/
theorem array_ref : ((dats m 0 c).arrAt 5 cfg0.N : S32768x2048.Idx → EReal)
    = Cert.OutprojReferenceIdeal.Read.val_main_v29 (F := Ideal) (argY m c) (argX m c) (argMods m c) (argG m c) (argW m c) := by
  funext i
  obtain ⟨R, k, rfl⟩ : ∃ (R : Fin 32768) (k : Fin 2048), i = ix2 R k := ⟨i 0, i 1, eq_ix2 i⟩
  rw [array_eq, Cert.OutprojReferenceIdeal.Body.result_eq]
  rfl

end Cert.OutprojIdeal.Body

end
-- ==== Proof.Outproj.Claims.lean ====
/- The output projection's claims: the runs of its programs, and the equality of the kernel's array with the reference's. -/
module

public import proofs.«01_k».proof.Defs
public import proofs.«01_k».proof.Proof.Gen.Outproj.Frame
public import proofs.«01_k».proof.Proof.Gen.OutprojReferenceIdeal.Run
public import proofs.«01_k».proof.Proof.Outproj.Eq
public import Idealize.ShloMosaic.Adequacy
public import Idealize.ShloMosaic.Init

@[expose] public section

noncomputable section

namespace Cert.OutprojClaims

open Idealize.ShloMosaic Idealize.SL.Sem

attribute [local instance] Cert.Outproj.Gen.facts Cert.OutprojIdeal.Gen.facts Cert.OutprojReferenceIdeal.Gen.facts

/-- The kernel as written runs and leaves its arguments and its counters as they were. -/
theorem frame : Cert.quiescent_Outproj := fun m ρ _ => Cert.Outproj.Gen.frame m ρ

/-- So does the kernel over the extended reals. -/
theorem frame_ideal : Cert.quiescent_OutprojIdeal := fun m ρ _ => Cert.OutprojIdeal.Gen.frame m ρ

/-- So does the reference; it declares no semaphore. -/
theorem frame_reference : Cert.quiescent_OutprojReferenceIdeal := fun m ρ _ =>
  (θ_run Cert.OutprojReferenceIdeal.defs _ _).mono
    (fun r h => ⟨fun c => (h c).2, sem_eq_zero_of_no_sems (by decide) r.2⟩)
    (Cert.OutprojReferenceIdeal.Value.run (F := Ideal) m ρ)

/-- The kernel's result is the reference's result, at equal arguments. -/
theorem algebraic : Cert.algebraic_OutprojIdeal_OutprojReferenceIdeal := by
  intro m ρ m' ρ' _ hagree
  refine ⟨fun c => (Cert.OutprojIdeal.Gen.dats m 0 c).arrAt 5 Cert.OutprojIdeal.cfg0.N, Cert.OutprojIdeal.Value.run_blocks m ρ,
    (θ_run Cert.OutprojReferenceIdeal.defs _ _).mono (fun r h c => ⟨(h c).1.trans ?_, (h c).2⟩)
      (Cert.OutprojReferenceIdeal.Value.run (F := Ideal) m' ρ')⟩
  obtain ⟨h0, h1, h2, h3, h4⟩ := hagree c
  rw [Cert.OutprojReferenceIdeal.Read.val_main_v29_eq]
  refine Eq.trans ?_ (Cert.OutprojIdeal.Body.array_ref m c).symm
  rw [h0, h1, h2, h3, h4]

end Cert.OutprojClaims

end
-- ==== Proof.Proj.Block.lean ====
module

public import proofs.«01_k».proof.Proof.Mlp.Rows
public import proofs.«01_k».proof.Proof.Gen.ProjIdeal.Skeleton
public import Idealize.ShloMosaic.Lib.Pointwise
public import Idealize.ShloMosaic.Lib.Pointwise.IndexVar

@[expose] public section

/-!
# What the projection's body computes on its blocks

The body multiplies its modulated rows with 256 columns of the weights at a time. Of the queries and the keys it
rotates each group of 128 columns: an entry times the cosine, plus the entry 64 columns further (cyclically
in its group) times the signed sine. Each vector expression is named once per height of the rows it is computed for.
-/

noncomputable section

namespace Cert.ProjIdeal.Body

open Cert.ProjIdeal Cert.ProjIdeal.Gen Cert.MlpMath Idealize.ShloMosaic

/-- The product of a row with a column of a block of weights. -/
def prod {n : ℕ} (h : Fin 2048 → EReal) (w : (⟨2, ![2048, n]⟩ : Shape).Idx → EReal) (k : Fin n) : EReal := ∑ q, h q * w (ix2 q k)

/-- The partner of lane `l` of a group. -/
def partner (l : Fin 128) : Fin 128 := ⟨(l.val + 64) % 128, by omega⟩

/-- The rotation of a group of 128 entries. -/
def rotate (a cos sin : Fin 128 → EReal) (l : Fin 128) : EReal := a l * cos l + a (partner l) * sin l

/-- The rotated entry `k` of a row of 2048 entries, which are 16 groups. -/
def rotated (a : Fin 2048 → EReal) (cos sin : Fin 128 → EReal) (k : Fin 2048) : EReal :=
  rotate (fun l => a ⟨k.val / 128 * 128 + l.val, by omega⟩) cos sin ⟨k.val % 128, by omega⟩

theorem rotated_at (a : Fin 2048 → EReal) (cos sin : Fin 128 → EReal) (o : ℕ) (ho : o % 128 = 0) (l : Fin 128) (hk : o + 128 ≤ 2048) :
    rotated a cos sin ⟨o + l.val, by omega⟩ = rotate (fun l => a ⟨o + l.val, by omega⟩) cos sin l := by
  have hg : (o + l.val) / 128 * 128 = o := by omega
  have hl : (⟨(o + l.val) % 128, by omega⟩ : Fin 128) = l := Fin.ext (by show (o + l.val) % 128 = l.val; omega)
  unfold rotated
  simp only [hg, hl]

/-- The product of 512 rows with 256 columns. -/
def dot512 (h : FVec Ideal S512x2048 .bf16) (w : FVec Ideal S2048x256 .bf16) : FVec Ideal S512x256 .f32 :=
  matmul dot_S512x2048_S2048x256_S512x256_1_0_0_1_n_n none h (shapeCast S2048x256 w shapeCasts_S2048x256_S2048x256)
    (constant S512x256 .f32 0x00000000#32)

/-- The product of 1024 rows with 256 columns. -/
def dot1024 (h : FVec Ideal S1024x2048 .bf16) (w : FVec Ideal S2048x256 .bf16) : FVec Ideal S1024x256 .f32 :=
  matmul dot_S1024x2048_S2048x256_S1024x256_1_0_0_1_n_n none h (shapeCast S2048x256 w shapeCasts_S2048x256_S2048x256)
    (constant S1024x256 .f32 0x00000000#32)

theorem dot512_apply (h : FVec Ideal S512x2048 .bf16) (w : FVec Ideal S2048x256 .bf16) (r : Fin 512) (f : Fin 256) :
    dot512 h w (ix2 r f) = prod (n := 256) (fun k => h (ix2 r k)) w f := by
  pointwise [dot512, prod]

theorem dot1024_apply (h : FVec Ideal S1024x2048 .bf16) (w : FVec Ideal S2048x256 .bf16) (r : Fin 1024) (f : Fin 256) :
    dot1024 h w (ix2 r f) = prod (n := 256) (fun k => h (ix2 r k)) w f := by
  pointwise [dot1024, prod]

/-- The rotation of 512 rows of a group. -/
def rot512 (a cos sin : FVec Ideal S512x128 .f32) : FVec Ideal S512x128 .bf16 :=
  truncf .bf16 (addf (mulf a (shapeCast S512x128 cos shapeCasts_S512x128_S512x128))
    (mulf (dynamicRotate 1 64#32 none a rotates_S512x128_d1) (shapeCast S512x128 sin shapeCasts_S512x128_S512x128))) bitsLt_bf16_f32

/-- The rotation of 1024 rows of a group. -/
def rot1024 (a cos sin : FVec Ideal S1024x128 .f32) : FVec Ideal S1024x128 .bf16 :=
  truncf .bf16 (addf (mulf a (shapeCast S1024x128 cos shapeCasts_S1024x128_S1024x128))
    (mulf (dynamicRotate 1 64#32 none a rotates_S1024x128_d1) (shapeCast S1024x128 sin shapeCasts_S1024x128_S1024x128))) bitsLt_bf16_f32

theorem rot512_apply (a cos sin : FVec Ideal S512x128 .f32) (r : Fin 512) (l : Fin 128) :
    rot512 a cos sin (ix2 r l) = rotate (fun l => a (ix2 r l)) (fun l => cos (ix2 r l)) (fun l => sin (ix2 r l)) l := by
  have e : l.val + 128 - 64 = l.val + 64 := by omega
  pointwise [rot512, rotate, partner]
  simp only [e]

theorem rot1024_apply (a cos sin : FVec Ideal S1024x128 .f32) (r : Fin 1024) (l : Fin 128) :
    rot1024 a cos sin (ix2 r l) = rotate (fun l => a (ix2 r l)) (fun l => cos (ix2 r l)) (fun l => sin (ix2 r l)) l := by
  have e : l.val + 128 - 64 = l.val + 64 := by omega
  pointwise [rot1024, rotate, partner]
  simp only [e]

/-- The modulated rows, as the body stores 512 of them. -/
theorem modulated512_apply (x : FVec Ideal S512x2048 .f32) (g : FVec Ideal S1x2048 .f32) (sc sh : FVec Ideal S1x1x1x2048 .f32)
    (r : Fin 512) (c : Fin 2048) :
    k0_pay8 (F := Ideal) x g sc sh (ix2 r c) = modulated (fun k => x (ix2 r k)) (fun k => g (ix2 0 k)) (fun k => sh (ix4 0 0 0 k))
      (fun k => sc (ix4 0 0 0 k)) c := by
  pointwise [k0_pay8, modulated, inorm]

/-- Columns `o` to `o + 255` of the block of weights, as the body loads them. -/
def cols (w : FVec Ideal S2048x2048 .bf16) (o : Nat) (h : ∀ a, (![0, o] : Fin 2 → Nat) a + (![2048, 256] : Fin 2 → Nat) a ≤ S2048x2048.size a) :
    FVec Ideal S2048x256 .bf16 :=
  View.ld (Val := Elt Ideal) (S := S2048x2048) (e' := .bf16) w (Rect.unit (s := S2048x2048) ![0, o] ![2048, 256] h)

theorem cols_apply (w : FVec Ideal S2048x2048 .bf16) (o : Nat) (h) (k : Fin 2048) (f : Fin 256) :
    cols w o h (ix2 k f) = w (ix2 k ⟨o + f.val, by have h1 : o + 256 ≤ 2048 := h 1; omega⟩) := by
  show w _ = w _
  congr 1
  funext a
  apply Fin.ext
  match a with
  | ⟨0, _⟩ => show 0 + 1 * k.val = k.val; omega
  | ⟨1, _⟩ => show o + 1 * f.val = o + f.val; omega

theorem prod_cols (h : Fin 2048 → EReal) (w : FVec Ideal S2048x2048 .bf16) (o : Nat) (hw) (f : Fin 256) :
    prod (n := 256) h (cols w o hw) f = prod (n := 2048) h w ⟨o + f.val, by have h1 : o + 256 ≤ 2048 := hw 1; omega⟩ := by
  unfold prod
  simp only [cols_apply]

/-- Rows `o` to `o + 511` of a block of 1024 rows, as the body loads them. -/
def half {e : EltTy} {n : ℕ} (x : Vec Ideal ⟨2, ![1024, n]⟩ e) (o : Nat)
    (h : ∀ a, (![o, 0] : Fin 2 → Nat) a + (![512, n] : Fin 2 → Nat) a ≤ (⟨2, ![1024, n]⟩ : Shape).size a) : Vec Ideal ⟨2, ![512, n]⟩ e :=
  View.ld (Val := Elt Ideal) (S := (⟨2, ![1024, n]⟩ : Shape)) (e' := e) x (Rect.unit (s := (⟨2, ![1024, n]⟩ : Shape)) ![o, 0] ![512, n] h)

theorem half_apply {e : EltTy} {n : ℕ} (x : Vec Ideal ⟨2, ![1024, n]⟩ e) (o : Nat) (h) (r : Fin 512) (k : Fin n) :
    half x o h (ix2 r k) = x (ix2 ⟨o + r.val, by have h1 : o + 512 ≤ 1024 := h 0; omega⟩ k) := by
  show x _ = x _
  congr 1
  funext a
  apply Fin.ext
  match a with
  | ⟨0, _⟩ => show o + 1 * r.val = o + r.val; omega
  | ⟨1, _⟩ => show 0 + 1 * k.val = k.val; omega

/-- The block of 1024 rotated rows. -/
def rotBlock (H : Fin 1024 → Fin 2048 → EReal) (w : FVec Ideal S2048x2048 .bf16) (cos sin : FVec Ideal S1024x128 .f32) :
    S1024x2048.Idx → EReal := fun i =>
  rotated (prod (n := 2048) (H (i 0)) w) (fun l => cos (ix2 (i 0) l)) (fun l => sin (ix2 (i 0) l)) (i 1)

/-- The block of 1024 rows' products. -/
def dotBlock (H : Fin 1024 → Fin 2048 → EReal) (w : FVec Ideal S2048x2048 .bf16) : S1024x2048.Idx → EReal := fun i =>
  prod (n := 2048) (H (i 0)) w (i 1)

/-- A group at column `o` of the block, at row `R` of it and lane `l`. -/
theorem rotBlock_at (H : Fin 1024 → Fin 2048 → EReal) (w : FVec Ideal S2048x2048 .bf16) (cos sin : FVec Ideal S1024x128 .f32)
    (o : ℕ) (ho : o % 128 = 0) (hk : o + 128 ≤ 2048) (R : Fin 1024) (l : Fin 128) :
    rotBlock H w cos sin (ix2 R ⟨o + l.val, by omega⟩)
      = rotate (fun l => prod (n := 2048) (H R) w ⟨o + l.val, by omega⟩) (fun l => cos (ix2 R l)) (fun l => sin (ix2 R l)) l :=
  rotated_at _ _ _ o ho l hk

/-- A group at columns `p` to `p + 127` of the 256 that start at `o`, of 512 rows that start at `ro`. -/
theorem piece512 (H : Fin 1024 → Fin 2048 → EReal) (w : FVec Ideal S2048x2048 .bf16) (cos sin : FVec Ideal S1024x128 .f32)
    (h : FVec Ideal S512x2048 .bf16) (ro o p : ℕ) (hro : ro + 512 ≤ 1024) (hH : ∀ (r : Fin 512) k, h (ix2 r k) = H ⟨ro + r.val, by omega⟩ k)
    (hw hc hs hp) (hsl : S512x256.Slices ![0, p] S512x128) (ho : (o + p) % 128 = 0) (hpp : p + 128 ≤ 256)
    (x : (Rect.unit (s := S1024x2048) ![ro, o + p] ![512, 128] hp).shape.Idx) :
    rot512 (extractStridedSlice S512x128 ![0, p] (dot512 h (cols w o hw)) hsl) (half (n := 128) (e := .f32) cos ro hc) (half (n := 128) (e := .f32) sin ro hs) x
      = rotBlock H w cos sin ((Rect.unit (s := S1024x2048) ![ro, o + p] ![512, 128] hp).emb x) := by
  have hk : o + 256 ≤ 2048 := hw 1
  obtain ⟨r, l, rfl⟩ : ∃ (a : Fin 512) (b : Fin 128), x = ix2 a b := ⟨x 0, x 1, eq_ix2 x⟩
  have he : (Rect.unit (s := S1024x2048) ![ro, o + p] ![512, 128] hp).emb (ix2 r l)
      = (ix2 (⟨ro + r.val, by omega⟩ : Fin 1024) (⟨o + p + l.val, by omega⟩ : Fin 2048) : S1024x2048.Idx) := by
    funext a
    apply Fin.ext
    match a with
    | ⟨0, _⟩ => show ro + 1 * r.val = ro + r.val; omega
    | ⟨1, _⟩ => show o + p + 1 * l.val = o + p + l.val; omega
  rw [he, rotBlock_at H w cos sin (o + p) ho (by omega)]
  refine (rot512_apply _ _ _ r l).trans ?_
  have hd : ∀ l : Fin 128, extractStridedSlice S512x128 ![0, p] (dot512 h (cols w o hw)) hsl (ix2 r l)
      = prod (n := 2048) (H ⟨ro + r.val, by omega⟩) w ⟨o + p + l.val, by omega⟩ := by
    intro l
    rw [extractStridedSlice_apply _ _ _ (ix2 r l) (ix2 r (⟨p + l.val, by omega⟩ : Fin 256)) fun a => by
      match a with
      | ⟨0, _⟩ => exact (Nat.zero_add _).symm
      | ⟨1, _⟩ => rfl]
    rw [dot512_apply, prod_cols]
    simp only [hH, Nat.add_assoc]
  simp only [hd, half_apply]

/-- A group at columns `p` to `p + 127` of the 256 that start at `o`, of 1024 rows. -/
theorem piece1024 (h : FVec Ideal S1024x2048 .bf16) (w : FVec Ideal S2048x2048 .bf16) (cos sin : FVec Ideal S1024x128 .f32)
    (o p : ℕ) (hw hp) (hsl : S1024x256.Slices ![0, p] S1024x128) (ho : (o + p) % 128 = 0) (hpp : p + 128 ≤ 256)
    (x : (Rect.unit (s := S1024x2048) ![0, o + p] ![1024, 128] hp).shape.Idx) :
    rot1024 (extractStridedSlice S1024x128 ![0, p] (dot1024 h (cols w o hw)) hsl) cos sin x
      = rotBlock (fun r k => h (ix2 r k)) w cos sin ((Rect.unit (s := S1024x2048) ![0, o + p] ![1024, 128] hp).emb x) := by
  have hk : o + 256 ≤ 2048 := hw 1
  obtain ⟨r, l, rfl⟩ : ∃ (a : Fin 1024) (b : Fin 128), x = ix2 a b := ⟨x 0, x 1, eq_ix2 x⟩
  have he : (Rect.unit (s := S1024x2048) ![0, o + p] ![1024, 128] hp).emb (ix2 r l)
      = (ix2 r (⟨o + p + l.val, by omega⟩ : Fin 2048) : S1024x2048.Idx) := by
    funext a
    apply Fin.ext
    match a with
    | ⟨0, _⟩ => show 0 + 1 * r.val = r.val; omega
    | ⟨1, _⟩ => show o + p + 1 * l.val = o + p + l.val; omega
  rw [he, rotBlock_at _ w cos sin (o + p) ho (by omega)]
  refine (rot1024_apply _ _ _ r l).trans ?_
  have hd : ∀ l : Fin 128, extractStridedSlice S1024x128 ![0, p] (dot1024 h (cols w o hw)) hsl (ix2 r l)
      = prod (n := 2048) (fun k => h (ix2 r k)) w ⟨o + p + l.val, by omega⟩ := by
    intro l
    rw [extractStridedSlice_apply _ _ _ (ix2 r l) (ix2 r (⟨p + l.val, by omega⟩ : Fin 256)) fun a => by
      match a with
      | ⟨0, _⟩ => exact (Nat.zero_add _).symm
      | ⟨1, _⟩ => rfl]
    rw [dot1024_apply, prod_cols]
    simp only [Nat.add_assoc]
  simp only [hd]

/-- The products of 1024 rows with the 256 columns that start at `o`. -/
theorem plain1024 (h : FVec Ideal S1024x2048 .bf16) (w : FVec Ideal S2048x2048 .bf16) (o : ℕ) (hw hp)
    (x : (Rect.unit (s := S1024x2048) ![0, o] ![1024, 256] hp).shape.Idx) :
    truncf (F := Ideal) .bf16 (dot1024 h (cols w o hw)) bitsLt_bf16_f32 x
      = dotBlock (fun r k => h (ix2 r k)) w ((Rect.unit (s := S1024x2048) ![0, o] ![1024, 256] hp).emb x) := by
  have hk : o + 256 ≤ 2048 := hw 1
  obtain ⟨r, f, rfl⟩ : ∃ (a : Fin 1024) (b : Fin 256), x = ix2 a b := ⟨x 0, x 1, eq_ix2 x⟩
  have he : (Rect.unit (s := S1024x2048) ![0, o] ![1024, 256] hp).emb (ix2 r f)
      = (ix2 r (⟨o + f.val, by omega⟩ : Fin 2048) : S1024x2048.Idx) := by
    funext a
    apply Fin.ext
    match a with
    | ⟨0, _⟩ => show 0 + 1 * r.val = r.val; omega
    | ⟨1, _⟩ => show o + 1 * f.val = o + f.val; omega
  rw [he]
  exact (dot1024_apply h (cols w o hw) r f).trans (prod_cols _ w o hw f)

end Cert.ProjIdeal.Body
-- ==== Proof.Proj.Case.lean ====
module

public import proofs.«01_k».proof.Proof.Proj.Block
public import proofs.«01_k».proof.Proof.Gen.ProjIdeal.Frame
public import Idealize.ShloMosaic.Lib.Pipeline.Value
public import Idealize.ShloMosaic.Lib.Tactic

@[expose] public section

/-!
# What one grid point of the projection leaves, per case of the body's conditionals

Case A is the first of the three points of a row block: the block's rows are modulated into the scratch and the queries'
columns are rotated. Case B rotates the keys' columns, case C computes the values' columns.
-/

noncomputable section

namespace Cert.ProjIdeal.Body

open Cert.ProjIdeal Cert.ProjIdeal.Gen Cert.MlpMath Idealize.ShloMosaic Idealize.ShloMosaic.TcCoe Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A store read back through its own rectangle. -/
theorem readCov_head {Val : EltTy → Type} [∀ e, Nonempty (Val e)] {sig : RefSig} {κ : Kind} {sp : Space} {s : Shape} {e : EltTy}
    (v : View sig κ sp s e) (r : Rect s) (w : r.shape.Idx → Val e) (L : List (View.Piece Val s e)) :
    v.readCov (⟨r, w⟩ :: L) r.toLoadRect = w := by
  rw [View.readCov_eq_canon']
  funext x
  exact View.canon_cons_emb r w L x

/-- A block that pieces cover, each of which restricts one function of its entries, is that function. -/
theorem canon_pieces {Val : EltTy → Type} [∀ e, Nonempty (Val e)] {S : Shape} {e : EltTy} (G : S.Idx → Val e) (L : List (View.Piece Val S e))
    (hL : ∀ p ∈ L, ∀ x : p.1.shape.Idx, p.2 x = G (p.1.emb x)) (hc : ∀ y : S.Idx, ∃ p ∈ L, y ∈ p.1.set) : View.canon L = G :=
  funext fun y => View.canon_apply_of_pieces G L hL y (hc y)

/-- A piece of a block restricts the function `G` of the block's entries. -/
def Fits (G : S1024x2048.Idx → EReal) (p : View.Piece (Elt Ideal) S1024x2048 .bf16) : Prop := ∀ x : p.1.shape.Idx, p.2 x = G (p.1.emb x)

/-- The 256 columns that start at `o`, of 512 rows that start at `ro`: two groups, stored one after the other. -/
theorem pair512 (H : Fin 1024 → Fin 2048 → EReal) (w : FVec Ideal S2048x2048 .bf16) (cos sin : FVec Ideal S1024x128 .f32)
    (h : FVec Ideal S512x2048 .bf16) (ro o : ℕ) (hro : ro + 512 ≤ 1024) (hH : ∀ (r : Fin 512) k, h (ix2 r k) = H ⟨ro + r.val, by omega⟩ k)
    (ho : o % 128 = 0) (hw hc hp0 hp1) {w0 w1 : S512x128.Idx → EReal}
    (e1 : w1 = rot512 (extractStridedSlice S512x128 ![0, 128] (dot512 h (cols w o hw)) slices_S512x256_o0_128_S512x128)
      (half (n := 128) (e := .f32) cos ro hc) (half (n := 128) (e := .f32) sin ro hc))
    (e0 : w0 = rot512 (extractStridedSlice S512x128 ![0, 0] (dot512 h (cols w o hw)) slices_S512x256_o0_0_S512x128)
      (half (n := 128) (e := .f32) cos ro hc) (half (n := 128) (e := .f32) sin ro hc))
    (L : List (View.Piece (Elt Ideal) S1024x2048 .bf16)) (hL : ∀ p ∈ L, Fits (rotBlock H w cos sin) p) :
    ∀ p ∈ (⟨Rect.unit (s := S1024x2048) ![ro, o + 128] ![512, 128] hp1, w1⟩ : View.Piece (Elt Ideal) S1024x2048 .bf16)
      :: ⟨Rect.unit (s := S1024x2048) ![ro, o] ![512, 128] hp0, w0⟩ :: L, Fits (rotBlock H w cos sin) p := by
  subst e0 e1
  refine List.forall_mem_cons.mpr ⟨?_, List.forall_mem_cons.mpr ⟨?_, hL⟩⟩
  · exact piece512 H w cos sin h ro o 128 hro hH hw hc hc hp1 _ (by omega) (by decide)
  · exact piece512 H w cos sin h ro o 0 hro hH hw hc hc hp0 _ ho (by decide)

/-- The 256 columns that start at `o`, of 1024 rows: two groups, stored one after the other. -/
theorem pair1024 (h : FVec Ideal S1024x2048 .bf16) (w : FVec Ideal S2048x2048 .bf16) (cos sin : FVec Ideal S1024x128 .f32)
    (o : ℕ) (ho : o % 128 = 0) (hw hp0 hp1) {w0 w1 : S1024x128.Idx → EReal}
    (e1 : w1 = rot1024 (extractStridedSlice S1024x128 ![0, 128] (dot1024 h (cols w o hw)) slices_S1024x256_o0_128_S1024x128) cos sin)
    (e0 : w0 = rot1024 (extractStridedSlice S1024x128 ![0, 0] (dot1024 h (cols w o hw)) slices_S1024x256_o0_0_S1024x128) cos sin)
    (L : List (View.Piece (Elt Ideal) S1024x2048 .bf16)) (hL : ∀ p ∈ L, Fits (rotBlock (fun r k => h (ix2 r k)) w cos sin) p) :
    ∀ p ∈ (⟨Rect.unit (s := S1024x2048) ![0, o + 128] ![1024, 128] hp1, w1⟩ : View.Piece (Elt Ideal) S1024x2048 .bf16)
      :: ⟨Rect.unit (s := S1024x2048) ![0, o] ![1024, 128] hp0, w0⟩ :: L, Fits (rotBlock (fun r k => h (ix2 r k)) w cos sin) p := by
  subst e0 e1
  refine List.forall_mem_cons.mpr ⟨?_, List.forall_mem_cons.mpr ⟨?_, hL⟩⟩
  · exact piece1024 h w cos sin o 128 hw hp1 _ (by omega) (by decide)
  · exact piece1024 h w cos sin o 0 hw hp0 _ ho (by decide)

/-- The 256 columns that start at `o`, of 1024 rows, as they are. -/
theorem one1024 (h : FVec Ideal S1024x2048 .bf16) (w : FVec Ideal S2048x2048 .bf16) (o : ℕ) (hw hp) {v : S1024x256.Idx → EReal}
    (e : v = truncf (F := Ideal) .bf16 (dot1024 h (cols w o hw)) bitsLt_bf16_f32)
    (L : List (View.Piece (Elt Ideal) S1024x2048 .bf16)) (hL : ∀ p ∈ L, Fits (dotBlock (fun r k => h (ix2 r k)) w) p) :
    ∀ p ∈ (⟨Rect.unit (s := S1024x2048) ![0, o] ![1024, 256] hp, v⟩ : View.Piece (Elt Ideal) S1024x2048 .bf16) :: L,
      Fits (dotBlock (fun r k => h (ix2 r k)) w) p := by
  subst e
  exact List.forall_mem_cons.mpr ⟨plain1024 h w o hw hp, hL⟩

variable (c : Dev nD) (i : grid0.Coords) (arg2 : Memref sig .tc .vmem S1024x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x2048 .bf16) (harg9 : arg9.IsWhole) (arg10 : Memref sig .tc .vmem S1024x2048 .bf16) (harg10 : arg10.IsWhole)
    (x0 : Vec Ideal S1024x2048 .f32) (x1 : Vec Ideal S1x1x1x2048 .f32) (x2 : Vec Ideal S1x1x1x2048 .f32) (x3 : Vec Ideal S1x2048 .f32) (x4 : Vec Ideal S2048x2048 .bf16) (x5 : Vec Ideal S1024x128 .f32) (x6 : Vec Ideal S1024x128 .f32) (xs0 : Vec Ideal S1024x2048 .bf16)

/-- The modulated rows of a block. -/
def modRows (r : Fin 1024) (k : Fin 2048) : EReal :=
  modulated (fun k => x0 (ix2 r k)) (fun k => x3 (ix2 0 k)) (fun k => x1 (ix4 0 0 0 k)) (fun k => x2 (ix4 0 0 0 k)) k

theorem modHalf (o : Nat) (h) (r : Fin 512) (k : Fin 2048) :
    k0_pay8 (F := Ideal) (half (n := 2048) (e := .f32) x0 o h) x3 x2 x1 (ix2 r k)
      = modRows x0 x1 x2 x3 ⟨o + r.val, by have h1 : o + 512 ≤ 1024 := h 0; omega⟩ k := by
  rw [modulated512_apply]
  simp only [half_apply]
  rfl

/-- 512 modulated rows, as a piece of the scratch. -/
theorem modPiece (o : Nat) (h hp) (x : (Rect.unit (s := S1024x2048) ![o, 0] ![512, 2048] hp).shape.Idx) :
    k0_pay8 (F := Ideal) (half (n := 2048) (e := .f32) x0 o h) x3 x2 x1 x
      = (fun i : S1024x2048.Idx => modRows x0 x1 x2 x3 (i 0) (i 1)) ((Rect.unit (s := S1024x2048) ![o, 0] ![512, 2048] hp).emb x) := by
  obtain ⟨r, k, rfl⟩ : ∃ (a : Fin 512) (b : Fin 2048), x = ix2 a b := ⟨x 0, x 1, eq_ix2 x⟩
  refine (modHalf x0 x1 x2 x3 o h r k).trans ?_
  show modRows x0 x1 x2 x3 _ _ = modRows x0 x1 x2 x3 _ _
  congr 1
  · apply Fin.ext; show o + r.val = o + 1 * r.val; omega
  · apply Fin.ext; show k.val = 0 + 1 * k.val; omega

include harg2 harg3 harg4 harg5 in
/-- Case A leaves the modulated rows in the scratch. -/
theorem scratch_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 hc0 hc1 hc2 x0 x1 x2 x3 x4 x5 x6
      = fun i => modRows x0 x1 x2 x3 (i 0) (i 1) := by
  have cover := scover0_A_0 c i arg2 harg2 arg3 harg3 arg4 harg4 arg5 harg5 arg6 harg6 arg7 harg7 arg8 harg8 arg9 harg9 arg10 harg10 hc0 hc1 hc2 x0 x1 x2 x3 x4 x5 x6
  unfold sout0_A_0
  rw [View.read_writes_eq_canon _ _ _ cover]
  refine canon_pieces _ _ ?_ cover
  clear cover
  unfold kernelRun0_A
  dsimp only
  sl_unfold_words
  simp only [View.readAt_eq_ld, harg2.read_unread, harg3.read_unread, harg4.read_unread, harg5.read_unread]
  rw [View.ld_unit_zero (S := S1x2048) hz2, View.ld_unit_zero (S := S1x1x1x2048) hz4, View.ld_unit_zero (S := S1x1x1x2048) hz4]
  refine List.forall_mem_cons.mpr ⟨fun x => ?_, List.forall_mem_singleton.mpr fun x => ?_⟩
  · exact modPiece x0 x1 x2 x3 512 inb_S1024x2048_S512x2048_512_0 inb_S1024x2048_S512x2048_512_0 x
  · exact modPiece x0 x1 x2 x3 0 inb_S1024x2048_S512x2048_0_0 inb_S1024x2048_S512x2048_0_0 x

include harg2 harg3 harg4 harg5 harg6 harg7 harg8 in
/-- Case A leaves the rotated queries. -/
theorem out_A (hc0 : cond0_0 i) (hc1 : ¬cond0_1 i) (hc2 : ¬cond0_2 i) :
    out0_A_7 c i arg2 harg2 arg3 harg3 arg4 harg4 arg5 harg5 arg6 harg6 arg7 harg7 arg8 harg8 arg9 harg9 arg10 harg10 hc0 hc1 hc2 x0 x1 x2 x3 x4 x5 x6
      = rotBlock (modRows x0 x1 x2 x3) x4 x5 x6 := by
  have cover := cover0_A_7 c i arg2 harg2 arg3 harg3 arg4 harg4 arg5 harg5 arg6 harg6 arg7 harg7 arg8 harg8 arg9 harg9 arg10 harg10 hc0 hc1 hc2 x0 x1 x2 x3 x4 x5 x6
  unfold out0_A_7
  rw [View.read_writes_eq_canon _ _ _ cover]
  refine canon_pieces _ _ ?_ cover
  clear cover
  unfold kernelRun0_A
  dsimp only
  sl_unfold_words
  simp only [View.readAt_eq_ld, harg2.read_unread, harg3.read_unread, harg4.read_unread, harg5.read_unread, harg6.read_unread, harg7.read_unread, harg8.read_unread]
  simp only [View.ld_unit_zero (S := S1x2048) hz2, View.ld_unit_zero (S := S1x1x1x2048) hz4]
  rw [readCov_head, readCov_head]
  change ∀ p ∈ _, Fits _ p
  refine pair512 _ _ _ _ _ 512 1792 (by decide) (fun r k => modHalf x0 x1 x2 x3 512 inb_S1024x2048_S512x2048_512_0 r k) rfl inb_S2048x2048_S2048x256_0_1792 inb_S1024x128_S512x128_512_0 _ _ rfl rfl _ ?_
  refine pair512 _ _ _ _ _ 512 1536 (by decide) (fun r k => modHalf x0 x1 x2 x3 512 inb_S1024x2048_S512x2048_512_0 r k) rfl inb_S2048x2048_S2048x256_0_1536 inb_S1024x128_S512x128_512_0 _ _ rfl rfl _ ?_
  refine pair512 _ _ _ _ _ 512 1280 (by decide) (fun r k => modHalf x0 x1 x2 x3 512 inb_S1024x2048_S512x2048_512_0 r k) rfl inb_S2048x2048_S2048x256_0_1280 inb_S1024x128_S512x128_512_0 _ _ rfl rfl _ ?_
  refine pair512 _ _ _ _ _ 512 1024 (by decide) (fun r k => modHalf x0 x1 x2 x3 512 inb_S1024x2048_S512x2048_512_0 r k) rfl inb_S2048x2048_S2048x256_0_1024 inb_S1024x128_S512x128_512_0 _ _ rfl rfl _ ?_
  refine pair512 _ _ _ _ _ 512 768 (by decide) (fun r k => modHalf x0 x1 x2 x3 512 inb_S1024x2048_S512x2048_512_0 r k) rfl inb_S2048x2048_S2048x256_0_768 inb_S1024x128_S512x128_512_0 _ _ rfl rfl _ ?_
  refine pair512 _ _ _ _ _ 512 512 (by decide) (fun r k => modHalf x0 x1 x2 x3 512 inb_S1024x2048_S512x2048_512_0 r k) rfl inb_S2048x2048_S2048x256_0_512 inb_S1024x128_S512x128_512_0 _ _ rfl rfl _ ?_
  refine pair512 _ _ _ _ _ 512 256 (by decide) (fun r k => modHalf x0 x1 x2 x3 512 inb_S1024x2048_S512x2048_512_0 r k) rfl inb_S2048x2048_S2048x256_0_256 inb_S1024x128_S512x128_512_0 _ _ rfl rfl _ ?_
  refine pair512 _ _ _ _ _ 512 0 (by decide) (fun r k => modHalf x0 x1 x2 x3 512 inb_S1024x2048_S512x2048_512_0 r k) rfl inb_S2048x2048_S2048x256_0_0 inb_S1024x128_S512x128_512_0 _ _ rfl rfl _ ?_
  refine pair512 _ _ _ _ _ 0 1792 (by decide) (fun r k => modHalf x0 x1 x2 x3 0 inb_S1024x2048_S512x2048_0_0 r k) rfl inb_S2048x2048_S2048x256_0_1792 inb_S1024x128_S512x128_0_0 _ _ rfl rfl _ ?_
  refine pair512 _ _ _ _ _ 0 1536 (by decide) (fun r k => modHalf x0 x1 x2 x3 0 inb_S1024x2048_S512x2048_0_0 r k) rfl inb_S2048x2048_S2048x256_0_1536 inb_S1024x128_S512x128_0_0 _ _ rfl rfl _ ?_
  refine pair512 _ _ _ _ _ 0 1280 (by decide) (fun r k => modHalf x0 x1 x2 x3 0 inb_S1024x2048_S512x2048_0_0 r k) rfl inb_S2048x2048_S2048x256_0_1280 inb_S1024x128_S512x128_0_0 _ _ rfl rfl _ ?_
  refine pair512 _ _ _ _ _ 0 1024 (by decide) (fun r k => modHalf x0 x1 x2 x3 0 inb_S1024x2048_S512x2048_0_0 r k) rfl inb_S2048x2048_S2048x256_0_1024 inb_S1024x128_S512x128_0_0 _ _ rfl rfl _ ?_
  refine pair512 _ _ _ _ _ 0 768 (by decide) (fun r k => modHalf x0 x1 x2 x3 0 inb_S1024x2048_S512x2048_0_0 r k) rfl inb_S2048x2048_S2048x256_0_768 inb_S1024x128_S512x128_0_0 _ _ rfl rfl _ ?_
  refine pair512 _ _ _ _ _ 0 512 (by decide) (fun r k => modHalf x0 x1 x2 x3 0 inb_S1024x2048_S512x2048_0_0 r k) rfl inb_S2048x2048_S2048x256_0_512 inb_S1024x128_S512x128_0_0 _ _ rfl rfl _ ?_
  refine pair512 _ _ _ _ _ 0 256 (by decide) (fun r k => modHalf x0 x1 x2 x3 0 inb_S1024x2048_S512x2048_0_0 r k) rfl inb_S2048x2048_S2048x256_0_256 inb_S1024x128_S512x128_0_0 _ _ rfl rfl _ ?_
  refine pair512 _ _ _ _ _ 0 0 (by decide) (fun r k => modHalf x0 x1 x2 x3 0 inb_S1024x2048_S512x2048_0_0 r k) rfl inb_S2048x2048_S2048x256_0_0 inb_S1024x128_S512x128_0_0 _ _ rfl rfl _ ?_
  exact List.forall_mem_nil _

include harg6 harg7 harg8 harg10 in
/-- Case B leaves the rotated keys. -/
theorem out_B (hc0 : ¬cond0_0 i) (hc1 : cond0_1 i) (hc2 : ¬cond0_2 i) :
    out0_B_7 c i arg2 harg2 arg3 harg3 arg4 harg4 arg5 harg5 arg6 harg6 arg7 harg7 arg8 harg8 arg9 harg9 arg10 harg10 hc0 hc1 hc2 x0 x1 x2 x3 x4 x5 x6 xs0
      = rotBlock (fun r k => xs0 (ix2 r k)) x4 x5 x6 := by
  have cover := cover0_B_7 c i arg2 harg2 arg3 harg3 arg4 harg4 arg5 harg5 arg6 harg6 arg7 harg7 arg8 harg8 arg9 harg9 arg10 harg10 hc0 hc1 hc2 x0 x1 x2 x3 x4 x5 x6 xs0
  unfold out0_B_7
  rw [View.read_writes_eq_canon _ _ _ cover]
  refine canon_pieces _ _ ?_ cover
  clear cover
  unfold kernelRun0_B
  dsimp only
  sl_unfold_words
  simp only [View.readAt_eq_ld, harg6.read_unread, harg7.read_unread, harg8.read_unread, harg10.read_unread]
  simp only [View.ld_unit_zero (S := S1024x2048) hz2, View.ld_unit_zero (S := S1024x128) hz2]
  change ∀ p ∈ _, Fits _ p
  refine pair1024 xs0 x4 x5 x6 1792 rfl inb_S2048x2048_S2048x256_0_1792 _ _ rfl rfl _ ?_
  refine pair1024 xs0 x4 x5 x6 1536 rfl inb_S2048x2048_S2048x256_0_1536 _ _ rfl rfl _ ?_
  refine pair1024 xs0 x4 x5 x6 1280 rfl inb_S2048x2048_S2048x256_0_1280 _ _ rfl rfl _ ?_
  refine pair1024 xs0 x4 x5 x6 1024 rfl inb_S2048x2048_S2048x256_0_1024 _ _ rfl rfl _ ?_
  refine pair1024 xs0 x4 x5 x6 768 rfl inb_S2048x2048_S2048x256_0_768 _ _ rfl rfl _ ?_
  refine pair1024 xs0 x4 x5 x6 512 rfl inb_S2048x2048_S2048x256_0_512 _ _ rfl rfl _ ?_
  refine pair1024 xs0 x4 x5 x6 256 rfl inb_S2048x2048_S2048x256_0_256 _ _ rfl rfl _ ?_
  refine pair1024 xs0 x4 x5 x6 0 rfl inb_S2048x2048_S2048x256_0_0 _ _ rfl rfl _ ?_
  exact List.forall_mem_nil _

include harg6 harg10 in
/-- Case C leaves the values. -/
theorem out_C (hc0 : ¬cond0_0 i) (hc1 : ¬cond0_1 i) (hc2 : cond0_2 i) :
    out0_C_7 c i arg2 harg2 arg3 harg3 arg4 harg4 arg5 harg5 arg6 harg6 arg7 harg7 arg8 harg8 arg9 harg9 arg10 harg10 hc0 hc1 hc2 x0 x1 x2 x3 x4 x5 x6 xs0
      = dotBlock (fun r k => xs0 (ix2 r k)) x4 := by
  have cover := cover0_C_7 c i arg2 harg2 arg3 harg3 arg4 harg4 arg5 harg5 arg6 harg6 arg7 harg7 arg8 harg8 arg9 harg9 arg10 harg10 hc0 hc1 hc2 x0 x1 x2 x3 x4 x5 x6 xs0
  unfold out0_C_7
  rw [View.read_writes_eq_canon _ _ _ cover]
  refine canon_pieces _ _ ?_ cover
  clear cover
  unfold kernelRun0_C
  dsimp only
  sl_unfold_words
  simp only [View.readAt_eq_ld, harg6.read_unread, harg10.read_unread]
  simp only [View.ld_unit_zero (S := S1024x2048) hz2]
  change ∀ p ∈ _, Fits _ p
  refine one1024 xs0 x4 1792 inb_S2048x2048_S2048x256_0_1792 _ rfl _ ?_
  refine one1024 xs0 x4 1536 inb_S2048x2048_S2048x256_0_1536 _ rfl _ ?_
  refine one1024 xs0 x4 1280 inb_S2048x2048_S2048x256_0_1280 _ rfl _ ?_
  refine one1024 xs0 x4 1024 inb_S2048x2048_S2048x256_0_1024 _ rfl _ ?_
  refine one1024 xs0 x4 768 inb_S2048x2048_S2048x256_0_768 _ rfl _ ?_
  refine one1024 xs0 x4 512 inb_S2048x2048_S2048x256_0_512 _ rfl _ ?_
  refine one1024 xs0 x4 256 inb_S2048x2048_S2048x256_0_256 _ rfl _ ?_
  refine one1024 xs0 x4 0 inb_S2048x2048_S2048x256_0_0 _ rfl _ ?_
  exact List.forall_mem_nil _

end Cert.ProjIdeal.Body
-- ==== Proof.Proj.Rows.lean ====
module

public import proofs.«01_k».proof.Proof.Proj.Block

@[expose] public section

/-!
# The rotation, in the columns of the arguments

A head of 128 columns holds four groups of 32: two pairs, each of which turns by its own angle. The kernel takes
the columns in another order, first the first halves of both pairs, then the second halves, so that the partner
of a column is 64 columns further.
-/

noncomputable section

namespace Cert.ProjIdeal.Body

open Cert.ProjIdeal Cert.ProjIdeal.Gen Cert.MlpMath Idealize.ShloMosaic

/-- The argument's column that the kernel's column `k` is. -/
def source (k : Fin 2048) : Fin 2048 := ⟨k.val / 128 * 128 + k.val / 32 % 2 * 64 + k.val / 64 % 2 * 32 + k.val % 32, by omega⟩

/-- The first column of the pair of groups that the kernel's column `k` belongs to, and the second. -/
def first (k : Fin 2048) : Fin 2048 := ⟨k.val / 128 * 128 + k.val / 32 % 2 * 64 + k.val % 32, by omega⟩
def second (k : Fin 2048) : Fin 2048 := ⟨k.val / 128 * 128 + k.val / 32 % 2 * 64 + 32 + k.val % 32, by omega⟩

/-- The pair and the frequency of lane `n`. -/
def pairOf (n : ℕ) : Fin 2 := ⟨n / 32 % 2, by omega⟩
def freqOf (n : ℕ) : Fin 32 := ⟨n % 32, by omega⟩

/-- The kernel's column `k` of a row `a` of products, after the turn of its pair by the angle with this cosine and sine. -/
def turned (a : Fin 2048 → EReal) (cos sin : Fin 2 → Fin 32 → EReal) (k : Fin 2048) : EReal :=
  if k.val / 64 % 2 = 0 then a (first k) * cos (pairOf k.val) (freqOf k.val) - a (second k) * sin (pairOf k.val) (freqOf k.val)
  else a (second k) * cos (pairOf k.val) (freqOf k.val) + a (first k) * sin (pairOf k.val) (freqOf k.val)

/-- The lanes of the kernel's table of sines: the first half of them with the other sign. -/
def signed (sin : Fin 2 → Fin 32 → EReal) (l : Fin 128) : EReal :=
  if l.val < 64 then -sin (pairOf l.val) (freqOf l.val) else sin (pairOf l.val) (freqOf l.val)

/-- The body's rotation of the reordered row is the turn of its pairs. -/
theorem rotated_source (a : Fin 2048 → EReal) (cos sin : Fin 2 → Fin 32 → EReal) (k : Fin 2048) :
    rotated (fun k => a (source k)) (fun l => cos (pairOf l.val) (freqOf l.val)) (signed sin) k = turned a cos sin k := by
  unfold rotated rotate turned signed
  have hp : pairOf (k.val % 128) = pairOf k.val := Fin.ext (by show k.val % 128 / 32 % 2 = k.val / 32 % 2; omega)
  have hf : freqOf (k.val % 128) = freqOf k.val := Fin.ext (by show k.val % 128 % 32 = k.val % 32; omega)
  have hpar : (partner ⟨k.val % 128, by omega⟩).val = (k.val % 128 + 64) % 128 := rfl
  simp only [hp, hf]
  by_cases h : k.val / 64 % 2 = 0
  · rw [if_pos h, if_pos (by omega), sub_eq_add_neg, ← mul_neg]
    refine congrArg₂ (· + ·) (congrArg (a · * _) (Fin.ext ?_)) (congrArg (a · * _) (Fin.ext ?_))
    · simp only [source, first]; omega
    · simp only [source, second, hpar]; omega
  · rw [if_neg h, if_neg (by omega)]
    refine congrArg₂ (· + ·) (congrArg (a · * _) (Fin.ext ?_)) (congrArg (a · * _) (Fin.ext ?_))
    · simp only [source, second]; omega
    · simp only [source, first, hpar]; omega

end Cert.ProjIdeal.Body
-- ==== Proof.Proj.Blocks.lean ====
module

public import proofs.«01_k».proof.Proof.Proj.Rows
public import proofs.«01_k».proof.Proof.Gen.ProjIdeal.Value
public import Idealize.ShloMosaic.Lib.Pointwise
public import Idealize.ShloMosaic.Lib.Tactic

@[expose] public section

/-!
# What the windows of the projection hold

Grid point `t = 3 * i + j` works on rows `1024 * i` to `1024 * i + 1023` of the flattened rows and on
columns `2048 * j` to `2048 * j + 2047` of the reordered weights. Each theorem reads one window's block in terms of the
arguments of the call.
-/

noncomputable section

namespace Cert.ProjIdeal.Body

open Cert.ProjIdeal Cert.ProjIdeal.Gen Idealize.ShloMosaic Idealize.ShloMosaic.TcCoe Idealize.SL.Sem

variable (m : (ℓ : Loc nD τ sig) → Buf (Elt Ideal) ℓ) (c : Dev nD)

/-- The six arguments. -/
abbrev argX : Vec Ideal S16x2048x2048 .f32 := m ((c : Thread nD τ).loc main_arg0)
abbrev argMods : Vec Ideal S2x32x1x12288 .f32 := m ((c : Thread nD τ).loc main_arg1)
abbrev argG : Vec Ideal S4x2048 .f32 := m ((c : Thread nD τ).loc main_arg2)
abbrev argW : Vec Ideal S2048x6144 .f32 := m ((c : Thread nD τ).loc main_arg3)
abbrev argCos : Vec Ideal S2048x2x32 .f32 := m ((c : Thread nD τ).loc main_arg4)
abbrev argSin : Vec Ideal S2048x2x32 .f32 := m ((c : Thread nD τ).loc main_arg5)

theorem V_v32 : V m c main_v32 = shapeCast S32768x2048 (argX m c) shapeCasts_S16x2048x2048_S32768x2048 := by
  unfold V hostOps0
  after_results_simp <;> rfl

theorem V_v34 : V m c main_v34 = shapeCast S1x2048 (extractStridedSlice S1x1x2048 ![0, 0, 0]
    (shapeCast S4x1x2048 (argG m c) shapeCasts_S4x2048_S4x1x2048) slices_S4x1x2048_S1x1x2048_0_0_0) shapeCasts_S1x1x2048_S1x2048 := by
  unfold V hostOps0
  after_results_simp <;> rfl

/-- The columns from column `o` of the weights, in the kernel's order. -/
def reordered (w : Vec Ideal S2048x6144 .f32) (o : ℕ) (h : S2048x6144.Slices ![0, o] S2048x2048) : FVec Ideal S2048x2048 .f32 :=
  shapeCast S2048x2048 (transpose S2048x16x2x2x32 [0, 1, 3, 2, 4] (shapeCast S2048x16x2x2x32 (extractStridedSlice S2048x2048 ![0, o] w h)
    shapeCasts_S2048x2048_S2048x16x2x2x32) transposes_S2048x16x2x2x32_S2048x16x2x2x32_0_1_3_2_4) shapeCasts_S2048x16x2x2x32_S2048x2048

/-- The kernel's column `k` of the reordered columns. -/
theorem reordered_apply (w : Vec Ideal S2048x6144 .f32) (o : ℕ) (h) (q k : Fin 2048) :
    reordered w o h (ix2 q k) = w (ix2 q ⟨o + (source k).val, by have h1 : o + 2048 ≤ 6144 := h.2 1; omega⟩) := by
  have h1 : o + 2048 ≤ 6144 := h.2 1
  unfold reordered
  rw [shapeCast_apply _ _ _ (ix5 q (⟨k.val / 128, by omega⟩ : Fin 16) (⟨k.val / 64 % 2, by omega⟩ : Fin 2) (⟨k.val / 32 % 2, by omega⟩ : Fin 2)
    (⟨k.val % 32, by omega⟩ : Fin 32)) (by
      rewrite [Shape.rowMajor_val_five, Shape.rowMajor_val_two]
      show (((q.val * 16 + k.val / 128) * 2 + k.val / 64 % 2) * 2 + k.val / 32 % 2) * 32 + k.val % 32 = q.val * 2048 + k.val
      omega)]
  rw [transpose_apply _ _ _ _ (ix5 q (⟨k.val / 128, by omega⟩ : Fin 16) (⟨k.val / 32 % 2, by omega⟩ : Fin 2) (⟨k.val / 64 % 2, by omega⟩ : Fin 2)
    (⟨k.val % 32, by omega⟩ : Fin 32)) fun a => by fin_cases a <;> rfl]
  rw [shapeCast_apply _ _ _ (ix2 q (source k)) (by
      rewrite [Shape.rowMajor_val_five, Shape.rowMajor_val_two]
      show q.val * 2048 + (k.val / 128 * 128 + k.val / 32 % 2 * 64 + k.val / 64 % 2 * 32 + k.val % 32)
        = (((q.val * 16 + k.val / 128) * 2 + k.val / 32 % 2) * 2 + k.val / 64 % 2) * 32 + k.val % 32
      omega)]
  exact extractStridedSlice_apply _ _ _ _ _ fun a => by
    match a with
    | ⟨0, _⟩ => exact (Nat.zero_add _).symm
    | ⟨1, _⟩ => rfl

/-- Three blocks of columns side by side. -/
def beside (A B C : FVec Ideal S2048x2048 .f32) : FVec Ideal S2048x6144 .f32 :=
  concatenate S2048x6144 1 [⟨S2048x2048, A⟩, ⟨S2048x2048, B⟩, ⟨S2048x2048, C⟩] concatenates_S2048x2048_S2048x2048_S2048x2048_S2048x6144_d1

theorem beside_apply (A B C : FVec Ideal S2048x2048 .f32) (q : Fin 2048) (k : Fin 6144) :
    beside A B C (ix2 q k)
      = if h : k.val < 2048 then A (ix2 q ⟨k.val, h⟩) else if h' : k.val < 4096 then B (ix2 q ⟨k.val - 2048, by omega⟩)
        else C (ix2 q ⟨k.val - 4096, by omega⟩) := by
  pointwise [beside]
  by_cases h0 : k.val < 2048
  · rw [dif_pos h0, dif_pos h0]
  · rw [dif_neg h0, dif_neg h0]
    by_cases h1 : k.val < 4096
    · rw [dif_pos (by omega), dif_pos h1]
    · rw [dif_neg (by omega), dif_neg h1]
      exact congrArg (fun f => C (ix2 q f)) (Fin.ext (by dsimp only; omega))

theorem V_v11 : V m c main_v11 = beside (reordered (argW m c) 0 slices_S2048x6144_S2048x2048_0_0)
    (reordered (argW m c) 2048 slices_S2048x6144_S2048x2048_0_2048)
    (extractStridedSlice S2048x2048 ![0, 4096] (argW m c) slices_S2048x6144_S2048x2048_0_4096) := by
  unfold V hostOps0
  after_results_simp <;> rfl

/-- Four groups of lanes side by side. -/
def lanes (A B C D : FVec Ideal S2048x32 .f32) : FVec Ideal S2048x128 .f32 :=
  concatenate S2048x128 1 [⟨S2048x32, A⟩, ⟨S2048x32, B⟩, ⟨S2048x32, C⟩, ⟨S2048x32, D⟩] concatenates_S2048x32_S2048x32_S2048x32_S2048x32_S2048x128_d1

theorem lanes_apply (A B C D : FVec Ideal S2048x32 .f32) (s : Fin 2048) (l : Fin 128) :
    lanes A B C D (ix2 s l) = if l.val < 32 then A (ix2 s (freqOf l.val)) else if l.val < 64 then B (ix2 s (freqOf l.val))
      else if l.val < 96 then C (ix2 s (freqOf l.val)) else D (ix2 s (freqOf l.val)) := by
  pointwise [lanes]
  by_cases h0 : l.val < 32
  · rw [dif_pos h0, if_pos h0]
    exact congrArg (fun f => A (ix2 s f)) (Fin.ext (by simp only [freqOf]; omega))
  · rw [dif_neg h0, if_neg h0]
    by_cases h1 : l.val < 64
    · rw [dif_pos (by omega), if_pos h1]
      exact congrArg (fun f => B (ix2 s f)) (Fin.ext (by simp only [freqOf]; omega))
    · rw [dif_neg (by omega), if_neg h1]
      by_cases h2 : l.val < 96
      · rw [dif_pos (by omega), if_pos h2]
        exact congrArg (fun f => C (ix2 s f)) (Fin.ext (by simp only [freqOf]; omega))
      · rw [dif_neg (by omega), if_neg h2]
        exact congrArg (fun f => D (ix2 s f)) (Fin.ext (by simp only [freqOf]; omega))

/-- The half of a table that belongs to pair `p`. -/
def pair0 (x : Vec Ideal S2048x2x32 .f32) : FVec Ideal S2048x32 .f32 :=
  shapeCast S2048x32 (extractStridedSlice S2048x1x32 ![0, 0, 0] x slices_S2048x2x32_S2048x1x32_0_0_0) shapeCasts_S2048x1x32_S2048x32
def pair1 (x : Vec Ideal S2048x2x32 .f32) : FVec Ideal S2048x32 .f32 :=
  shapeCast S2048x32 (extractStridedSlice S2048x1x32 ![0, 1, 0] x slices_S2048x2x32_S2048x1x32_0_1_0) shapeCasts_S2048x1x32_S2048x32

theorem pair0_apply (x : Vec Ideal S2048x2x32 .f32) (s : Fin 2048) (f : Fin 32) : pair0 x (ix2 s f) = x (ix3 s 0 f) := by
  pointwise [pair0]
  try rfl
theorem pair1_apply (x : Vec Ideal S2048x2x32 .f32) (s : Fin 2048) (f : Fin 32) : pair1 x (ix2 s f) = x (ix3 s 1 f) := by
  pointwise [pair1]
  try rfl

theorem V_v20 : V m c main_v20 = lanes (pair0 (argCos m c)) (pair1 (argCos m c)) (pair0 (argCos m c)) (pair1 (argCos m c)) := by
  unfold V hostOps0
  after_results_simp <;> rfl

theorem V_v31 : V m c main_v31 = lanes (Host.negf (pair0 (argSin m c))) (Host.negf (pair1 (argSin m c))) (pair0 (argSin m c)) (pair1 (argSin m c)) := by
  unfold V hostOps0
  after_results_simp <;> rfl

/-- The cosines and the sines of a position. -/
def cosOf (s : Fin 2048) (p : Fin 2) (f : Fin 32) : EReal := argCos m c (ix3 s p f)
def sinOf (s : Fin 2048) (p : Fin 2) (f : Fin 32) : EReal := argSin m c (ix3 s p f)

theorem V_cos (s : Fin 2048) (l : Fin 128) : V m c main_v20 (ix2 s l) = cosOf m c s (pairOf l.val) (freqOf l.val) := by
  rw [V_v20, lanes_apply]
  simp only [pair0_apply, pair1_apply]
  unfold cosOf
  split_ifs <;> (congr 2; apply Fin.ext; simp only [pairOf, Fin.val_zero, Fin.val_one]; omega)

theorem V_sin (s : Fin 2048) (l : Fin 128) : V m c main_v31 (ix2 s l) = signed (sinOf m c s) l := by
  rw [V_v31, lanes_apply]
  have n0 : ∀ f, Host.negf (pair0 (argSin m c)) (ix2 s f) = -argSin m c (ix3 s 0 f) := fun f => congrArg (fun x : EReal => -x) (pair0_apply (argSin m c) s f)
  have n1 : ∀ f, Host.negf (pair1 (argSin m c)) (ix2 s f) = -argSin m c (ix3 s 1 f) := fun f => congrArg (fun x : EReal => -x) (pair1_apply (argSin m c) s f)
  simp only [n0, n1, pair0_apply, pair1_apply]
  unfold signed sinOf
  split_ifs <;> first | (exfalso; omega) | (congr 3; apply Fin.ext; simp only [pairOf, Fin.val_zero, Fin.val_one]; omega) | (congr 2; apply Fin.ext; simp only [pairOf, Fin.val_zero, Fin.val_one]; omega)

theorem index0 : ∀ t : Fin cfg0.N, win0_0.index t 0 = t.val / 3 ∧ win0_0.index t 1 = 0 :=
  (by decide +kernel : ∀ t : Fin grid0.N, _)
theorem index1 : ∀ t : Fin cfg0.N, win0_1.index t 0 = 1 ∧ win0_1.index t 1 = t.val / 6 ∧ win0_1.index t 2 = 0 ∧ win0_1.index t 3 = 0 :=
  (by decide +kernel : ∀ t : Fin grid0.N, _)
theorem index2 : ∀ t : Fin cfg0.N, win0_2.index t 0 = 1 ∧ win0_2.index t 1 = t.val / 6 ∧ win0_2.index t 2 = 0 ∧ win0_2.index t 3 = 1 :=
  (by decide +kernel : ∀ t : Fin grid0.N, _)
theorem index3 : ∀ t : Fin cfg0.N, win0_3.index t 0 = 0 ∧ win0_3.index t 1 = 0 :=
  (by decide +kernel : ∀ t : Fin grid0.N, _)
theorem index4 : ∀ t : Fin cfg0.N, win0_4.index t 0 = 0 ∧ win0_4.index t 1 = t.val % 3 :=
  (by decide +kernel : ∀ t : Fin grid0.N, _)
theorem index5 : ∀ t : Fin cfg0.N, win0_5.index t 0 = t.val / 3 % 2 ∧ win0_5.index t 1 = 0 :=
  (by decide +kernel : ∀ t : Fin grid0.N, _)
theorem index6 : ∀ t : Fin cfg0.N, win0_6.index t 0 = t.val / 3 % 2 ∧ win0_6.index t 1 = 0 :=
  (by decide +kernel : ∀ t : Fin grid0.N, _)

theorem lt96 (t : Fin cfg0.N) : t.val < 96 := lt_of_lt_of_eq t.isLt N_0

/-- The batch element point `t` works on, and the position in it of row `r` of the point's block. -/
def batchOf (t : Fin cfg0.N) : Fin 16 := ⟨t.val / 6, by have := lt96 t; omega⟩
def posOf (t : Fin cfg0.N) (r : Fin 1024) : Fin 2048 := ⟨(t.val / 3 % 2) * 1024 + r.val, by omega⟩

/-- Row `r` of the block of rows of point `t`. -/
theorem blk_x (t : Fin cfg0.N) (r : Fin 1024) (k : Fin 2048) :
    (iblk m c 0 t : Vec Ideal S1024x2048 .f32) (ix2 r k)
      = argX m c (ix3 (batchOf t) (posOf t r) k) := by
  have ht := lt96 t
  obtain ⟨e0, e1⟩ := index0 t
  have h : (iblk m c 0 t : Vec Ideal S1024x2048 .f32) (ix2 r k) = V m c main_v32 (ix2 (⟨(t.val / 3) * 1024 + r.val, by omega⟩ : Fin 32768) k) := by
    unfold iblk
    show V m c main_v32 _ = V m c main_v32 _
    congr 1
    funext a
    apply Fin.ext
    match a with
    | ⟨0, _⟩ => show win0_0.index t 0 * 1024 + 1 * r.val = t.val / 3 * 1024 + r.val; rw [e0]; omega
    | ⟨1, _⟩ => show win0_0.index t 1 * 2048 + 1 * k.val = k.val; rw [e1]; omega
  rw [h, V_v32]
  refine shapeCast_apply _ _ _ _ ?_
  rewrite [Shape.rowMajor_val_three, Shape.rowMajor_val_two]
  show (t.val / 6 * 2048 + (t.val / 3 % 2 * 1024 + r.val)) * 2048 + k.val = (t.val / 3 * 1024 + r.val) * 2048 + k.val
  omega

/-- Entry `k` of chunk `q` of batch element `b`'s modulation vector. -/
def modsOf (q : Fin 6) (b : Fin 16) (k : Fin 2048) : EReal :=
  argMods m c (ix4 1 ⟨b.val, by omega⟩ 0 ⟨q.val * 2048 + k.val, by omega⟩)

theorem blk_shift (t : Fin cfg0.N) (k : Fin 2048) :
    (iblk m c 1 t : Vec Ideal S1x1x1x2048 .f32) (ix4 0 0 0 k) = modsOf m c 0 (batchOf t) k := by
  obtain ⟨e0, e1, e2, e3⟩ := index1 t
  unfold iblk modsOf
  show V m c main_arg1 _ = argMods m c _
  rw [V_main_arg1]
  congr 1
  funext a
  apply Fin.ext
  match a with
  | ⟨0, _⟩ => show win0_1.index t 0 * 1 + 1 * 0 = 1; rw [e0]
  | ⟨1, _⟩ => show win0_1.index t 1 * 1 + 1 * 0 = t.val / 6; rw [e1]; omega
  | ⟨2, _⟩ => show win0_1.index t 2 * 1 + 1 * 0 = 0; rw [e2]
  | ⟨3, _⟩ => show win0_1.index t 3 * 2048 + 1 * k.val = 0 * 2048 + k.val; rw [e3]; omega

theorem blk_scale (t : Fin cfg0.N) (k : Fin 2048) :
    (iblk m c 2 t : Vec Ideal S1x1x1x2048 .f32) (ix4 0 0 0 k) = modsOf m c 1 (batchOf t) k := by
  obtain ⟨e0, e1, e2, e3⟩ := index2 t
  unfold iblk modsOf
  show V m c main_arg1 _ = argMods m c _
  rw [V_main_arg1]
  congr 1
  funext a
  apply Fin.ext
  match a with
  | ⟨0, _⟩ => show win0_2.index t 0 * 1 + 1 * 0 = 1; rw [e0]
  | ⟨1, _⟩ => show win0_2.index t 1 * 1 + 1 * 0 = t.val / 6; rw [e1]; omega
  | ⟨2, _⟩ => show win0_2.index t 2 * 1 + 1 * 0 = 0; rw [e2]
  | ⟨3, _⟩ => show win0_2.index t 3 * 2048 + 1 * k.val = 1 * 2048 + k.val; rw [e3]; omega

/-- The gain is row 0 of the gains. -/
theorem blk_g (t : Fin cfg0.N) (k : Fin 2048) :
    (iblk m c 3 t : Vec Ideal S1x2048 .f32) (ix2 0 k) = argG m c (ix2 0 k) := by
  obtain ⟨e0, e1⟩ := index3 t
  have h : (iblk m c 3 t : Vec Ideal S1x2048 .f32) (ix2 0 k) = V m c main_v34 (ix2 (0 : Fin 1) k) := by
    unfold iblk
    show V m c main_v34 _ = V m c main_v34 _
    congr 1
    funext a
    apply Fin.ext
    match a with
    | ⟨0, _⟩ => show win0_3.index t 0 * 1 + 1 * 0 = 0; rw [e0]
    | ⟨1, _⟩ => show win0_3.index t 1 * 2048 + 1 * k.val = k.val; rw [e1]; omega
  rw [h, V_v34]
  pointwise
  try rfl

/-- The columns of the weights that belong to block `j`, in the kernel's order. -/
def weightOf (j : ℕ) (q k : Fin 2048) : EReal :=
  if j % 3 = 2 then argW m c (ix2 q ⟨2 * 2048 + k.val, by omega⟩) else argW m c (ix2 q ⟨j % 3 * 2048 + (source k).val, by omega⟩)

theorem V_w (j : ℕ) (hj : j < 3) (q k : Fin 2048) :
    V m c main_v11 (ix2 q (⟨j * 2048 + k.val, by omega⟩ : Fin 6144)) = weightOf m c j q k := by
  rw [V_v11]
  unfold weightOf
  refine (beside_apply _ _ _ q _).trans ?_
  by_cases h0 : j = 0
  · subst h0
    rw [dif_pos (by dsimp only; omega), if_neg (by omega), reordered_apply]
    exact congrArg (fun f => argW m c (ix2 q f)) (Fin.ext (by simp only [source]; omega))
  · by_cases h1 : j = 1
    · subst h1
      rw [dif_neg (by dsimp only; omega), dif_pos (by dsimp only; omega), if_neg (by omega), reordered_apply]
      exact congrArg (fun f => argW m c (ix2 q f)) (Fin.ext (by simp only [source]; omega))
    · have h2 : j = 2 := by omega
      subst h2
      rw [dif_neg (by dsimp only; omega), dif_neg (by dsimp only; omega), if_pos rfl]
      exact extractStridedSlice_apply _ _ _ _ _ fun a => by
        match a with
        | ⟨0, _⟩ => show q.val = 0 + q.val; omega
        | ⟨1, _⟩ => show 2 * 2048 + k.val = 4096 + (2 * 2048 + k.val - 4096); omega

theorem blk_w (t : Fin cfg0.N) (q k : Fin 2048) :
    (iblk m c 4 t : Vec Ideal S2048x2048 .bf16) (ix2 q k) = weightOf m c t.val q k := by
  obtain ⟨e0, e1⟩ := index4 t
  have h : (iblk m c 4 t : Vec Ideal S2048x2048 .bf16) (ix2 q k) = V m c main_v11 (ix2 q (⟨(t.val % 3) * 2048 + k.val, by omega⟩ : Fin 6144)) := by
    unfold iblk
    show V m c main_v11 _ = V m c main_v11 _
    congr 1
    funext a
    apply Fin.ext
    match a with
    | ⟨0, _⟩ => show win0_4.index t 0 * 2048 + 1 * q.val = q.val; rw [e0]; omega
    | ⟨1, _⟩ => show win0_4.index t 1 * 2048 + 1 * k.val = t.val % 3 * 2048 + k.val; rw [e1]; omega
  rw [h, V_w m c _ (by omega)]
  unfold weightOf
  simp only [Nat.mod_mod]

theorem blk_cos (t : Fin cfg0.N) (r : Fin 1024) (l : Fin 128) :
    (iblk m c 5 t : Vec Ideal S1024x128 .f32) (ix2 r l) = cosOf m c (posOf t r) (pairOf l.val) (freqOf l.val) := by
  obtain ⟨e0, e1⟩ := index5 t
  rw [← V_cos]
  unfold iblk
  show V m c main_v20 _ = V m c main_v20 _
  congr 1
  funext a
  apply Fin.ext
  match a with
  | ⟨0, _⟩ => show win0_5.index t 0 * 1024 + 1 * r.val = t.val / 3 % 2 * 1024 + r.val; rw [e0]; omega
  | ⟨1, _⟩ => show win0_5.index t 1 * 128 + 1 * l.val = l.val; rw [e1]; omega

theorem blk_sin (t : Fin cfg0.N) (r : Fin 1024) (l : Fin 128) :
    (iblk m c 6 t : Vec Ideal S1024x128 .f32) (ix2 r l) = signed (sinOf m c (posOf t r)) l := by
  obtain ⟨e0, e1⟩ := index6 t
  rw [← V_sin]
  unfold iblk
  show V m c main_v31 _ = V m c main_v31 _
  congr 1
  funext a
  apply Fin.ext
  match a with
  | ⟨0, _⟩ => show win0_6.index t 0 * 1024 + 1 * r.val = t.val / 3 % 2 * 1024 + r.val; rw [e0]; omega
  | ⟨1, _⟩ => show win0_6.index t 1 * 128 + 1 * l.val = l.val; rw [e1]; omega

end Cert.ProjIdeal.Body
-- ==== Proof.Proj.Array.lean ====
module

public import proofs.«01_k».proof.Proof.Proj.Case
public import proofs.«01_k».proof.Proof.Proj.Blocks

@[expose] public section

/-!
# What the projection's result array holds

The three points of a row block modulate its rows once, and multiply them with the queries', the keys' and the values'
columns; the queries and the keys are rotated. Each point's block is written back where it belongs.
-/

noncomputable section

namespace Cert.ProjIdeal.Body

open Cert.ProjIdeal Cert.ProjIdeal.Gen Cert.ProjIdeal.Value Cert.MlpMath Idealize.ShloMosaic Idealize.ShloMosaic.TcCoe Idealize.SL.Sem

variable (m : (ℓ : Loc nD τ sig) → Buf (Elt Ideal) ℓ) (c : Dev nD)

/-- The modulated row at position `s` of batch element `b`. -/
def hRow (b : Fin 16) (s : Fin 2048) : Fin 2048 → EReal :=
  modulated (fun k => argX m c (ix3 b s k)) (fun k => argG m c (ix2 0 k)) (modsOf m c 0 b) (modsOf m c 1 b)

/-- Its product with column `k` of part `j` of the weights: the queries', the keys' and the values' columns. -/
def products (b : Fin 16) (s : Fin 2048) (j : Fin 3) (k : Fin 2048) : EReal :=
  ∑ q : Fin 2048, hRow m c b s q * argW m c (ix2 q ⟨j.val * 2048 + k.val, by omega⟩)

/-- Column `k` of part `j` of the row of the result: the values as they are, the queries and keys rotated. -/
def projected (b : Fin 16) (s : Fin 2048) (j : Fin 3) (k : Fin 2048) : EReal :=
  if j.val = 2 then products m c b s j k else turned (products m c b s j) (cosOf m c s) (sinOf m c s) k

theorem modRows_blk (t : Fin cfg0.N) (r : Fin 1024) :
    modRows (iblk m c 0 t) (iblk m c 1 t) (iblk m c 2 t) (iblk m c 3 t) r = hRow m c (batchOf t) (posOf t r) := by
  funext k
  unfold modRows hRow
  simp only [blk_x, blk_shift, blk_scale, blk_g]

/-- The modulated rows of point `t`'s block, as the scratch holds them. -/
def hBlock (t : Fin cfg0.N) : S1024x2048.Idx → EReal := fun i => hRow m c (batchOf t) (posOf t (i 0)) (i 1)

/-- The part of the columns that point `t` computes. -/
def partOf (t : Fin cfg0.N) : Fin 3 := ⟨t.val % 3, by omega⟩

/-- What point `t` leaves for its block of the result. -/
def leftBlock (t : Fin cfg0.N) : S1024x2048.Idx → EReal := fun i => projected m c (batchOf t) (posOf t (i 0)) (partOf t) (i 1)

/-- The products with the weights of a point, when its part is rotated. -/
theorem prod_rotated (t : Fin cfg0.N) (b : Fin 16) (s : Fin 2048) (h2 : t.val % 3 ≠ 2) (k : Fin 2048) :
    prod (n := 2048) (hRow m c b s) (iblk m c 4 t) k = products m c b s (partOf t) (source k) := by
  unfold prod products
  refine Finset.sum_congr rfl fun q _ => congrArg (hRow m c b s q * ·) ?_
  rw [blk_w]
  unfold weightOf
  rw [if_neg h2]
  rfl

/-- The products with the weights of a point, when its part is not rotated. -/
theorem prod_plain (t : Fin cfg0.N) (b : Fin 16) (s : Fin 2048) (h2 : t.val % 3 = 2) (k : Fin 2048) :
    prod (n := 2048) (hRow m c b s) (iblk m c 4 t) k = products m c b s (partOf t) k := by
  unfold prod products
  refine Finset.sum_congr rfl fun q _ => congrArg (hRow m c b s q * ·) ?_
  rw [blk_w]
  unfold weightOf
  rw [if_pos h2]
  exact congrArg (fun f => argW m c (ix2 q f)) (Fin.ext (by show 2 * 2048 + k.val = t.val % 3 * 2048 + k.val; rw [h2]))

theorem rotBlock_blk (t : Fin cfg0.N) (h2 : t.val % 3 ≠ 2) (H : Fin 1024 → Fin 2048 → EReal)
    (hH : ∀ r, H r = hRow m c (batchOf t) (posOf t r)) :
    rotBlock H (iblk m c 4 t) (iblk m c 5 t) (iblk m c 6 t) = leftBlock m c t := by
  funext i
  obtain ⟨r, k, rfl⟩ : ∃ (a : Fin 1024) (b : Fin 2048), i = ix2 a b := ⟨i 0, i 1, eq_ix2 i⟩
  show rotated (prod (n := 2048) (H r) (iblk m c 4 t)) (fun l => (iblk m c 5 t : Vec Ideal S1024x128 .f32) (ix2 r l))
    (fun l => (iblk m c 6 t : Vec Ideal S1024x128 .f32) (ix2 r l)) k = projected m c (batchOf t) (posOf t r) (partOf t) k
  have hp : prod (n := 2048) (H r) (iblk m c 4 t) = fun k => products m c (batchOf t) (posOf t r) (partOf t) (source k) :=
    funext fun k => by rw [hH, prod_rotated m c t _ _ h2]
  rw [hp]
  simp only [blk_cos, blk_sin]
  exact (rotated_source _ _ _ k).trans (if_neg h2).symm

theorem dotBlock_blk (t : Fin cfg0.N) (h2 : t.val % 3 = 2) (H : Fin 1024 → Fin 2048 → EReal)
    (hH : ∀ r, H r = hRow m c (batchOf t) (posOf t r)) :
    dotBlock H (iblk m c 4 t) = leftBlock m c t := by
  funext i
  obtain ⟨r, k, rfl⟩ : ∃ (a : Fin 1024) (b : Fin 2048), i = ix2 a b := ⟨i 0, i 1, eq_ix2 i⟩
  show prod (n := 2048) (H r) (iblk m c 4 t) k = projected m c (batchOf t) (posOf t r) (partOf t) k
  rw [hH, prod_plain m c t _ _ h2]
  exact (if_pos h2).symm

/-- The first point of a row block: its scratch and its block. -/
theorem step_A (t : Fin cfg0.N) (h0 : t.val % 3 = 0) : outsAt0 m c t.val t.isLt = (leftBlock m c t, hBlock m c t) := by
  rw [outsAt0_A m c t h0 (by omega) (by omega)]
  refine Prod.ext ?_ ?_
  · dsimp only
    rw [out_A]
    exact rotBlock_blk m c t (by omega) _ fun r => modRows_blk m c t r
  · dsimp only
    rw [scratch_A]
    exact funext fun i => congrFun (modRows_blk m c t (i 0)) (i 1)

theorem step_B (t : Fin cfg0.N) (h1 : t.val % 3 = 1)
    (e : (outsAt0 m c (t.val - 1) (Nat.lt_of_le_of_lt (Nat.sub_le _ _) t.isLt)).2 = hBlock m c t) :
    outsAt0 m c t.val t.isLt = (leftBlock m c t, hBlock m c t) := by
  rw [outsAt0_B m c t (by omega) h1 (by omega), e]
  refine Prod.ext ?_ rfl
  dsimp only
  rw [out_B]
  exact rotBlock_blk m c t (by omega) _ fun r => rfl

theorem step_C (t : Fin cfg0.N) (h2 : t.val % 3 = 2)
    (e : (outsAt0 m c (t.val - 1) (Nat.lt_of_le_of_lt (Nat.sub_le _ _) t.isLt)).2 = hBlock m c t) :
    (outsAt0 m c t.val t.isLt).1 = leftBlock m c t := by
  rw [outsAt0_C m c t (by omega) (by omega) h2, e]
  dsimp only
  rw [out_C]
  exact dotBlock_blk m c t h2 _ fun r => rfl

/-- Two points of one row block have the same modulated rows. -/
theorem hBlock_congr (t t' : Fin cfg0.N) (h : t.val / 3 = t'.val / 3) : hBlock m c t = hBlock m c t' := by
  have hb : batchOf t = batchOf t' := Fin.ext (by show t.val / 6 = t'.val / 6; omega)
  have hp : ∀ r, posOf t r = posOf t' r := fun r => Fin.ext (by show t.val / 3 % 2 * 1024 + r.val = t'.val / 3 % 2 * 1024 + r.val; rw [h])
  funext i
  show hRow m c (batchOf t) (posOf t (i 0)) (i 1) = hRow m c (batchOf t') (posOf t' (i 0)) (i 1)
  rw [hb, hp (i 0)]

/-- Every point leaves its part of the rows. -/
theorem outs_eq (t : Fin cfg0.N) : (outsAt0 m c t.val t.isLt).1 = leftBlock m c t := by
  have scratch1 : ∀ t : Fin cfg0.N, t.val % 3 = 1 → outsAt0 m c t.val t.isLt = (leftBlock m c t, hBlock m c t) := fun t h1 =>
    step_B m c t h1 ((congrArg Prod.snd (step_A m c ⟨t.val - 1, Nat.lt_of_le_of_lt (Nat.sub_le _ _) t.isLt⟩ (by dsimp only; omega))).trans
      (hBlock_congr m c _ t (by dsimp only; omega)))
  by_cases h0 : t.val % 3 = 0
  · rw [step_A m c t h0]
  · by_cases h1 : t.val % 3 = 1
    · rw [scratch1 t h1]
    · exact step_C m c t (by omega) ((congrArg Prod.snd (scratch1 ⟨t.val - 1, Nat.lt_of_le_of_lt (Nat.sub_le _ _) t.isLt⟩ (by dsimp only; omega))).trans
        (hBlock_congr m c _ t (by dsimp only; omega)))

/-- The result array. -/
theorem array_eq (R : Fin 32768) (j : Fin 3) (k : Fin 2048) :
    G7 m c (ix2 R (⟨j.val * 2048 + k.val, by omega⟩ : Fin 6144)) = projected m c ⟨R.val / 2048, by omega⟩ ⟨R.val % 2048, by omega⟩ j k := by
  have hN : cfg0.N = 96 := N_0
  generalize hK : (⟨j.val * 2048 + k.val, by omega⟩ : Fin 6144) = K
  have hKv : K.val = j.val * 2048 + k.val := by rw [← hK]
  have hp : pt7Of (ix2 R K) = 3 * (R.val / 1024) + j.val := by
    show 3 * (R.val / 1024 - 0) + 1 * (K.val / 2048 - 0) = _
    omega
  have hlt : pt7Of (ix2 R K) < cfg0.N := by rw [hp, hN]; omega
  unfold G7
  rw [dif_pos hlt, ← outsAt0_sweep m c _ hlt, outs_eq m c ⟨pt7Of (ix2 R K), hlt⟩]
  show projected m c _ _ _ _ = projected m c _ _ _ _
  congr 1
  · apply Fin.ext; show pt7Of (ix2 R K) / 6 = R.val / 2048; rw [hp]; omega
  · apply Fin.ext; show pt7Of (ix2 R K) / 3 % 2 * 1024 + R.val % 1024 = R.val % 2048; rw [hp]; omega
  · apply Fin.ext; show pt7Of (ix2 R K) % 3 = j.val; rw [hp]; omega
  · apply Fin.ext; show K.val % 2048 = k.val; rw [hKv]; omega

end Cert.ProjIdeal.Body
-- ==== Proof.Proj.Ref.lean ====
module

public import proofs.«01_k».proof.Proof.Proj.Rows
public import proofs.«01_k».proof.Proof.Gen.ProjReferenceIdeal.Read
public import Idealize.ShloMosaic.Lib.Pointwise

@[expose] public section

/-!
# What the reference's projection computes

The stages of the plain program, read entry by entry: the modulated row, its product with the weights, and the turned
pairs of the queries and the keys.
-/

noncomputable section

namespace Cert.ProjReferenceIdeal.Body

open Cert.ProjReferenceIdeal Cert.ProjReferenceIdeal.Gen Cert.ProjReferenceIdeal.Read Cert.MlpMath Idealize.ShloMosaic Idealize.ShloMosaic.TcCoe Idealize.SL.Sem
open Cert.ProjIdeal.Body (turned first second pairOf freqOf)

variable (x : FVec Ideal S16x2048x2048 .f32) (mods : FVec Ideal S2x32x1x12288 .f32) (g : FVec Ideal S4x2048 .f32)
  (w : FVec Ideal S2048x6144 .f32) (cos sin : FVec Ideal S2048x2x32 .f32) (b : Fin 16) (s : Fin 2048)

/-- Entry `k` of chunk `q` of batch element `b`'s modulation vector. -/
def modsOf (q : Fin 6) (k : Fin 2048) : EReal := mods (ix4 1 ⟨b.val, by omega⟩ 0 ⟨q.val * 2048 + k.val, by omega⟩)

theorem chunk0 (k : Fin 2048) : val_main_v2 (F := Ideal) mods (ix3 b 0 k) = modsOf mods b 0 k := by
  pointwise [val_main_v2, val_main_v1, val_main_v0, modsOf]
theorem chunk1 (k : Fin 2048) : val_main_v3 (F := Ideal) mods (ix3 b 0 k) = modsOf mods b 1 k := by
  pointwise [val_main_v3, val_main_v1, val_main_v0, modsOf]

/-- The scaled and shifted normalised row, in the reference's order of multiplication. -/
def hRow (k : Fin 2048) : EReal :=
  x (ix3 b s k) * inorm (fun k => x (ix3 b s k)) * g (ix2 0 k) * (1 + modsOf mods b 1 k) + modsOf mods b 0 k

theorem inorm_x : val_main_v17 (F := Ideal) x (ix3 b s 0) = inorm fun k => x (ix3 b s k) := by
  pointwise [val_main_v17, val_main_v16, val_main_v14, val_main_v12, val_main_v11, val_main_v10, val_main_v13, val_main_v15, val_main_cst, val_main_cst_0, val_main_cst_1, inorm]

theorem hRow_eq (k : Fin 2048) : val_main_v28 (F := Ideal) x mods g (ix3 b s k) = hRow x mods g b s k := by
  have e1 := inorm_x x b s
  have e0 := chunk0 mods b k
  have e4 := chunk1 mods b k
  unfold hRow
  rw [← e1, ← e0, ← e4]
  generalize ha : val_main_v17 (F := Ideal) x = a
  generalize hc : val_main_v2 (F := Ideal) mods = c0
  generalize hd : val_main_v3 (F := Ideal) mods = c1
  pointwise [val_main_v28, val_main_v27, val_main_v26, val_main_v25, val_main_v24, val_main_v23, val_main_cst_2, val_main_v22, val_main_v21, val_main_v20, val_main_v9, val_main_v8, val_main_v19, val_main_v18, ha, hc, hd]

/-- The row's product with column `k` of part `j` of the weights. -/
def products (j : Fin 3) (k : Fin 2048) : EReal := ∑ q : Fin 2048, hRow x mods g b s q * w (ix2 q ⟨j.val * 2048 + k.val, by omega⟩)

theorem product_eq (C : Fin 6144) : val_main_v29 (F := Ideal) x mods g w (ix3 b s C) = ∑ q : Fin 2048, hRow x mods g b s q * w (ix2 q C) := by
  have e := fun k => hRow_eq x mods g b s k
  simp only [← e]
  generalize hh : val_main_v28 (F := Ideal) x mods g = h
  pointwise [val_main_v29, hh]

theorem query_row (k : Fin 2048) : val_main_v30 (F := Ideal) x mods g w (ix3 b s k) = products x mods g w b s 0 k := by
  unfold products
  simp only [← product_eq]
  generalize hh : val_main_v29 (F := Ideal) x mods g w = h
  pointwise [val_main_v30, hh]
  try rfl

theorem key_row (k : Fin 2048) : val_main_v31 (F := Ideal) x mods g w (ix3 b s k) = products x mods g w b s 1 k := by
  unfold products
  simp only [← product_eq]
  generalize hh : val_main_v29 (F := Ideal) x mods g w = h
  pointwise [val_main_v31, hh]
  try rfl

theorem value_row (k : Fin 2048) : val_main_v32 (F := Ideal) x mods g w (ix3 b s k) = products x mods g w b s 2 k := by
  unfold products
  simp only [← product_eq]
  generalize hh : val_main_v29 (F := Ideal) x mods g w = h
  pointwise [val_main_v32, hh]
  try rfl

/-- The rows as heads of 128 columns. -/
theorem query_head (h : Fin 16) (d : Fin 128) : val_main_v33 (F := Ideal) x mods g w (ix4 b s h d)
    = products x mods g w b s 0 ⟨h.val * 128 + d.val, by omega⟩ := by
  rw [← query_row]
  generalize hh : val_main_v30 (F := Ideal) x mods g w = r
  pointwise [val_main_v33, hh]

theorem key_head (h : Fin 16) (d : Fin 128) : val_main_v80 (F := Ideal) x mods g w (ix4 b s h d)
    = products x mods g w b s 1 ⟨h.val * 128 + d.val, by omega⟩ := by
  rw [← key_row]
  generalize hh : val_main_v31 (F := Ideal) x mods g w = r
  pointwise [val_main_v80, hh]

/-- The turn of the pair of entries `f` and `f + 32` that starts at lane `o` of a head, with the angle of pair `p`. -/
def lowTurn (a : S16x2048x16x128.Idx → EReal) (p : Fin 2) (h : Fin 16) (f : Fin 32) : EReal :=
  a (ix4 b s h ⟨p.val * 64 + f.val, by omega⟩) * cos (ix3 s p f) - a (ix4 b s h ⟨p.val * 64 + 32 + f.val, by omega⟩) * sin (ix3 s p f)
def highTurn (a : S16x2048x16x128.Idx → EReal) (p : Fin 2) (h : Fin 16) (f : Fin 32) : EReal :=
  a (ix4 b s h ⟨p.val * 64 + 32 + f.val, by omega⟩) * cos (ix3 s p f) + a (ix4 b s h ⟨p.val * 64 + f.val, by omega⟩) * sin (ix3 s p f)

variable (h : Fin 16) (f : Fin 32)

theorem query0 : val_main_v56 (F := Ideal) x mods g w cos sin (ix4 b s h f) = lowTurn cos sin b s (val_main_v33 (F := Ideal) x mods g w) 0 h f := by
  unfold lowTurn
  generalize ha : val_main_v33 (F := Ideal) x mods g w = a
  pointwise [val_main_v56, val_main_v52, val_main_v55, val_main_v34, val_main_v35, val_main_v51, val_main_v50, val_main_v40, val_main_v39, val_main_v38,
    val_main_v54, val_main_v53, val_main_v46, val_main_v45, val_main_v44, ha]

theorem query1 : val_main_v63 (F := Ideal) x mods g w cos sin (ix4 b s h f) = lowTurn cos sin b s (val_main_v33 (F := Ideal) x mods g w) 1 h f := by
  unfold lowTurn
  generalize ha : val_main_v33 (F := Ideal) x mods g w = a
  pointwise [val_main_v63, val_main_v59, val_main_v62, val_main_v36, val_main_v37, val_main_v58, val_main_v57, val_main_v43, val_main_v42, val_main_v41,
    val_main_v61, val_main_v60, val_main_v49, val_main_v48, val_main_v47, ha]

theorem query2 : val_main_v70 (F := Ideal) x mods g w cos sin (ix4 b s h f) = highTurn cos sin b s (val_main_v33 (F := Ideal) x mods g w) 0 h f := by
  unfold highTurn
  generalize ha : val_main_v33 (F := Ideal) x mods g w = a
  pointwise [val_main_v70, val_main_v66, val_main_v69, val_main_v35, val_main_v34, val_main_v65, val_main_v64, val_main_v40, val_main_v39, val_main_v38,
    val_main_v68, val_main_v67, val_main_v46, val_main_v45, val_main_v44, ha]

theorem query3 : val_main_v77 (F := Ideal) x mods g w cos sin (ix4 b s h f) = highTurn cos sin b s (val_main_v33 (F := Ideal) x mods g w) 1 h f := by
  unfold highTurn
  generalize ha : val_main_v33 (F := Ideal) x mods g w = a
  pointwise [val_main_v77, val_main_v73, val_main_v76, val_main_v37, val_main_v36, val_main_v72, val_main_v71, val_main_v43, val_main_v42, val_main_v41,
    val_main_v75, val_main_v74, val_main_v49, val_main_v48, val_main_v47, ha]

theorem key0 : val_main_v103 (F := Ideal) x mods g w cos sin (ix4 b s h f) = lowTurn cos sin b s (val_main_v80 (F := Ideal) x mods g w) 0 h f := by
  unfold lowTurn
  generalize ha : val_main_v80 (F := Ideal) x mods g w = a
  pointwise [val_main_v103, val_main_v99, val_main_v102, val_main_v81, val_main_v82, val_main_v98, val_main_v97, val_main_v87, val_main_v86, val_main_v85,
    val_main_v101, val_main_v100, val_main_v93, val_main_v92, val_main_v91, ha]

theorem key1 : val_main_v110 (F := Ideal) x mods g w cos sin (ix4 b s h f) = lowTurn cos sin b s (val_main_v80 (F := Ideal) x mods g w) 1 h f := by
  unfold lowTurn
  generalize ha : val_main_v80 (F := Ideal) x mods g w = a
  pointwise [val_main_v110, val_main_v106, val_main_v109, val_main_v83, val_main_v84, val_main_v105, val_main_v104, val_main_v90, val_main_v89, val_main_v88,
    val_main_v108, val_main_v107, val_main_v96, val_main_v95, val_main_v94, ha]

theorem key2 : val_main_v117 (F := Ideal) x mods g w cos sin (ix4 b s h f) = highTurn cos sin b s (val_main_v80 (F := Ideal) x mods g w) 0 h f := by
  unfold highTurn
  generalize ha : val_main_v80 (F := Ideal) x mods g w = a
  pointwise [val_main_v117, val_main_v113, val_main_v116, val_main_v82, val_main_v81, val_main_v112, val_main_v111, val_main_v87, val_main_v86, val_main_v85,
    val_main_v115, val_main_v114, val_main_v93, val_main_v92, val_main_v91, ha]

theorem key3 : val_main_v124 (F := Ideal) x mods g w cos sin (ix4 b s h f) = highTurn cos sin b s (val_main_v80 (F := Ideal) x mods g w) 1 h f := by
  unfold highTurn
  generalize ha : val_main_v80 (F := Ideal) x mods g w = a
  pointwise [val_main_v124, val_main_v120, val_main_v123, val_main_v84, val_main_v83, val_main_v119, val_main_v118, val_main_v90, val_main_v89, val_main_v88,
    val_main_v122, val_main_v121, val_main_v96, val_main_v95, val_main_v94, ha]

/-- Lane `d` of a head, in the kernel's order of the lanes. -/
def headTurn (a : S16x2048x16x128.Idx → EReal) (d : Fin 128) : EReal :=
  if d.val < 32 then lowTurn cos sin b s a 0 h (freqOf d.val) else if d.val < 64 then lowTurn cos sin b s a 1 h (freqOf d.val)
  else if d.val < 96 then highTurn cos sin b s a 0 h (freqOf d.val) else highTurn cos sin b s a 1 h (freqOf d.val)

/-- Four groups of 32 lanes side by side. -/
theorem lanes_apply (A B C D : FVec Ideal S16x2048x16x32 .f32) (d : Fin 128) :
    concatenate S16x2048x16x128 3 [⟨S16x2048x16x32, A⟩, ⟨S16x2048x16x32, B⟩, ⟨S16x2048x16x32, C⟩, ⟨S16x2048x16x32, D⟩]
        concatenates_S16x2048x16x32_S16x2048x16x32_S16x2048x16x32_S16x2048x16x32_S16x2048x16x128_d3 (ix4 b s h d)
      = if d.val < 32 then A (ix4 b s h (freqOf d.val)) else if d.val < 64 then B (ix4 b s h (freqOf d.val))
        else if d.val < 96 then C (ix4 b s h (freqOf d.val)) else D (ix4 b s h (freqOf d.val)) := by
  pointwise
  by_cases h0 : d.val < 32
  · rw [dif_pos h0, if_pos h0]
    exact congrArg (fun f => A (ix4 b s h f)) (Fin.ext (by simp only [freqOf]; omega))
  · rw [dif_neg h0, if_neg h0]
    by_cases h1 : d.val < 64
    · rw [dif_pos (by omega), if_pos h1]
      exact congrArg (fun f => B (ix4 b s h f)) (Fin.ext (by simp only [freqOf]; omega))
    · rw [dif_neg (by omega), if_neg h1]
      by_cases h2 : d.val < 96
      · rw [dif_pos (by omega), if_pos h2]
        exact congrArg (fun f => C (ix4 b s h f)) (Fin.ext (by simp only [freqOf]; omega))
      · rw [dif_neg (by omega), if_neg h2]
        exact congrArg (fun f => D (ix4 b s h f)) (Fin.ext (by simp only [freqOf]; omega))

theorem query_turn (d : Fin 128) : val_main_v78 (F := Ideal) x mods g w cos sin (ix4 b s h d)
    = headTurn cos sin b s h (val_main_v33 (F := Ideal) x mods g w) d := by
  unfold val_main_v78 headTurn
  rw [lanes_apply]
  simp only [query0, query1, query2, query3]

theorem key_turn (d : Fin 128) : val_main_v125 (F := Ideal) x mods g w cos sin (ix4 b s h d)
    = headTurn cos sin b s h (val_main_v80 (F := Ideal) x mods g w) d := by
  unfold val_main_v125 headTurn
  rw [lanes_apply]
  simp only [key0, key1, key2, key3]

/-- The turned head is the turn of the row's pairs. -/
theorem headTurn_eq (a : S16x2048x16x128.Idx → EReal) (row : Fin 2048 → EReal) (ha : ∀ d : Fin 128, a (ix4 b s h d) = row ⟨h.val * 128 + d.val, by omega⟩)
    (d : Fin 128) : headTurn cos sin b s h a d
      = turned row (fun p f => cos (ix3 s p f)) (fun p f => sin (ix3 s p f)) ⟨h.val * 128 + d.val, by omega⟩ := by
  have hf : freqOf (h.val * 128 + d.val) = freqOf d.val := Fin.ext (by show (h.val * 128 + d.val) % 32 = d.val % 32; omega)
  have low : ∀ p : Fin 2, d.val / 32 = p.val → lowTurn cos sin b s a p h (freqOf d.val)
      = turned row (fun p f => cos (ix3 s p f)) (fun p f => sin (ix3 s p f)) ⟨h.val * 128 + d.val, by omega⟩ := by
    intro p hd
    have hp : pairOf (h.val * 128 + d.val) = p := Fin.ext (by show (h.val * 128 + d.val) / 32 % 2 = p.val; omega)
    unfold lowTurn turned
    rw [if_pos (by dsimp only; omega)]
    simp only [hp, hf, ha]
    refine congrArg₂ (· - ·) (congrArg (row · * _) (Fin.ext ?_)) (congrArg (row · * _) (Fin.ext ?_)) <;> simp only [first, second, freqOf] <;> omega
  have high : ∀ p : Fin 2, d.val / 32 = p.val + 2 → highTurn cos sin b s a p h (freqOf d.val)
      = turned row (fun p f => cos (ix3 s p f)) (fun p f => sin (ix3 s p f)) ⟨h.val * 128 + d.val, by omega⟩ := by
    intro p hd
    have hp : pairOf (h.val * 128 + d.val) = p := Fin.ext (by show (h.val * 128 + d.val) / 32 % 2 = p.val; omega)
    unfold highTurn turned
    rw [if_neg (by dsimp only; omega)]
    simp only [hp, hf, ha]
    refine congrArg₂ (· + ·) (congrArg (row · * _) (Fin.ext ?_)) (congrArg (row · * _) (Fin.ext ?_)) <;> simp only [first, second, freqOf] <;> omega
  unfold headTurn
  split_ifs
  · exact low 0 (by simp only [Fin.val_zero]; omega)
  · exact low 1 (by simp only [Fin.val_one]; omega)
  · exact high 0 (by simp only [Fin.val_zero]; omega)
  · exact high 1 (by simp only [Fin.val_one]; omega)

/-- The rotated queries and keys, as rows. -/
theorem query_rotated (k : Fin 2048) : val_main_v79 (F := Ideal) x mods g w cos sin (ix3 b s k)
    = turned (products x mods g w b s 0) (fun p f => cos (ix3 s p f)) (fun p f => sin (ix3 s p f)) k := by
  have hk : (⟨k.val / 128 * 128 + k.val % 128, by omega⟩ : Fin 2048) = k := Fin.ext (by dsimp only; omega)
  refine Eq.trans (shapeCast_apply _ _ _ (ix4 b s (⟨k.val / 128, by omega⟩ : Fin 16) (⟨k.val % 128, by omega⟩ : Fin 128)) ?_) ?_
  · rewrite [Shape.rowMajor_val_four, Shape.rowMajor_val_three]
    show ((b.val * 2048 + s.val) * 16 + k.val / 128) * 128 + k.val % 128 = (b.val * 2048 + s.val) * 2048 + k.val
    omega
  · rw [query_turn, headTurn_eq cos sin b s _ _ (products x mods g w b s 0) fun d => query_head x mods g w b s _ d]
    exact congrArg _ hk

theorem key_rotated (k : Fin 2048) : val_main_v126 (F := Ideal) x mods g w cos sin (ix3 b s k)
    = turned (products x mods g w b s 1) (fun p f => cos (ix3 s p f)) (fun p f => sin (ix3 s p f)) k := by
  have hk : (⟨k.val / 128 * 128 + k.val % 128, by omega⟩ : Fin 2048) = k := Fin.ext (by dsimp only; omega)
  refine Eq.trans (shapeCast_apply _ _ _ (ix4 b s (⟨k.val / 128, by omega⟩ : Fin 16) (⟨k.val % 128, by omega⟩ : Fin 128)) ?_) ?_
  · rewrite [Shape.rowMajor_val_four, Shape.rowMajor_val_three]
    show ((b.val * 2048 + s.val) * 16 + k.val / 128) * 128 + k.val % 128 = (b.val * 2048 + s.val) * 2048 + k.val
    omega
  · rw [key_turn, headTurn_eq cos sin b s _ _ (products x mods g w b s 1) fun d => key_head x mods g w b s _ d]
    exact congrArg _ hk

/-- Column `k` of part `j` of the row of the result: the values as they are, the queries and keys rotated. -/
def projected (j : Fin 3) (k : Fin 2048) : EReal :=
  if j.val = 2 then products x mods g w b s j k
  else turned (products x mods g w b s j) (fun p f => cos (ix3 s p f)) (fun p f => sin (ix3 s p f)) k

/-- Three blocks of columns side by side. -/
theorem beside_apply (A B C : FVec Ideal S16x2048x2048 .f32) (k : Fin 6144) :
    concatenate S16x2048x6144 2 [⟨S16x2048x2048, A⟩, ⟨S16x2048x2048, B⟩, ⟨S16x2048x2048, C⟩]
        concatenates_S16x2048x2048_S16x2048x2048_S16x2048x2048_S16x2048x6144_d2 (ix3 b s k)
      = if h : k.val < 2048 then A (ix3 b s ⟨k.val, h⟩) else if h' : k.val < 4096 then B (ix3 b s ⟨k.val - 2048, by omega⟩)
        else C (ix3 b s ⟨k.val - 4096, by omega⟩) := by
  pointwise
  by_cases h0 : k.val < 2048
  · rw [dif_pos h0, dif_pos h0]
  · rw [dif_neg h0, dif_neg h0]
    by_cases h1 : k.val < 4096
    · rw [dif_pos (by omega), dif_pos h1]
    · rw [dif_neg (by omega), dif_neg h1]
      exact congrArg (fun f => C (ix3 b s f)) (Fin.ext (by dsimp only; omega))

theorem joined_eq (j : Fin 3) (k : Fin 2048) : val_main_v127 (F := Ideal) x mods g w cos sin (ix3 b s ⟨j.val * 2048 + k.val, by omega⟩)
    = projected x mods g w cos sin b s j k := by
  unfold val_main_v127 projected
  rw [beside_apply]
  match j with
  | ⟨0, _⟩ =>
    rw [dif_pos (by dsimp only; omega), if_neg (by dsimp only; omega)]
    exact (congrArg (fun f => val_main_v79 (F := Ideal) x mods g w cos sin (ix3 b s f)) (Fin.ext (by dsimp only; omega))).trans (query_rotated x mods g w cos sin b s k)
  | ⟨1, _⟩ =>
    rw [dif_neg (by dsimp only; omega), dif_pos (by dsimp only; omega), if_neg (by dsimp only; omega)]
    exact (congrArg (fun f => val_main_v126 (F := Ideal) x mods g w cos sin (ix3 b s f)) (Fin.ext (by dsimp only; omega))).trans (key_rotated x mods g w cos sin b s k)
  | ⟨2, _⟩ =>
    rw [dif_neg (by dsimp only; omega), dif_neg (by dsimp only; omega), if_pos rfl]
    exact (congrArg (fun f => val_main_v32 (F := Ideal) x mods g w (ix3 b s f)) (Fin.ext (by dsimp only; omega))).trans (value_row x mods g w b s k)

/-- The reference's result, row by row. -/
theorem result_eq (R : Fin 32768) (j : Fin 3) (k : Fin 2048) :
    val_main_v129 (F := Ideal) x mods g w cos sin (ix2 R ⟨j.val * 2048 + k.val, by omega⟩)
      = projected x mods g w cos sin ⟨R.val / 2048, by omega⟩ ⟨R.val % 2048, by omega⟩ j k := by
  rw [← joined_eq]
  generalize hK : (⟨j.val * 2048 + k.val, by omega⟩ : Fin 6144) = K
  refine shapeCast_apply (val_main_v127 (F := Ideal) x mods g w cos sin) shapeCasts_S16x2048x6144_S32768x6144 _ _ ?_
  rewrite [Shape.rowMajor_val_three, Shape.rowMajor_val_two]
  show (R.val / 2048 * 2048 + R.val % 2048) * 6144 + K.val = R.val * 6144 + K.val
  omega

end Cert.ProjReferenceIdeal.Body
-- ==== Proof.Proj.Eq.lean ====
module

public import proofs.«01_k».proof.Proof.Proj.Array
public import proofs.«01_k».proof.Proof.Proj.Ref

@[expose] public section

/-!
# The projection's array is the reference's
-/

noncomputable section

namespace Cert.ProjIdeal.Body

open Cert.ProjIdeal Cert.ProjIdeal.Gen Cert.ProjIdeal.Value Cert.MlpMath Idealize.ShloMosaic Idealize.ShloMosaic.TcCoe Idealize.SL.Sem

variable (m : (ℓ : Loc nD τ sig) → Buf (Elt Ideal) ℓ) (c : Dev nD)

/-- The modulated rows are the same: the kernel multiplies the gain and the scale first. -/
theorem hRow_ref (b : Fin 16) (s : Fin 2048) :
    hRow m c b s = Cert.ProjReferenceIdeal.Body.hRow (argX m c) (argMods m c) (argG m c) b s := by
  funext k
  unfold hRow modulated Cert.ProjReferenceIdeal.Body.hRow
  rw [mul_assoc (_ * inorm _)]
  rfl

/-- So are their products with the weights, and the turned rows. -/
theorem projected_ref (b : Fin 16) (s : Fin 2048) (j : Fin 3) (k : Fin 2048) :
    projected m c b s j k
      = Cert.ProjReferenceIdeal.Body.projected (argX m c) (argMods m c) (argG m c) (argW m c) (argCos m c) (argSin m c) b s j k := by
  have hp : products m c b s j = Cert.ProjReferenceIdeal.Body.products (argX m c) (argMods m c) (argG m c) (argW m c) b s j := by
    funext k
    unfold products Cert.ProjReferenceIdeal.Body.products
    rw [hRow_ref]
  unfold projected Cert.ProjReferenceIdeal.Body.projected
  rw [hp]
  rfl

/-- The array the kernel leaves is the reference's result, at the same arguments. -/
theorem array_ref : (G7 m c : S32768x6144.Idx → EReal)
    = Cert.ProjReferenceIdeal.Read.val_main_v129 (F := Ideal) (argX m c) (argMods m c) (argG m c) (argW m c) (argCos m c) (argSin m c) := by
  funext i
  obtain ⟨R, C, rfl⟩ : ∃ (R : Fin 32768) (C : Fin 6144), i = ix2 R C := ⟨i 0, i 1, eq_ix2 i⟩
  obtain ⟨j, k, rfl⟩ : ∃ (j : Fin 3) (k : Fin 2048), C = ⟨j.val * 2048 + k.val, by omega⟩ :=
    ⟨⟨C.val / 2048, by omega⟩, ⟨C.val % 2048, by omega⟩, Fin.ext (by dsimp only; omega)⟩
  rw [array_eq, Cert.ProjReferenceIdeal.Body.result_eq, projected_ref]

end Cert.ProjIdeal.Body

end
-- ==== Proof.Proj.Claims.lean ====
/- The projection's claims: the runs of its programs, and the equality of the kernel's array with the reference's. -/
module

public import proofs.«01_k».proof.Defs
public import proofs.«01_k».proof.Proof.Gen.Proj.Frame
public import proofs.«01_k».proof.Proof.Gen.ProjReferenceIdeal.Run
public import proofs.«01_k».proof.Proof.Proj.Eq
public import Idealize.ShloMosaic.Adequacy
public import Idealize.ShloMosaic.Init

@[expose] public section

noncomputable section

namespace Cert.ProjClaims

open Idealize.ShloMosaic Idealize.SL.Sem

attribute [local instance] Cert.Proj.Gen.facts Cert.ProjIdeal.Gen.facts Cert.ProjReferenceIdeal.Gen.facts

/-- The kernel as written runs and leaves its arguments and its counters as they were. -/
theorem frame : Cert.quiescent_Proj := fun m ρ _ => Cert.Proj.Gen.frame m ρ

/-- So does the kernel over the extended reals. -/
theorem frame_ideal : Cert.quiescent_ProjIdeal := fun m ρ _ => Cert.ProjIdeal.Gen.frame m ρ

/-- So does the reference; it declares no semaphore. -/
theorem frame_reference : Cert.quiescent_ProjReferenceIdeal := fun m ρ _ =>
  (θ_run Cert.ProjReferenceIdeal.defs _ _).mono
    (fun r h => ⟨fun c => (h c).2, sem_eq_zero_of_no_sems (by decide) r.2⟩)
    (Cert.ProjReferenceIdeal.Value.run (F := Ideal) m ρ)

/-- The kernel's result is the reference's result, at equal arguments. -/
theorem algebraic : Cert.algebraic_ProjIdeal_ProjReferenceIdeal := by
  intro m ρ m' ρ' _ hagree
  refine ⟨fun c => Cert.ProjIdeal.Value.G7 m c, Cert.ProjIdeal.Value.run m ρ,
    (θ_run Cert.ProjReferenceIdeal.defs _ _).mono (fun r h c => ⟨(h c).1.trans ?_, (h c).2⟩)
      (Cert.ProjReferenceIdeal.Value.run (F := Ideal) m' ρ')⟩
  obtain ⟨h0, h1, h2, h3, h4, h5⟩ := hagree c
  rw [Cert.ProjReferenceIdeal.Read.val_main_v129_eq]
  refine Eq.trans ?_ (Cert.ProjIdeal.Body.array_ref m c).symm
  rw [h0, h1, h2, h3, h4, h5]

end Cert.ProjClaims

end
-- ==== Proof.Feat.Block.lean ====
module

public import proofs.«01_k».proof.Proof.Proj.Block
public import proofs.«01_k».proof.Proof.Gen.FeatIdeal.Skeleton
public import Idealize.ShloMosaic.Lib.Pointwise
public import Idealize.ShloMosaic.Lib.Pointwise.IndexVar

@[expose] public section

/-!
# What the latent projection's body computes on its blocks

Its modulated rows are multiplied with 256 columns of the keys' weights at a time, with the 128 columns of the
gates' weights, to which the gates' bias is added, and from the right with 1024 rows of the transposed weights of the features.
-/

noncomputable section

namespace Cert.FeatIdeal.Body

open Cert.FeatIdeal Cert.FeatIdeal.Gen Cert.MlpMath Idealize.ShloMosaic
open Cert.ProjIdeal.Body (prod half half_apply)

/-- 512 rows' products with 256 columns. -/
theorem keys_apply (h : FVec Ideal S512x2048 .bf16) (w : FVec Ideal S2048x256 .bf16) (r : Fin 512) (f : Fin 256) :
    k0_pay6 (F := Ideal) h w (ix2 r f) = prod (n := 256) (fun k => h (ix2 r k)) w f := by
  pointwise [k0_pay6, prod]

/-- 512 rows' gates. -/
theorem gates_apply (h : FVec Ideal S512x2048 .bf16) (w : FVec Ideal S2048x128 .bf16) (b : FVec Ideal S1x128 .f32) (r : Fin 512) (f : Fin 128) :
    k0_pay5 (F := Ideal) (k0_pay4 (F := Ideal) h w) b (ix2 r f) = prod (n := 128) (fun k => h (ix2 r k)) w f + b (ix2 0 f) := by
  pointwise [k0_pay5, k0_pay4, prod]

/-- 1024 features of 1024 rows. -/
theorem feat_apply (w h : FVec Ideal S1024x2048 .bf16) (f r : Fin 1024) :
    k0_pay2 (F := Ideal) w h (ix2 f r) = ∑ q : Fin 2048, w (ix2 f q) * h (ix2 r q) := by
  pointwise [k0_pay2]

/-- The modulated rows, as the body stores 512 of them. -/
theorem modulated_apply (x : FVec Ideal S512x2048 .f32) (g : FVec Ideal S1x2048 .f32) (sc sh : FVec Ideal S1x1x1x2048 .f32)
    (r : Fin 512) (c : Fin 2048) :
    k0_pay3 (F := Ideal) x g sc sh (ix2 r c) = modulated (fun k => x (ix2 r k)) (fun k => g (ix2 0 k)) (fun k => sh (ix4 0 0 0 k))
      (fun k => sc (ix4 0 0 0 k)) c := by
  pointwise [k0_pay3, modulated, inorm]

/-- Columns `o` to `o + 255` of the keys' weights, as the body loads them. -/
def cols (w : FVec Ideal S2048x1024 .bf16) (o : Nat) (h : ∀ a, (![0, o] : Fin 2 → Nat) a + (![2048, 256] : Fin 2 → Nat) a ≤ S2048x1024.size a) :
    FVec Ideal S2048x256 .bf16 :=
  View.ld (Val := Elt Ideal) (S := S2048x1024) (e' := .bf16) w (Rect.unit (s := S2048x1024) ![0, o] ![2048, 256] h)

theorem prod_cols (h : Fin 2048 → EReal) (w : FVec Ideal S2048x1024 .bf16) (o : Nat) (hw) (f : Fin 256) :
    prod (n := 256) h (cols w o hw) f = prod (n := 1024) h w ⟨o + f.val, by have h1 : o + 256 ≤ 1024 := hw 1; omega⟩ := by
  unfold prod
  refine Finset.sum_congr rfl fun k _ => congrArg (h k * ·) ?_
  show w _ = w _
  congr 1
  funext a
  apply Fin.ext
  match a with
  | ⟨0, _⟩ => show 0 + 1 * k.val = k.val; omega
  | ⟨1, _⟩ => show o + 1 * f.val = o + f.val; omega

/-- The keys of 1024 rows. -/
def keysBlock (H : Fin 1024 → Fin 2048 → EReal) (w : FVec Ideal S2048x1024 .bf16) : S1024x1024.Idx → EReal := fun i =>
  prod (n := 1024) (H (i 0)) w (i 1)

/-- The gates of 1024 rows. -/
def gatesBlock (H : Fin 1024 → Fin 2048 → EReal) (w : FVec Ideal S2048x128 .bf16) (b : FVec Ideal S1x128 .f32) : S1024x128.Idx → EReal := fun i =>
  prod (n := 128) (H (i 0)) w (i 1) + b (ix2 0 (i 1))

/-- 1024 features of 1024 rows. -/
def featBlock (w : FVec Ideal S1024x2048 .bf16) (H : Fin 1024 → Fin 2048 → EReal) : S1024x1024.Idx → EReal := fun i =>
  ∑ q : Fin 2048, w (ix2 (i 0) q) * H (i 1) q

theorem featBlock_apply (w : FVec Ideal S1024x2048 .bf16) (H : Fin 1024 → Fin 2048 → EReal) (f r : Fin 1024) :
    featBlock w H (ix2 f r) = ∑ q : Fin 2048, w (ix2 f q) * H r q := rfl

/-- The keys of the 512 rows from `ro` in the 256 columns from `o`, as a piece of the block. -/
theorem keysPiece (H : Fin 1024 → Fin 2048 → EReal) (w : FVec Ideal S2048x1024 .bf16) (h : FVec Ideal S512x2048 .bf16) (ro o : ℕ)
    (hro : ro + 512 ≤ 1024) (hH : ∀ (r : Fin 512) k, h (ix2 r k) = H ⟨ro + r.val, by omega⟩ k) (hw hp)
    (x : (Rect.unit (s := S1024x1024) ![ro, o] ![512, 256] hp).shape.Idx) :
    k0_pay6 (F := Ideal) h (cols w o hw) x = keysBlock H w ((Rect.unit (s := S1024x1024) ![ro, o] ![512, 256] hp).emb x) := by
  have hk : o + 256 ≤ 1024 := hw 1
  obtain ⟨r, f, rfl⟩ : ∃ (a : Fin 512) (b : Fin 256), x = ix2 a b := ⟨x 0, x 1, eq_ix2 x⟩
  have he : (Rect.unit (s := S1024x1024) ![ro, o] ![512, 256] hp).emb (ix2 r f)
      = (ix2 (⟨ro + r.val, by omega⟩ : Fin 1024) (⟨o + f.val, by omega⟩ : Fin 1024) : S1024x1024.Idx) := by
    funext a
    apply Fin.ext
    match a with
    | ⟨0, _⟩ => show ro + 1 * r.val = ro + r.val; omega
    | ⟨1, _⟩ => show o + 1 * f.val = o + f.val; omega
  rw [he]
  refine ((keys_apply h (cols w o hw) r f).trans (prod_cols _ w o hw f)).trans ?_
  simp only [hH]
  rfl

/-- The gates of the 512 rows from `ro`, as a piece of the block. -/
theorem gatesPiece (H : Fin 1024 → Fin 2048 → EReal) (w : FVec Ideal S2048x128 .bf16) (b : FVec Ideal S1x128 .f32) (h : FVec Ideal S512x2048 .bf16)
    (ro : ℕ) (hro : ro + 512 ≤ 1024) (hH : ∀ (r : Fin 512) k, h (ix2 r k) = H ⟨ro + r.val, by omega⟩ k) (hp)
    (x : (Rect.unit (s := S1024x128) ![ro, 0] ![512, 128] hp).shape.Idx) :
    k0_pay5 (F := Ideal) (k0_pay4 (F := Ideal) h w) b x = gatesBlock H w b ((Rect.unit (s := S1024x128) ![ro, 0] ![512, 128] hp).emb x) := by
  obtain ⟨r, f, rfl⟩ : ∃ (a : Fin 512) (b : Fin 128), x = ix2 a b := ⟨x 0, x 1, eq_ix2 x⟩
  have he : (Rect.unit (s := S1024x128) ![ro, 0] ![512, 128] hp).emb (ix2 r f)
      = (ix2 (⟨ro + r.val, by omega⟩ : Fin 1024) f : S1024x128.Idx) := by
    funext a
    apply Fin.ext
    match a with
    | ⟨0, _⟩ => show ro + 1 * r.val = ro + r.val; omega
    | ⟨1, _⟩ => show 0 + 1 * f.val = f.val; omega
  rw [he]
  refine (gates_apply h w b r f).trans ?_
  simp only [hH]
  rfl

variable (x0 : Vec Ideal S1024x2048 .f32) (x1 x2 : Vec Ideal S1x1x1x2048 .f32) (x3 : Vec Ideal S1x2048 .f32)

/-- The modulated rows of a block. -/
def modRows (r : Fin 1024) (k : Fin 2048) : EReal :=
  modulated (fun k => x0 (ix2 r k)) (fun k => x3 (ix2 0 k)) (fun k => x1 (ix4 0 0 0 k)) (fun k => x2 (ix4 0 0 0 k)) k

theorem modHalf (o : Nat) (h) (r : Fin 512) (k : Fin 2048) :
    k0_pay3 (F := Ideal) (half (n := 2048) (e := .f32) x0 o h) x3 x2 x1 (ix2 r k)
      = modRows x0 x1 x2 x3 ⟨o + r.val, by have h1 : o + 512 ≤ 1024 := h 0; omega⟩ k := by
  rw [modulated_apply]
  simp only [half_apply]
  rfl

/-- 512 modulated rows, as a piece of the scratch. -/
theorem modPiece (o : Nat) (h hp) (x : (Rect.unit (s := S1024x2048) ![o, 0] ![512, 2048] hp).shape.Idx) :
    k0_pay3 (F := Ideal) (half (n := 2048) (e := .f32) x0 o h) x3 x2 x1 x
      = (fun i : S1024x2048.Idx => modRows x0 x1 x2 x3 (i 0) (i 1)) ((Rect.unit (s := S1024x2048) ![o, 0] ![512, 2048] hp).emb x) := by
  obtain ⟨r, k, rfl⟩ : ∃ (a : Fin 512) (b : Fin 2048), x = ix2 a b := ⟨x 0, x 1, eq_ix2 x⟩
  refine (modHalf x0 x1 x2 x3 o h r k).trans ?_
  show modRows x0 x1 x2 x3 _ _ = modRows x0 x1 x2 x3 _ _
  congr 1
  · apply Fin.ext; show o + r.val = o + 1 * r.val; omega
  · apply Fin.ext; show k.val = 0 + 1 * k.val; omega

end Cert.FeatIdeal.Body
-- ==== Proof.Feat.Run.lean ====
module

public import proofs.«01_k».proof.Proof.Gen.FeatIdeal.Frame
public import proofs.«01_k».proof.Proof.Gen.FeatIdeal.Skeleton
public import Idealize.ShloMosaic.Lib.Pipeline.TableIdle
public import Idealize.ShloMosaic.Lib.Claim

/-! # One run of the projection's body, at the first column step and at the later ones

The grid is 32 row blocks by 6 column steps. The first step of a row block normalises and modulates its rows into a scratch
buffer and writes the keys and the gates; each later step writes one block of the features from that scratch. -/

@[expose] public section

set_option maxRecDepth 16384

noncomputable section

namespace Cert.FeatIdeal.Hand

open Cert.FeatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional runs at the first column step. -/
theorem first_iff : ∀ t : Fin cfg0.N, k0_cond1 (grid0.coords t) = 1#1 ↔ t.val % 6 = 0 :=
  (by decide +kernel : ∀ t : Fin grid0.N, k0_cond1 (grid0.coords t) = 1#1 ↔ t.val % 6 = 0)

/-- The second conditional runs at every later column step. -/
theorem later_iff : ∀ t : Fin cfg0.N, k0_cond2 (grid0.coords t) = 1#1 ↔ ¬ t.val % 6 = 0 :=
  (by decide +kernel : ∀ t : Fin grid0.N, k0_cond2 (grid0.coords t) = 1#1 ↔ ¬ t.val % 6 = 0)

variable (c : Dev nD) (i : grid0.Coords)
  (arg2 : Memref sig .tc .vmem S1024x2048 .f32) (harg2 : arg2.IsWhole)
  (arg3 : Memref sig .tc .vmem S1x1x1x2048 .f32) (harg3 : arg3.IsWhole)
  (arg4 : Memref sig .tc .vmem S1x1x1x2048 .f32) (harg4 : arg4.IsWhole)
  (arg5 : Memref sig .tc .vmem S1x2048 .f32) (harg5 : arg5.IsWhole)
  (arg6 : Memref sig .tc .vmem S2048x1024 .bf16) (harg6 : arg6.IsWhole)
  (arg7 : Memref sig .tc .vmem S1024x2048 .bf16) (harg7 : arg7.IsWhole)
  (arg8 : Memref sig .tc .vmem S2048x128 .bf16) (harg8 : arg8.IsWhole)
  (arg9 : Memref sig .tc .vmem S1x128 .f32) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1024x128 .f32) (harg12 : arg12.IsWhole)
  (arg13 : Memref sig .tc .vmem S1024x2048 .bf16) (harg13 : arg13.IsWhole)

set_option maxHeartbeats 1000000 in
/-- The body at the first column step: the stores it makes into the keys', the gates' and the scratch buffer, and that it
    runs to its end leaving the inputs as they were and those stores made. -/
noncomputable def runFirst (h1 : k0_cond1 i = 1#1) (h2 : ¬ k0_cond2 i = 1#1)
    (x0 : Vec F S1024x2048 .f32) (x1 x2 : Vec F S1x1x1x2048 .f32) (x3 : Vec F S1x2048 .f32) (x4 : Vec F S2048x1024 .bf16)
    (x6 : Vec F S2048x128 .bf16) (x7 : Vec F S1x128 .f32) :
    Σ' (LK : List (View.Piece (Elt F) S1024x1024 .bf16)) (LG : List (View.Piece (Elt F) S1024x128 .f32)),
      { LS : List (View.Piece (Elt F) S1024x2048 .bf16) // ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg8 fullShare x6
            ∗ owns (c : Thread nD τ) arg9 fullShare x7
            ∗ (∃ d, owns (c : Thread nD τ) arg10 fullShare d) ∗ (∃ d, owns (c : Thread nD τ) arg12 fullShare d)
            ∗ (∃ d, owns (c : Thread nD τ) arg13 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4 ∗ owns (c : Thread nD τ) arg8 fullShare x6
                ∗ owns (c : Thread nD τ) arg9 fullShare x7
                ∗ (∃ f, arg10.view.loc (c : Thread nD τ) ↦[arg10.view.set]{fullShare} arg10.view.writes (Elt F) f LK)
                ∗ (∃ f, arg12.view.loc (c : Thread nD τ) ↦[arg12.view.set]{fullShare} arg12.view.writes (Elt F) f LG)
                ∗ (∃ f, arg13.view.loc (c : Thread nD τ) ↦[arg13.view.set]{fullShare} arg13.view.writes (Elt F) f LS)) -∗ K ⟨⟩))
          ⊢ wp frame (wpE (defs₀ (F := F)) Variants.none c none) E
              (cc0_proj i arg2 harg2 arg3 harg3 arg4 harg4 arg5 harg5 arg6 harg6 arg7 harg7 arg8 harg8 arg9 harg9 arg10 harg10
                arg11 harg11 arg12 harg12 arg13 harg13) K } := by
  refine ⟨?_, ?_, ?_, fun E K => ?run⟩
  case run =>
    simp only [cc0_proj_eq_skeleton]; unfold cc0_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%d8, %f8, -, H8⟩, ⟨%d10, %f10, -, H10⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    obtain rfl := harg9.eq_unread hf7
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H10]; · iexists _; iexact H10
    iexists _; iexact HS

set_option maxHeartbeats 1000000 in
/-- The body at a later column step: the store it makes into the features' buffer, and that it runs to its end leaving the
    features' weights and the scratch as they were and that store made. -/
noncomputable def runLater (h1 : ¬ k0_cond1 i = 1#1) (h2 : k0_cond2 i = 1#1)
    (x5 : Vec F S1024x2048 .bf16) (xs : Vec F S1024x2048 .bf16) :
    { LF : List (View.Piece (Elt F) S1024x1024 .bf16) // ∀ (E : Set ℕ) (K : PUnit → sProp 𝕄),
        iprop(owns (c : Thread nD τ) arg7 fullShare x5 ∗ (∃ d, owns (c : Thread nD τ) arg11 fullShare d)
            ∗ owns (c : Thread nD τ) arg13 fullShare xs
            ∗ (iprop(owns (c : Thread nD τ) arg7 fullShare x5
                ∗ (∃ f, arg11.view.loc (c : Thread nD τ) ↦[arg11.view.set]{fullShare} arg11.view.writes (Elt F) f LF)
                ∗ owns (c : Thread nD τ) arg13 fullShare xs) -∗ K ⟨⟩))
          ⊢ wp frame (wpE (defs₀ (F := F)) Variants.none c none) E
              (cc0_proj i arg2 harg2 arg3 harg3 arg4 harg4 arg5 harg5 arg6 harg6 arg7 harg7 arg8 harg8 arg9 harg9 arg10 harg10
                arg11 harg11 arg12 harg12 arg13 harg13) K } := by
  refine ⟨?_, fun E K => ?run⟩
  case run =>
    simp only [cc0_proj_eq_skeleton]; unfold cc0_proj_skel
    unfold owns
    iintro ⟨⟨%f5, %hf5, H5⟩, ⟨%d9, %f9, -, H9⟩, ⟨%fs, %hfs, HS⟩, Hk⟩
    obtain rfl := harg7.eq_unread hf5; obtain rfl := harg13.eq_unread hfs
    sl_exec (disch := first | sl_exact h1 | sl_exact h2)
    sl_step
    iapply Hk
    isplitl [H5]
    · iexists _; isplitr; · ipureintro; exact harg7.read_unread _
      iexact H5
    isplitl [H9]; · iexists _; iexact H9
    iexists _; isplitr; · ipureintro; exact harg13.read_unread _
    iexact HS

end Cert.FeatIdeal.Hand

end
-- ==== Proof.Feat.Frame.lean ====
module

public import proofs.«01_k».proof.Proof.Feat.Run

/-! # The frame of the projection

What each buffer holds after every grid point, and that a run from any memory ends with every argument as it was. The keys,
the gates and the scratch hold, at every column step of a row block, what the block's first step stored; the features hold
what the step itself stored. -/

@[expose] public section

set_option maxRecDepth 16384

noncomputable section

namespace Cert.FeatIdeal.Hand

open Cert.FeatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev stgX (t : Fin cfg0.N) : Memref sig .tc .vmem S1024x2048 .f32 := win0_0.stage (cfg0.slots t 0)
abbrev stgX_whole (t : Fin cfg0.N) : (stgX t).IsWhole := hstage0_0 ((cfg0.slots t 0).cast nbuf0_0)
abbrev stgShift (t : Fin cfg0.N) : Memref sig .tc .vmem S1x1x1x2048 .f32 := win0_1.stage (cfg0.slots t 1)
abbrev stgShift_whole (t : Fin cfg0.N) : (stgShift t).IsWhole := hstage0_1 ((cfg0.slots t 1).cast nbuf0_1)
abbrev stgScale (t : Fin cfg0.N) : Memref sig .tc .vmem S1x1x1x2048 .f32 := win0_2.stage (cfg0.slots t 2)
abbrev stgScale_whole (t : Fin cfg0.N) : (stgScale t).IsWhole := hstage0_2 ((cfg0.slots t 2).cast nbuf0_2)
abbrev stgNorm (t : Fin cfg0.N) : Memref sig .tc .vmem S1x2048 .f32 := win0_3.stage (cfg0.slots t 3)
abbrev stgNorm_whole (t : Fin cfg0.N) : (stgNorm t).IsWhole := hstage0_3 ((cfg0.slots t 3).cast nbuf0_3)
abbrev stgWk (t : Fin cfg0.N) : Memref sig .tc .vmem S2048x1024 .bf16 := win0_4.stage (cfg0.slots t 4)
abbrev stgWk_whole (t : Fin cfg0.N) : (stgWk t).IsWhole := hstage0_4 ((cfg0.slots t 4).cast nbuf0_4)
abbrev stgWf (t : Fin cfg0.N) : Memref sig .tc .vmem S1024x2048 .bf16 := win0_5.stage (cfg0.slots t 5)
abbrev stgWf_whole (t : Fin cfg0.N) : (stgWf t).IsWhole := hstage0_5 ((cfg0.slots t 5).cast nbuf0_5)
abbrev stgWg (t : Fin cfg0.N) : Memref sig .tc .vmem S2048x128 .bf16 := win0_6.stage (cfg0.slots t 6)
abbrev stgWg_whole (t : Fin cfg0.N) : (stgWg t).IsWhole := hstage0_6 ((cfg0.slots t 6).cast nbuf0_6)
abbrev stgBg (t : Fin cfg0.N) : Memref sig .tc .vmem S1x128 .f32 := win0_7.stage (cfg0.slots t 7)
abbrev stgBg_whole (t : Fin cfg0.N) : (stgBg t).IsWhole := hstage0_7 ((cfg0.slots t 7).cast nbuf0_7)
abbrev stgK (t : Fin cfg0.N) : Memref sig .tc .vmem S1024x1024 .bf16 := win0_8.stage (cfg0.slots t 8)
abbrev stgK_whole (t : Fin cfg0.N) : (stgK t).IsWhole := hstage0_8 ((cfg0.slots t 8).cast nbuf0_8)
abbrev stgF (t : Fin cfg0.N) : Memref sig .tc .vmem S1024x1024 .bf16 := win0_9.stage (cfg0.slots t 9)
abbrev stgF_whole (t : Fin cfg0.N) : (stgF t).IsWhole := hstage0_9 ((cfg0.slots t 9).cast nbuf0_9)
abbrev stgG (t : Fin cfg0.N) : Memref sig .tc .vmem S1024x128 .f32 := win0_10.stage (cfg0.slots t 10)
abbrev stgG_whole (t : Fin cfg0.N) : (stgG t).IsWhole := hstage0_10 ((cfg0.slots t 10).cast nbuf0_10)
abbrev scr : Memref sig .tc .vmem S1024x2048 .bf16 := Memref.whole cc0_scratch0

/-- One buffer of each result and the scratch, through which contents are stated. -/
abbrev viewK : View sig .tc .vmem S1024x1024 .bf16 := (Memref.whole cc0_stg8_0 : Memref sig .tc .vmem S1024x1024 .bf16).view
abbrev viewF : View sig .tc .vmem S1024x1024 .bf16 := (Memref.whole cc0_stg9_0 : Memref sig .tc .vmem S1024x1024 .bf16).view
abbrev viewG : View sig .tc .vmem S1024x128 .f32 := (Memref.whole cc0_stg10_0 : Memref sig .tc .vmem S1024x128 .f32).view
abbrev viewS : View sig .tc .vmem S1024x2048 .bf16 := scr.view

/-! ## What the body leaves -/

/-- The run of the body at a first column step, on that point's buffers and blocks. -/
abbrev firstAt (c : Dev nD) (t : Fin cfg0.N) (h : t.val % 6 = 0) :=
  runFirst c (grid0.coords t) (stgX t) (stgX_whole t) (stgShift t) (stgShift_whole t) (stgScale t) (stgScale_whole t)
    (stgNorm t) (stgNorm_whole t) (stgWk t) (stgWk_whole t) (stgWf t) (stgWf_whole t) (stgWg t) (stgWg_whole t)
    (stgBg t) (stgBg_whole t) (stgK t) (stgK_whole t) (stgF t) (stgF_whole t) (stgG t) (stgG_whole t)
    scr (Memref.isWhole_whole _) ((first_iff t).mpr h) (fun h' => (later_iff t).mp h' h)
    (iblk m c 0 t) (iblk m c 1 t) (iblk m c 2 t) (iblk m c 3 t) (iblk m c 4 t) (iblk m c 6 t) (iblk m c 7 t)

/-- The keys a first column step stores. -/
def keysAt (c : Dev nD) (t : Fin cfg0.N) (h : t.val % 6 = 0) : Vec F S1024x1024 .bf16 :=
  viewK.read (Elt F) (viewK.writes (Elt F) viewK.junk (firstAt m c t h).1)

/-- The gates a first column step stores. -/
def gatesAt (c : Dev nD) (t : Fin cfg0.N) (h : t.val % 6 = 0) : Vec F S1024x128 .f32 :=
  viewG.read (Elt F) (viewG.writes (Elt F) viewG.junk (firstAt m c t h).2.1)

/-- The modulated rows a first column step stores in the scratch. -/
def rowsAt (c : Dev nD) (t : Fin cfg0.N) (h : t.val % 6 = 0) : Vec F S1024x2048 .bf16 :=
  viewS.read (Elt F) (viewS.writes (Elt F) viewS.junk (firstAt m c t h).2.2.1)

theorem keys_cover (c : Dev nD) (t : Fin cfg0.N) (h : t.val % 6 = 0) (y : S1024x1024.Idx) :
    ∃ pc ∈ (firstAt m c t h).1, y ∈ pc.1.set :=
  View.cover_of_tiledL (firstAt m c t h).1 S512x256.size (by sl_kernel_rfl) y

theorem gates_cover (c : Dev nD) (t : Fin cfg0.N) (h : t.val % 6 = 0) (y : S1024x128.Idx) :
    ∃ pc ∈ (firstAt m c t h).2.1, y ∈ pc.1.set :=
  View.cover_of_tiledL (firstAt m c t h).2.1 S512x128.size (by sl_kernel_rfl) y

theorem rows_cover (c : Dev nD) (t : Fin cfg0.N) (h : t.val % 6 = 0) (y : S1024x2048.Idx) :
    ∃ pc ∈ (firstAt m c t h).2.2.1, y ∈ pc.1.set :=
  View.cover_of_tiledL (firstAt m c t h).2.2.1 S512x2048.size (by sl_kernel_rfl) y

/-- The first column step of a point's row block. -/
def base (t : Fin cfg0.N) : Fin cfg0.N := ⟨6 * (t.val / 6), by have := t.isLt; omega⟩

theorem base_mod (t : Fin cfg0.N) : (base t).val % 6 = 0 := by
  show 6 * (t.val / 6) % 6 = 0; omega

theorem base_first (t : Fin cfg0.N) (h : t.val % 6 = 0) : base t = t :=
  Fin.ext (by show 6 * (t.val / 6) = t.val; omega)

theorem base_later (t s : Fin cfg0.N) (h : ¬ t.val % 6 = 0) (hs : s.val = t.val - 1) : base s = base t :=
  Fin.ext (by show 6 * (s.val / 6) = 6 * (t.val / 6); omega)

/-- The run of the body at a later column step, on that point's buffers and blocks and the row block's modulated rows. -/
abbrev laterAt (c : Dev nD) (t : Fin cfg0.N) (h : ¬ t.val % 6 = 0) :=
  runLater c (grid0.coords t) (stgX t) (stgX_whole t) (stgShift t) (stgShift_whole t) (stgScale t) (stgScale_whole t)
    (stgNorm t) (stgNorm_whole t) (stgWk t) (stgWk_whole t) (stgWf t) (stgWf_whole t) (stgWg t) (stgWg_whole t)
    (stgBg t) (stgBg_whole t) (stgK t) (stgK_whole t) (stgF t) (stgF_whole t) (stgG t) (stgG_whole t)
    scr (Memref.isWhole_whole _) (fun h' => h ((first_iff t).mp h')) ((later_iff t).mpr h)
    (iblk m c 5 t) (rowsAt m c (base t) (base_mod t))

/-- The features a later column step stores. -/
def featAt (c : Dev nD) (t : Fin cfg0.N) (h : ¬ t.val % 6 = 0) : Vec F S1024x1024 .bf16 :=
  viewF.read (Elt F) (viewF.writes (Elt F) viewF.junk (laterAt m c t h).1)

theorem feat_cover (c : Dev nD) (t : Fin cfg0.N) (h : ¬ t.val % 6 = 0) (y : S1024x1024.Idx) :
    ∃ pc ∈ (laterAt m c t h).1, y ∈ pc.1.set :=
  View.cover_of_tiledL (laterAt m c t h).1 S1024x1024.size (by sl_kernel_rfl) y

/-- The features' buffer after a point: what the point stored, and nothing stated of a first column step, after which the
    buffer is not written back. -/
def featAfter (c : Dev nD) (t : Fin cfg0.N) : Vec F S1024x1024 .bf16 :=
  if h : t.val % 6 = 0 then viewF.read (Elt F) viewF.junk else featAt m c t h

/-! ## The proof data -/

/-- The invariant before position `n`: the scratch holds the modulated rows of the point before. -/
def Inv (c : Dev nD) : (n : ℕ) → n ≤ cfg0.N → sProp 𝕄
  | 0, _ => Pipeline.ΦA spec0 c
  | n + 1, hn => iprop(owns (c : Thread nD τ) scr fullShare (rowsAt m c (base ⟨n, hn⟩) (base_mod _)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) : Inv m c (n + 1) hn
    = iprop(owns (c : Thread nD τ) scr fullShare (rowsAt m c (base ⟨n, hn⟩) (base_mod _)) ∗ (∃ r, prngReg c r)) := rfl

theorem Inv_pos (c : Dev nD) (n : ℕ) (h : n ≤ cfg0.N) (hz : n ≠ 0) : Inv m c n h
    = iprop(owns (c : Thread nD τ) scr fullShare (rowsAt m c (base ⟨n - 1, by omega⟩) (base_mod _)) ∗ (∃ r, prngReg c r)) := by
  cases n with
  | zero => exact absurd rfl hz
  | succ n => rfl

/-- The launch's invariant with the scratch as a buffer owned at some contents. -/
theorem launch_inv (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

/-- The proof data: the arrays as the region finds them, what each buffer holds after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => keysAt m c (base t) (base_mod t)
    | ⟨9, _⟩ => featAfter m c t
    | ⟨10, _⟩ => gatesAt m c (base t) (base_mod t)
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = keysAt m c (base t) (base_mod t) := by dsimp only [dats]
theorem after_9 (c : Dev nD) (t : Fin cfg0.N) : (dats m 0 c).after 9 t = featAfter m c t := by dsimp only [dats]
theorem after_10 (c : Dev nD) (t : Fin cfg0.N) : (dats m 0 c).after 10 t = gatesAt m c (base t) (base_mod t) := by dsimp only [dats]

theorem keysAt_congr (c : Dev nD) {t s : Fin cfg0.N} (e : t = s) (h : t.val % 6 = 0) (h' : s.val % 6 = 0) :
    keysAt m c t h = keysAt m c s h' := by subst e; rfl
theorem gatesAt_congr (c : Dev nD) {t s : Fin cfg0.N} (e : t = s) (h : t.val % 6 = 0) (h' : s.val % 6 = 0) :
    gatesAt m c t h = gatesAt m c s h' := by subst e; rfl
theorem rowsAt_congr (c : Dev nD) {t s : Fin cfg0.N} (e : t = s) (h : t.val % 6 = 0) (h' : s.val % 6 = 0) :
    rowsAt m c t h = rowsAt m c s h' := by subst e; rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## Which buffers a point stores into, and which it writes back -/

theorem idle_8 : ∀ t : Fin cfg0.N, cfg0.idle 8 (grid0.coords t) = !(t.val % 6 == 0) :=
  (by decide +kernel : ∀ t : Fin grid0.N, cfg0.idle 8 (grid0.coords t) = !(t.val % 6 == 0))
theorem idle_9 : ∀ t : Fin cfg0.N, cfg0.idle 9 (grid0.coords t) = (t.val % 6 == 0) :=
  (by decide +kernel : ∀ t : Fin grid0.N, cfg0.idle 9 (grid0.coords t) = (t.val % 6 == 0))
theorem idle_10 : ∀ t : Fin cfg0.N, cfg0.idle 10 (grid0.coords t) = !(t.val % 6 == 0) :=
  (by decide +kernel : ∀ t : Fin grid0.N, cfg0.idle 10 (grid0.coords t) = !(t.val % 6 == 0))
theorem flush_8 : ∀ t : Fin cfg0.N, (cfg0.win 8).flush t = (t.val % 6 == 5) :=
  (by decide +kernel : ∀ t : Fin grid0.N, win0_8.flush t = (t.val % 6 == 5))
theorem flush_9 : ∀ t : Fin cfg0.N, (cfg0.win 9).flush t = !(t.val % 6 == 0) :=
  (by decide +kernel : ∀ t : Fin grid0.N, win0_9.flush t = !(t.val % 6 == 0))
theorem flush_10 : ∀ t : Fin cfg0.N, (cfg0.win 10).flush t = (t.val % 6 == 5) :=
  (by decide +kernel : ∀ t : Fin grid0.N, win0_10.flush t = (t.val % 6 == 5))

theorem fresh_8 (t : Fin cfg0.N) (h : ¬ t.val % 6 = 0) : cfg0.fresh 8 t.val = false := by
  rw [cfg0.fresh_tab 8 (fun n => n % 6 == 0) rfl (fun s => by
    rw [flush_8 s, idle_8 s]
    by_cases h0 : s.val % 6 = 0 <;> by_cases h5 : s.val % 6 = 5 <;> simp [h0, h5] <;> omega) t.val (Nat.le_of_lt t.isLt)]
  simp [h]

theorem fresh_10 (t : Fin cfg0.N) (h : ¬ t.val % 6 = 0) : cfg0.fresh 10 t.val = false := by
  rw [cfg0.fresh_tab 10 (fun n => n % 6 == 0) rfl (fun s => by
    rw [flush_10 s, idle_10 s]
    by_cases h0 : s.val % 6 = 0 <;> by_cases h5 : s.val % 6 = 5 <;> simp [h0, h5] <;> omega) t.val (Nat.le_of_lt t.isLt)]
  simp [h]

/-- At a later column step the keys' buffer still holds what the first step stored. -/
theorem before_8 (c : Dev nD) (t : Fin cfg0.N) (h : ¬ t.val % 6 = 0) (d) :
    (dats m 0 c).before 8 t d = keysAt m c (base t) (base_mod t) := by
  rw [(dats m 0 c).before_out_traj 8 rfl (fun _ _ => rfl) (fun s hs hi _ => by
      rw [after_8, after_8]
      rw [idle_8 s] at hi
      exact keysAt_congr m c (base_later s _ (by simpa using hi) rfl).symm _ _) t.val t rfl d,
    fresh_8 t h, if_neg Bool.false_ne_true, after_8]
  exact keysAt_congr m c (base_later t _ h rfl) _ _

/-- At a later column step the gates' buffer still holds what the first step stored. -/
theorem before_10 (c : Dev nD) (t : Fin cfg0.N) (h : ¬ t.val % 6 = 0) (d) :
    (dats m 0 c).before 10 t d = gatesAt m c (base t) (base_mod t) := by
  rw [(dats m 0 c).before_out_traj 10 rfl (fun _ _ => rfl) (fun s hs hi _ => by
      rw [after_10, after_10]
      rw [idle_10 s] at hi
      exact gatesAt_congr m c (base_later s _ (by simpa using hi) rfl).symm _ _) t.val t rfl d,
    fresh_10 t h, if_neg Bool.false_ne_true, after_10]
  exact gatesAt_congr m c (base_later t _ h rfl) _ _

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (stgX t) fullShare ((dats m 0 c).before 0 t d))
    ∗ (∃ d, owns (c : Thread nD τ) (stgShift t) fullShare ((dats m 0 c).before 1 t d))
    ∗ (∃ d, owns (c : Thread nD τ) (stgScale t) fullShare ((dats m 0 c).before 2 t d))
    ∗ (∃ d, owns (c : Thread nD τ) (stgNorm t) fullShare ((dats m 0 c).before 3 t d))
    ∗ (∃ d, owns (c : Thread nD τ) (stgWk t) fullShare ((dats m 0 c).before 4 t d))
    ∗ (∃ d, owns (c : Thread nD τ) (stgWf t) fullShare ((dats m 0 c).before 5 t d))
    ∗ (∃ d, owns (c : Thread nD τ) (stgWg t) fullShare ((dats m 0 c).before 6 t d))
    ∗ (∃ d, owns (c : Thread nD τ) (stgBg t) fullShare ((dats m 0 c).before 7 t d))
    ∗ (∃ d, owns (c : Thread nD τ) (stgK t) fullShare ((dats m 0 c).before 8 t d))
    ∗ (∃ d, owns (c : Thread nD τ) (stgF t) fullShare ((dats m 0 c).before 9 t d))
    ∗ (∃ d, owns (c : Thread nD τ) (stgG t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t)

theorem leaves_0 (c : Dev nD) (t : Fin cfg0.N) :
    (dats m 0 c).leavesExact 0 t = owns (c : Thread nD τ) (stgX t) fullShare (iblk m c 0 t) := by rw [← after_0]
theorem leaves_1 (c : Dev nD) (t : Fin cfg0.N) :
    (dats m 0 c).leavesExact 1 t = owns (c : Thread nD τ) (stgShift t) fullShare (iblk m c 1 t) := by rw [← after_1]
theorem leaves_2 (c : Dev nD) (t : Fin cfg0.N) :
    (dats m 0 c).leavesExact 2 t = owns (c : Thread nD τ) (stgScale t) fullShare (iblk m c 2 t) := by rw [← after_2]
theorem leaves_3 (c : Dev nD) (t : Fin cfg0.N) :
    (dats m 0 c).leavesExact 3 t = owns (c : Thread nD τ) (stgNorm t) fullShare (iblk m c 3 t) := by rw [← after_3]
theorem leaves_4 (c : Dev nD) (t : Fin cfg0.N) :
    (dats m 0 c).leavesExact 4 t = owns (c : Thread nD τ) (stgWk t) fullShare (iblk m c 4 t) := by rw [← after_4]
theorem leaves_5 (c : Dev nD) (t : Fin cfg0.N) :
    (dats m 0 c).leavesExact 5 t = owns (c : Thread nD τ) (stgWf t) fullShare (iblk m c 5 t) := by rw [← after_5]
theorem leaves_6 (c : Dev nD) (t : Fin cfg0.N) :
    (dats m 0 c).leavesExact 6 t = owns (c : Thread nD τ) (stgWg t) fullShare (iblk m c 6 t) := by rw [← after_6]
theorem leaves_7 (c : Dev nD) (t : Fin cfg0.N) :
    (dats m 0 c).leavesExact 7 t = owns (c : Thread nD τ) (stgBg t) fullShare (iblk m c 7 t) := by rw [← after_7]

theorem leaves_8_first (c : Dev nD) (t : Fin cfg0.N) (h : t.val % 6 = 0) :
    (dats m 0 c).leavesExact 8 t = owns (c : Thread nD τ) (stgK t) fullShare (keysAt m c t h) := by
  unfold Dat.leavesExact
  rw [show cfg0.idle 8 (cfg0.grid.coords t) = false from (idle_8 t).trans (by simp [h]), after_8,
    keysAt_congr m c (base_first t h) _ h]

theorem leaves_9_first (c : Dev nD) (t : Fin cfg0.N) (h : t.val % 6 = 0) :
    (dats m 0 c).leavesExact 9 t = iprop(∃ d, owns (c : Thread nD τ) (stgF t) fullShare ((dats m 0 c).before 9 t d)) :=
  (dats m 0 c).leavesExact_idle 9 t ((idle_9 t).trans (by simp [h])) ((flush_9 t).trans (by simp [h]))

theorem leaves_10_first (c : Dev nD) (t : Fin cfg0.N) (h : t.val % 6 = 0) :
    (dats m 0 c).leavesExact 10 t = owns (c : Thread nD τ) (stgG t) fullShare (gatesAt m c t h) := by
  unfold Dat.leavesExact
  rw [show cfg0.idle 10 (cfg0.grid.coords t) = false from (idle_10 t).trans (by simp [h]), after_10,
    gatesAt_congr m c (base_first t h) _ h]

/-- At a later column step the keys' buffer, as the body found it, is what the step has to leave. -/
theorem leaves_8_later (c : Dev nD) (t : Fin cfg0.N) (h : ¬ t.val % 6 = 0) (d) :
    owns (c : Thread nD τ) (stgK t) fullShare ((dats m 0 c).before 8 t d) ⊢ ((dats m 0 c).leavesExact 8 t : sProp 𝕄) := by
  have hi : cfg0.idle 8 (cfg0.grid.coords t) = true := (idle_8 t).trans (by simp [h])
  by_cases h5 : t.val % 6 = 5
  · rw [before_8 m c t h, ← after_8]
    unfold Dat.leavesExact
    rw [hi, show (cfg0.win 8).flush t = true from (flush_8 t).trans (by simp [h5])]
  · rw [(dats m 0 c).leavesExact_idle 8 t hi ((flush_8 t).trans (by simp [h5]))]
    iintro H; iexists _; iexact H

/-- At a later column step the gates' buffer, as the body found it, is what the step has to leave. -/
theorem leaves_10_later (c : Dev nD) (t : Fin cfg0.N) (h : ¬ t.val % 6 = 0) (d) :
    owns (c : Thread nD τ) (stgG t) fullShare ((dats m 0 c).before 10 t d) ⊢ ((dats m 0 c).leavesExact 10 t : sProp 𝕄) := by
  have hi : cfg0.idle 10 (cfg0.grid.coords t) = true := (idle_10 t).trans (by simp [h])
  by_cases h5 : t.val % 6 = 5
  · rw [before_10 m c t h, ← after_10]
    unfold Dat.leavesExact
    rw [hi, show (cfg0.win 10).flush t = true from (flush_10 t).trans (by simp [h5])]
  · rw [(dats m 0 c).leavesExact_idle 10 t hi ((flush_10 t).trans (by simp [h5]))]
    iintro H; iexists _; iexact H

theorem leaves_9_later (c : Dev nD) (t : Fin cfg0.N) (h : ¬ t.val % 6 = 0) :
    (dats m 0 c).leavesExact 9 t = owns (c : Thread nD τ) (stgF t) fullShare (featAt m c t h) := by
  unfold Dat.leavesExact
  rw [show cfg0.idle 9 (cfg0.grid.coords t) = false from (idle_9 t).trans (by simp [h]), after_9]
  unfold featAfter; rw [dif_neg h]

/-- Whatever the invariant says of the scratch, the body finds it at some contents. -/
theorem Inv_some (c : Dev nD) (n : ℕ) (h : n ≤ cfg0.N) :
    Inv m c n h ⊢ (iprop((∃ d, owns (c : Thread nD τ) scr fullShare d) ∗ (∃ r, prngReg c r)) : sProp 𝕄) := by
  by_cases hz : n = 0
  · rw [Inv_zero m c n h hz, launch_inv]
  · rw [Inv_pos m c n h hz]
    iintro ⟨HS, Hg⟩
    isplitl [HS]
    · iexists _; iexact HS
    iexact Hg

set_option maxHeartbeats 4000000 in
/-- The body at a first column step. -/
theorem sound_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Inv m c (t.val + 1) t.isLt from rfl, Inv_succ, Inv_castSucc,
    leaves_0, leaves_1, leaves_2, leaves_3, leaves_4, leaves_5, leaves_6, leaves_7,
    leaves_8_first m c t h, leaves_9_first m c t h, leaves_10_first m c t h,
    rowsAt_congr m c (base_first t h) (base_mod t) h]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩⟩
  ihave HI2 := (Inv_some m c t.val (Nat.le_of_lt t.isLt)) $$ HI
  icases HI2 with ⟨HS, Hg⟩
  iapply ((firstAt m c t h).2.2.2 Set.univ _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexists _; iexact H8
  isplitl [H10]; · iexists _; iexact H10
  isplitl [HS]; · iexact HS
  iintro ⟨H0, H1, H2, H3, H4, H6, H7, ⟨%e8, H8⟩, ⟨%e10, H10⟩, ⟨%es, HS⟩⟩
  isplitl [HS Hg]
  · isplitl [HS]
    · unfold owns; iexists _; isplitr
      swap; · iexact HS
      ipureintro; exact View.read_writes_of_cover _ _ _ _ _ (rows_cover m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (keys_cover m c t h)
  isplitl [H9]; · iexact H9
  unfold owns; iexists _; isplitr
  swap; · iexact H10
  ipureintro; exact View.read_writes_of_cover _ _ _ _ _ (gates_cover m c t h)

set_option maxHeartbeats 4000000 in
/-- The body at a later column step. -/
theorem sound_later (c : Dev nD) (t : Fin cfg0.N) (h : ¬ t.val % 6 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Inv m c (t.val + 1) t.isLt from rfl, Inv_succ, Inv_castSucc,
    Inv_pos m c _ _ (by intro h0; exact h (by omega)),
    leaves_0, leaves_1, leaves_2, leaves_3, leaves_4, leaves_5, leaves_6, leaves_7, leaves_9_later m c t h,
    rowsAt_congr m c (base_later t ⟨t.val - 1, by omega⟩ h rfl) (base_mod _) (base_mod t)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((laterAt m c t h).2 Set.univ _)
  isplitl [H5]; · iexact H5
  isplitl [H9]; · iexists _; iexact H9
  isplitl [HS]; · iexact HS
  iintro ⟨H5, ⟨%e9, H9⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8_later m c t h d8); iexact H8
  isplitl [H9]
  · unfold owns; iexists _; isplitr
    swap; · iexact H9
    ipureintro; exact View.read_writes_of_cover _ _ _ _ _ (feat_cover m c t h)
  iapply (leaves_10_later m c t h d10); iexact H10

/-! ## The run -/

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (if h : t.val % 6 = 0 then sound_first m c t h else sound_later m c t h) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [launch_inv]
  exact Inv_some m c cfg0.N (Nat.le_refl _)

set_option backward.isDefEq.respectTransparency.types false in
/-- From any memory every run ends, with every array at what the proof data says and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.FeatIdeal.Hand

end
-- ==== Proof.Feat.Case.lean ====
module

public import proofs.«01_k».proof.Proof.Feat.Block
public import proofs.«01_k».proof.Proof.Feat.Frame
public import proofs.«01_k».proof.Proof.Proj.Case

@[expose] public section

/-!
# What the body of the latent projection leaves, at a first and at a later column step

A first column step modulates its rows into the scratch and stores their keys and gates, half the rows after the
other half; a later one stores 1024 features of the rows in the scratch.
-/

set_option maxRecDepth 16384

noncomputable section

namespace Cert.FeatIdeal.Body

open Cert.FeatIdeal Cert.FeatIdeal.Gen Cert.FeatIdeal.Hand Cert.MlpMath Idealize.ShloMosaic Idealize.ShloMosaic.TcCoe Idealize.SL.Sem
open Cert.ProjIdeal.Body (prod half half_apply hz2 hz4 readCov_head canon_pieces)

/-- A piece of a block of keys restricts the function `G` of the block's entries. -/
def KeysFit (G : S1024x1024.Idx → EReal) (p : View.Piece (Elt Ideal) S1024x1024 .bf16) : Prop := ∀ x : p.1.shape.Idx, p.2 x = G (p.1.emb x)

/-- One more piece: 256 columns of the keys of 512 rows. -/
theorem keysCons (H : Fin 1024 → Fin 2048 → EReal) (w : FVec Ideal S2048x1024 .bf16) (h : FVec Ideal S512x2048 .bf16) (ro o : ℕ)
    (hro : ro + 512 ≤ 1024) (hH : ∀ (r : Fin 512) k, h (ix2 r k) = H ⟨ro + r.val, by omega⟩ k) (hw hp) {v : S512x256.Idx → EReal}
    (e : v = k0_pay6 (F := Ideal) h (cols w o hw)) (L : List (View.Piece (Elt Ideal) S1024x1024 .bf16)) (hL : ∀ p ∈ L, KeysFit (keysBlock H w) p) :
    ∀ p ∈ (⟨Rect.unit (s := S1024x1024) ![ro, o] ![512, 256] hp, v⟩ : View.Piece (Elt Ideal) S1024x1024 .bf16) :: L, KeysFit (keysBlock H w) p := by
  subst e
  exact List.forall_mem_cons.mpr ⟨keysPiece H w h ro o hro hH hw hp, hL⟩

variable (c : Dev nD) (i : grid0.Coords)
    (arg2 : Memref sig .tc .vmem S1024x2048 .f32) (harg2 : arg2.IsWhole)
    (arg3 : Memref sig .tc .vmem S1x1x1x2048 .f32) (harg3 : arg3.IsWhole)
    (arg4 : Memref sig .tc .vmem S1x1x1x2048 .f32) (harg4 : arg4.IsWhole)
    (arg5 : Memref sig .tc .vmem S1x2048 .f32) (harg5 : arg5.IsWhole)
    (arg6 : Memref sig .tc .vmem S2048x1024 .bf16) (harg6 : arg6.IsWhole)
    (arg7 : Memref sig .tc .vmem S1024x2048 .bf16) (harg7 : arg7.IsWhole)
    (arg8 : Memref sig .tc .vmem S2048x128 .bf16) (harg8 : arg8.IsWhole)
    (arg9 : Memref sig .tc .vmem S1x128 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x128 .f32) (harg12 : arg12.IsWhole)
    (arg13 : Memref sig .tc .vmem S1024x2048 .bf16) (harg13 : arg13.IsWhole)
    (x0 : Vec Ideal S1024x2048 .f32) (x1 x2 : Vec Ideal S1x1x1x2048 .f32) (x3 : Vec Ideal S1x2048 .f32)
    (x4 : Vec Ideal S2048x1024 .bf16) (x5 : Vec Ideal S1024x2048 .bf16) (x6 : Vec Ideal S2048x128 .bf16) (x7 : Vec Ideal S1x128 .f32)
    (xs : Vec Ideal S1024x2048 .bf16)

/-- A first column step leaves the modulated rows in the scratch. -/
theorem first_rows (h1 h2) (cover : ∀ y : S1024x2048.Idx, ∃ p ∈ (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).2.2.1, y ∈ p.1.set) :
    View.canon (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).2.2.1
      = fun i => modRows x0 x1 x2 x3 (i 0) (i 1) := by
  refine canon_pieces _ _ ?_ cover
  clear cover
  unfold runFirst
  dsimp only
  sl_unfold_words
  simp only [View.readAt_eq_ld, harg2.read_unread, harg3.read_unread, harg4.read_unread, harg5.read_unread]
  rw [View.ld_unit_zero (S := S1x2048) hz2, View.ld_unit_zero (S := S1x1x1x2048) hz4, View.ld_unit_zero (S := S1x1x1x2048) hz4]
  refine List.forall_mem_cons.mpr ⟨fun x => ?_, List.forall_mem_singleton.mpr fun x => ?_⟩
  · exact modPiece x0 x1 x2 x3 512 inb_S1024x2048_S512x2048_512_0 inb_S1024x2048_S512x2048_512_0 x
  · exact modPiece x0 x1 x2 x3 0 inb_S1024x2048_S512x2048_0_0 inb_S1024x2048_S512x2048_0_0 x

/-- A first column step leaves the gates of the modulated rows. -/
theorem first_gates (h1 h2) (cover : ∀ y : S1024x128.Idx, ∃ p ∈ (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).2.1, y ∈ p.1.set) :
    View.canon (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).2.1
      = gatesBlock (modRows x0 x1 x2 x3) x6 x7 := by
  refine canon_pieces _ _ ?_ cover
  clear cover
  unfold runFirst
  dsimp only
  sl_unfold_words
  simp only [View.readAt_eq_ld, harg2.read_unread, harg3.read_unread, harg4.read_unread, harg5.read_unread, harg8.read_unread, harg9.read_unread]
  simp only [View.ld_unit_zero (S := S1x2048) hz2, View.ld_unit_zero (S := S1x1x1x2048) hz4, View.ld_unit_zero (S := S2048x128) hz2, View.ld_unit_zero (S := S1x128) hz2]
  rw [readCov_head, readCov_head]
  refine List.forall_mem_cons.mpr ⟨fun x => ?_, List.forall_mem_singleton.mpr fun x => ?_⟩
  · exact gatesPiece _ x6 x7 _ 512 (by decide) (fun r k => modHalf x0 x1 x2 x3 512 inb_S1024x2048_S512x2048_512_0 r k) inb_S1024x128_S512x128_512_0 x
  · exact gatesPiece _ x6 x7 _ 0 (by decide) (fun r k => modHalf x0 x1 x2 x3 0 inb_S1024x2048_S512x2048_0_0 r k) inb_S1024x128_S512x128_0_0 x

/-- A first column step leaves the keys of the modulated rows. -/
theorem first_keys (h1 h2) (cover : ∀ y : S1024x1024.Idx, ∃ p ∈ (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).1, y ∈ p.1.set) :
    View.canon (runFirst (F := Ideal) c i arg2 harg2 arg3 harg3 arg4 harg4 arg5 harg5 arg6 harg6 arg7 harg7
      arg8 harg8 arg9 harg9 arg10 harg10 arg11 harg11 arg12 harg12 arg13 harg13 h1 h2 x0 x1 x2 x3 x4 x6 x7).1
      = keysBlock (modRows x0 x1 x2 x3) x4 := by
  refine canon_pieces _ _ ?_ cover
  clear cover
  unfold runFirst
  dsimp only
  sl_unfold_words
  simp only [View.readAt_eq_ld, harg2.read_unread, harg3.read_unread, harg4.read_unread, harg5.read_unread, harg6.read_unread]
  simp only [View.ld_unit_zero (S := S1x2048) hz2, View.ld_unit_zero (S := S1x1x1x2048) hz4]
  rw [readCov_head, readCov_head]
  change ∀ p ∈ _, KeysFit _ p
  refine keysCons _ _ _ 512 768 (by decide) (fun r k => modHalf x0 x1 x2 x3 512 inb_S1024x2048_S512x2048_512_0 r k) inb_S2048x1024_S2048x256_0_768 _ rfl _ ?_
  refine keysCons _ _ _ 512 512 (by decide) (fun r k => modHalf x0 x1 x2 x3 512 inb_S1024x2048_S512x2048_512_0 r k) inb_S2048x1024_S2048x256_0_512 _ rfl _ ?_
  refine keysCons _ _ _ 512 256 (by decide) (fun r k => modHalf x0 x1 x2 x3 512 inb_S1024x2048_S512x2048_512_0 r k) inb_S2048x1024_S2048x256_0_256 _ rfl _ ?_
  refine keysCons _ _ _ 512 0 (by decide) (fun r k => modHalf x0 x1 x2 x3 512 inb_S1024x2048_S512x2048_512_0 r k) inb_S2048x1024_S2048x256_0_0 _ rfl _ ?_
  refine keysCons _ _ _ 0 768 (by decide) (fun r k => modHalf x0 x1 x2 x3 0 inb_S1024x2048_S512x2048_0_0 r k) inb_S2048x1024_S2048x256_0_768 _ rfl _ ?_
  refine keysCons _ _ _ 0 512 (by decide) (fun r k => modHalf x0 x1 x2 x3 0 inb_S1024x2048_S512x2048_0_0 r k) inb_S2048x1024_S2048x256_0_512 _ rfl _ ?_
  refine keysCons _ _ _ 0 256 (by decide) (fun r k => modHalf x0 x1 x2 x3 0 inb_S1024x2048_S512x2048_0_0 r k) inb_S2048x1024_S2048x256_0_256 _ rfl _ ?_
  refine keysCons _ _ _ 0 0 (by decide) (fun r k => modHalf x0 x1 x2 x3 0 inb_S1024x2048_S512x2048_0_0 r k) inb_S2048x1024_S2048x256_0_0 _ rfl _ ?_
  exact List.forall_mem_nil _

/-- A later column step leaves 1024 features of the rows in the scratch. -/
theorem later_feat (h1 h2) (cover : ∀ y : S1024x1024.Idx, ∃ p ∈ (runLater (F := Ideal) c i arg2 harg2 arg3 harg3 arg4 harg4 arg5 harg5 arg6 harg6 arg7 harg7
      arg8 harg8 arg9 harg9 arg10 harg10 arg11 harg11 arg12 harg12 arg13 harg13 h1 h2 x5 xs).1, y ∈ p.1.set) :
    View.canon (runLater (F := Ideal) c i arg2 harg2 arg3 harg3 arg4 harg4 arg5 harg5 arg6 harg6 arg7 harg7
      arg8 harg8 arg9 harg9 arg10 harg10 arg11 harg11 arg12 harg12 arg13 harg13 h1 h2 x5 xs).1
      = featBlock x5 (fun r k => xs (ix2 r k)) := by
  refine canon_pieces _ _ ?_ cover
  clear cover
  unfold runLater
  dsimp only
  sl_unfold_words
  simp only [View.readAt_eq_ld, harg7.read_unread, harg13.read_unread]
  simp only [View.ld_unit_zero (S := S1024x2048) hz2]
  refine List.forall_mem_singleton.mpr fun x => ?_
  obtain ⟨f, r, rfl⟩ : ∃ (a b : Fin 1024), x = ix2 a b := ⟨x 0, x 1, eq_ix2 x⟩
  have he : (Rect.unit (s := S1024x1024) ![0, 0] ![1024, 1024] inb_S1024x1024_S1024x1024_0_0).emb (ix2 f r) = (ix2 f r : S1024x1024.Idx) := by
    funext a
    apply Fin.ext
    match a with
    | ⟨0, _⟩ => show 0 + 1 * f.val = f.val; omega
    | ⟨1, _⟩ => show 0 + 1 * r.val = r.val; omega
  refine (feat_apply x5 xs f r).trans ?_
  show _ = featBlock x5 _ ((Rect.unit (s := S1024x1024) ![0, 0] ![1024, 1024] inb_S1024x1024_S1024x1024_0_0).emb (ix2 f r))
  rw [he]
  rfl

variable (m : (ℓ : Loc nD τ sig) → Buf (Elt Ideal) ℓ)

/-- The modulated rows of a grid point's block. -/
def rowsOf (t : Fin cfg0.N) : Fin 1024 → Fin 2048 → EReal := modRows (iblk m c 0 t) (iblk m c 1 t) (iblk m c 2 t) (iblk m c 3 t)

theorem rowsAt_eq (t : Fin cfg0.N) (h) : rowsAt (F := Ideal) m c t h = fun i => rowsOf c m t (i 0) (i 1) := by
  unfold rowsAt
  rw [View.read_writes_eq_canon _ _ _ (rows_cover m c t h)]
  exact first_rows _ _ _ _ _ _ _ _ _ _ _ _ _ _ _ _ _ _ _ _ _ _ _ _ _ _ _ _ _ _ _ _ _ _ _ (rows_cover m c t h)

theorem keysAt_eq (t : Fin cfg0.N) (h) : keysAt (F := Ideal) m c t h = keysBlock (rowsOf c m t) (iblk m c 4 t) := by
  unfold keysAt
  rw [View.read_writes_eq_canon _ _ _ (keys_cover m c t h)]
  exact first_keys _ _ _ _ _ _ _ _ _ _ _ _ _ _ _ _ _ _ _ _ _ _ _ _ _ _ _ _ _ _ _ _ _ _ _ (keys_cover m c t h)

theorem gatesAt_eq (t : Fin cfg0.N) (h) : gatesAt (F := Ideal) m c t h = gatesBlock (rowsOf c m t) (iblk m c 6 t) (iblk m c 7 t) := by
  unfold gatesAt
  rw [View.read_writes_eq_canon _ _ _ (gates_cover m c t h)]
  exact first_gates _ _ _ _ _ _ _ _ _ _ _ _ _ _ _ _ _ _ _ _ _ _ _ _ _ _ _ _ _ _ _ _ _ _ _ (gates_cover m c t h)

theorem featAt_eq (t : Fin cfg0.N) (h) : featAt (F := Ideal) m c t h = featBlock (iblk m c 5 t) (rowsOf c m (base t)) := by
  unfold featAt
  rw [View.read_writes_eq_canon _ _ _ (feat_cover m c t h)]
  refine (later_feat _ _ _ _ _ _ _ _ _ _ _ _ _ _ _ _ _ _ _ _ _ _ _ _ _ _ _ _ _ _ (feat_cover m c t h)).trans ?_
  rw [rowsAt_eq]
  rfl

end Cert.FeatIdeal.Body
-- ==== Proof.Feat.Rows.lean ====
module

public import proofs.«01_k».proof.Proof.Mlp.Rows
public import Mathlib.Data.EReal.Operations

@[expose] public section

/-!
# Which columns of the latent projection are queries, keys, values, output gates and gates

The weights have 6176 columns: 1024 for the queries, 1024 for the keys, 2048 for the values, 2048 for the output
gates and 32 for the gates. The features are the scaled queries, the values and the output gates.
-/

noncomputable section

namespace Cert.FeatMath

open Idealize.ShloMosaic

/-- The factor of the queries. -/
def factor : EReal := Ideal.ofBits .f32 0x3DB504F3#32

theorem factor_coe : ∃ a : ℝ, 0 ≤ a ∧ factor = (a : EReal) := by
  have e : factor = ((11863283 : ℝ) : EReal) * ((1 / 134217728 : ℝ) : EReal) := by
    unfold factor
    simp [Ideal.ofBits, Ideal.ieee]
    norm_num
  exact ⟨11863283 * (1 / 134217728), by norm_num, by rw [e, ← EReal.coe_mul]⟩

theorem factor_nonneg : 0 ≤ factor := by
  obtain ⟨a, ha, e⟩ := factor_coe
  rw [e]
  exact EReal.coe_nonneg.mpr ha

theorem factor_ne_top : factor ≠ ⊤ := by
  obtain ⟨a, _, e⟩ := factor_coe
  rw [e]
  exact EReal.coe_ne_top a

/-- A sum of scaled terms is the scaled sum: the factor is not negative and not infinite. -/
theorem sum_mul_factor {ι : Type} (s : Finset ι) (f : ι → EReal) : (∑ q ∈ s, f q) * factor = ∑ q ∈ s, f q * factor := by
  classical
  induction s using Finset.induction_on with
  | empty => simp
  | insert a s ha ih =>
    rw [Finset.sum_insert ha, Finset.sum_insert ha, EReal.right_distrib_of_nonneg_of_ne_top factor_nonneg factor_ne_top, ih]

/-- Feature `f` of a row of the 6176 columns: the scaled queries, the values and the output gates. -/
def feature (p : Fin 6176 → EReal) (f : Fin 5120) : EReal :=
  if f.val < 1024 then p ⟨f.val, by omega⟩ * factor else p ⟨f.val + 1024, by omega⟩

/-- Key `k` of a row of the 6176 columns. -/
def key (p : Fin 6176 → EReal) (k : Fin 1024) : EReal := p ⟨1024 + k.val, by omega⟩

/-- Gate `j` of a row of the 6176 columns; the lanes from 32 are zero. -/
def gate (p : Fin 6176 → EReal) (b : Fin 32 → EReal) (j : Fin 128) : EReal :=
  if h : j.val < 32 then p ⟨6144 + j.val, by omega⟩ + b ⟨j.val, h⟩ else 0

/-- The features of a row's products are its products with the features' columns. -/
theorem feature_products (h : Fin 2048 → EReal) (w : Fin 2048 → Fin 6176 → EReal) (f : Fin 5120) :
    feature (fun C => ∑ q, h q * w q C) f = ∑ q, h q * feature (w q) f := by
  unfold feature
  split
  · rw [sum_mul_factor]
    exact Finset.sum_congr rfl fun q _ => mul_assoc _ _ _
  · rfl

/-- The gates of a row's products are its products with the padded columns, plus the padded bias. -/
theorem gate_products (h : Fin 2048 → EReal) (w : Fin 2048 → Fin 6176 → EReal) (b : Fin 32 → EReal) (j : Fin 128) :
    gate (fun C => ∑ q, h q * w q C) b j
      = (∑ q, h q * (if h : j.val < 32 then w q ⟨6144 + j.val, by omega⟩ else 0)) + (if h : j.val < 32 then b ⟨j.val, h⟩ else 0) := by
  unfold gate
  split
  · rfl
  · simp

end Cert.FeatMath

end
-- ==== Proof.Feat.Blocks.lean ====
module

public import proofs.«01_k».proof.Proof.Feat.Rows
public import proofs.«01_k».proof.Proof.Gen.FeatIdeal.Frame
public import Idealize.ShloMosaic.Lib.Pointwise
public import Idealize.ShloMosaic.Lib.KernelVsHost
public import Idealize.ShloMosaic.Lib.Tactic

@[expose] public section

/-!
# What the windows of the latent projection hold

Grid point `t = 6 * i + j` works on rows `1024 * i` to `1024 * i + 1023` of the flattened rows and, when `j > 0`, on
rows `1024 * (j - 1)` to `1024 * (j - 1) + 1023` of the features' transposed weights. Each theorem reads one window's
block in terms of the arguments of the call.
-/

noncomputable section

namespace Cert.FeatIdeal.Body

open Cert.FeatIdeal Cert.FeatIdeal.Gen Cert.FeatMath Idealize.ShloMosaic Idealize.ShloMosaic.TcCoe Idealize.SL.Sem

variable (m : (ℓ : Loc nD τ sig) → Buf (Elt Ideal) ℓ) (c : Dev nD)

/-- The five arguments. -/
abbrev argX : Vec Ideal S16x2048x2048 .f32 := m ((c : Thread nD τ).loc main_arg0)
abbrev argMods : Vec Ideal S2x32x1x12288 .f32 := m ((c : Thread nD τ).loc main_arg1)
abbrev argG : Vec Ideal S4x2048 .f32 := m ((c : Thread nD τ).loc main_arg2)
abbrev argW : Vec Ideal S2048x6176 .f32 := m ((c : Thread nD τ).loc main_arg3)
abbrev argB : Vec Ideal S32 .f32 := m ((c : Thread nD τ).loc main_arg4)

theorem V_x : V m c main_v15 = shapeCast S32768x2048 (argX m c) shapeCasts_S16x2048x2048_S32768x2048 := by
  unfold V
  simp only [List.flatten_cons, List.flatten_nil, List.append_nil, List.cons_append, List.nil_append]
  after_results_simp <;> rfl

theorem V_g : V m c main_v17 = shapeCast S1x2048 (extractStridedSlice S1x1x2048 ![0, 0, 0]
    (shapeCast S4x1x2048 (argG m c) shapeCasts_S4x2048_S4x1x2048) slices_S4x1x2048_S1x1x2048_0_0_0) shapeCasts_S1x1x2048_S1x2048 := by
  unfold V
  simp only [List.flatten_cons, List.flatten_nil, List.append_nil, List.cons_append, List.nil_append]
  after_results_simp <;> rfl

/-- The keys' columns of the weights. -/
def keyCols (w : Vec Ideal S2048x6176 .f32) : FVec Ideal S2048x1024 .bf16 :=
  truncf .bf16 (extractStridedSlice S2048x1024 ![0, 1024] w slices_S2048x6176_S2048x1024_0_1024 : FVec Ideal S2048x1024 .f32) bitsLt_bf16_f32

theorem keyCols_apply (w : Vec Ideal S2048x6176 .f32) (q : Fin 2048) (k : Fin 1024) :
    keyCols w (ix2 q k) = key (fun C => w (ix2 q C)) k := by
  pointwise [keyCols, key]

theorem V_wk : V m c main_v2 = keyCols (argW m c) := by
  unfold V
  simp only [List.flatten_cons, List.flatten_nil, List.append_nil, List.cons_append, List.nil_append]
  after_results_simp <;> rfl

/-- Two blocks of columns side by side. -/
def beside (A : FVec Ideal S2048x1024 .f32) (B : FVec Ideal S2048x4096 .f32) : FVec Ideal S2048x5120 .f32 :=
  concatenate S2048x5120 1 [⟨S2048x1024, A⟩, ⟨S2048x4096, B⟩] concatenates_S2048x1024_S2048x4096_S2048x5120_d1

theorem beside_apply (A : FVec Ideal S2048x1024 .f32) (B : FVec Ideal S2048x4096 .f32) (q : Fin 2048) (f : Fin 5120) :
    beside A B (ix2 q f) = if h : f.val < 1024 then A (ix2 q ⟨f.val, h⟩) else B (ix2 q ⟨f.val - 1024, by omega⟩) := by
  pointwise [beside]

/-- The scaled queries' columns. -/
def queryCols (w : Vec Ideal S2048x6176 .f32) : FVec Ideal S2048x1024 .f32 :=
  mulf (extractStridedSlice S2048x1024 ![0, 0] w slices_S2048x6176_S2048x1024_0_0) (broadcastInDim S2048x1024 ![] bcast_S_S2048x1024 (constant (F := Ideal) S_ .f32 0x3DB504F3#32))

theorem queryCols_apply (w : Vec Ideal S2048x6176 .f32) (q : Fin 2048) (k : Fin 1024) :
    queryCols w (ix2 q k) = w (ix2 q ⟨k.val, by omega⟩) * factor := by
  pointwise [queryCols, factor]

/-- The features' transposed columns. -/
def featRows (w : Vec Ideal S2048x6176 .f32) : FVec Ideal S5120x2048 .bf16 :=
  truncf .bf16 (transpose S5120x2048 [1, 0] (beside (queryCols w)
    (extractStridedSlice S2048x4096 ![0, 2048] w slices_S2048x6176_S2048x4096_0_2048)) transposes_S2048x5120_S5120x2048_1_0) bitsLt_bf16_f32

theorem featRows_apply (w : Vec Ideal S2048x6176 .f32) (f : Fin 5120) (q : Fin 2048) :
    featRows w (ix2 f q) = feature (fun C => w (ix2 q C)) f := by
  show transpose S5120x2048 [1, 0] (beside (queryCols w) _) transposes_S2048x5120_S5120x2048_1_0 (ix2 f q) = _
  rw [transpose_apply _ _ _ _ (ix2 q f) fun a => by fin_cases a <;> rfl, beside_apply]
  unfold feature
  by_cases h : f.val < 1024
  · rw [dif_pos h, if_pos h, queryCols_apply]
  · rw [dif_neg h, if_neg h]
    exact extractStridedSlice_apply _ _ _ _ _ fun a => by
      match a with
      | ⟨0, _⟩ => exact (Nat.zero_add _).symm
      | ⟨1, _⟩ => show f.val + 1024 = 2048 + (f.val - 1024); omega

theorem V_wf : V m c main_v9 = featRows (argW m c) := by
  unfold V
  simp only [List.flatten_cons, List.flatten_nil, List.append_nil, List.cons_append, List.nil_append]
  after_results_simp <;> rfl

/-- The value of the padding. -/
def padding : FVec Ideal S_ .f32 := sitofp .f32 (constantI S_ 32 0#32)

theorem padding_apply (i : S_.Idx) : padding i = 0 := by
  show (((0#32 : BitVec 32).toInt : ℝ) : EReal) = 0
  simp

/-- The gates' columns, with zeros to 128 lanes. -/
def gateCols (w : Vec Ideal S2048x6176 .f32) : FVec Ideal S2048x128 .bf16 :=
  truncf .bf16 (pad S2048x128 ![0, 0] ![0, 96] ![0, 0] (extractStridedSlice S2048x32 ![0, 6144] w slices_S2048x6176_S2048x32_0_6144) padding
    pads_S2048x32_S2048x128_000_0960 h_S_ : FVec Ideal S2048x128 .f32) bitsLt_bf16_f32

theorem gateCols_apply (w : Vec Ideal S2048x6176 .f32) (q : Fin 2048) (j : Fin 128) :
    gateCols w (ix2 q j) = if h : j.val < 32 then w (ix2 q ⟨6144 + j.val, by omega⟩) else 0 := by
  show pad S2048x128 ![0, 0] ![0, 96] ![0, 0] (extractStridedSlice S2048x32 ![0, 6144] w slices_S2048x6176_S2048x32_0_6144) padding
    pads_S2048x32_S2048x128_000_0960 h_S_ (ix2 q j) = _
  by_cases h : j.val < 32
  · rw [dif_pos h, pad_apply_of_inside _ _ _ _ _ _ _ _ (ix2 q (⟨j.val, h⟩ : Fin 32)) fun a => by
      match a with
      | ⟨0, _⟩ => show q.val = 0 + q.val * 1; omega
      | ⟨1, _⟩ => show j.val = 0 + j.val * 1; omega]
    exact extractStridedSlice_apply _ _ _ _ _ fun a => by
      match a with
      | ⟨0, _⟩ => exact (Nat.zero_add _).symm
      | ⟨1, _⟩ => rfl
  · rw [dif_neg h, pad_apply_of_not_inside _ _ _ _ _ _ _ _ (1 : Fin 2) (by
      show ¬(0 ≤ j.val ∧ (j.val - 0) % 1 = 0 ∧ (j.val - 0) / 1 < 32)
      omega)]
    exact padding_apply _

theorem V_wg : V m c main_v12 = gateCols (argW m c) := by
  unfold V
  simp only [List.flatten_cons, List.flatten_nil, List.append_nil, List.cons_append, List.nil_append]
  after_results_simp <;> rfl

/-- The gates' bias, with zeros to 128 lanes. -/
def gateBias (b : Vec Ideal S32 .f32) : FVec Ideal S1x128 .f32 :=
  shapeCast S1x128 (pad S128 ![0] ![96] ![0] b padding pads_S32_S128_0960 h_S_ : FVec Ideal S128 .f32) shapeCasts_S128_S1x128

theorem gateBias_apply (b : Vec Ideal S32 .f32) (j : Fin 128) :
    gateBias b (ix2 0 j) = if h : j.val < 32 then b (ix1 ⟨j.val, h⟩) else 0 := by
  unfold gateBias
  rw [shapeCast_apply _ _ _ (ix1 j) (by
    rewrite [Shape.rowMajor_val_one, Shape.rowMajor_val_two]
    show j.val = 0 * 128 + j.val
    omega)]
  by_cases h : j.val < 32
  · rw [dif_pos h]
    exact pad_apply_of_inside _ _ _ _ _ _ _ _ (ix1 (⟨j.val, h⟩ : Fin 32)) fun a => by
      match a with
      | ⟨0, _⟩ => show j.val = 0 + j.val * 1; omega
  · rw [dif_neg h, pad_apply_of_not_inside _ _ _ _ _ _ _ _ (0 : Fin 1) (by
      show ¬(0 ≤ j.val ∧ (j.val - 0) % 1 = 0 ∧ (j.val - 0) / 1 < 32)
      omega)]
    exact padding_apply _

theorem V_bg : V m c main_v14 = gateBias (argB m c) := by
  unfold V
  simp only [List.flatten_cons, List.flatten_nil, List.append_nil, List.cons_append, List.nil_append]
  after_results_simp <;> rfl

theorem index0 : ∀ t : Fin cfg0.N, win0_0.index t 0 = t.val / 6 ∧ win0_0.index t 1 = 0 :=
  (by decide +kernel : ∀ t : Fin grid0.N, _)
theorem index1 : ∀ t : Fin cfg0.N, win0_1.index t 0 = 0 ∧ win0_1.index t 1 = t.val / 12 ∧ win0_1.index t 2 = 0 ∧ win0_1.index t 3 = 0 :=
  (by decide +kernel : ∀ t : Fin grid0.N, _)
theorem index2 : ∀ t : Fin cfg0.N, win0_2.index t 0 = 0 ∧ win0_2.index t 1 = t.val / 12 ∧ win0_2.index t 2 = 0 ∧ win0_2.index t 3 = 1 :=
  (by decide +kernel : ∀ t : Fin grid0.N, _)
theorem index3 : ∀ t : Fin cfg0.N, win0_3.index t 0 = 0 ∧ win0_3.index t 1 = 0 :=
  (by decide +kernel : ∀ t : Fin grid0.N, _)
theorem index4 : ∀ t : Fin cfg0.N, win0_4.index t 0 = 0 ∧ win0_4.index t 1 = 0 :=
  (by decide +kernel : ∀ t : Fin grid0.N, _)
theorem index5 : ∀ t : Fin cfg0.N, win0_5.index t 0 = t.val % 6 - 1 ∧ win0_5.index t 1 = 0 :=
  (by decide +kernel : ∀ t : Fin grid0.N, _)
theorem index6 : ∀ t : Fin cfg0.N, win0_6.index t 0 = 0 ∧ win0_6.index t 1 = 0 :=
  (by decide +kernel : ∀ t : Fin grid0.N, _)
theorem index7 : ∀ t : Fin cfg0.N, win0_7.index t 0 = 0 ∧ win0_7.index t 1 = 0 :=
  (by decide +kernel : ∀ t : Fin grid0.N, _)

theorem lt192 (t : Fin cfg0.N) : t.val < 192 := lt_of_lt_of_eq t.isLt N_0

/-- The batch element point `t` works on, and the position in it of row `r` of the point's block. -/
def batchOf (t : Fin cfg0.N) : Fin 16 := ⟨t.val / 12, by have := lt192 t; omega⟩
def posOf (t : Fin cfg0.N) (r : Fin 1024) : Fin 2048 := ⟨(t.val / 6 % 2) * 1024 + r.val, by omega⟩

/-- Row `r` of the block of rows of point `t`. -/
theorem blk_x (t : Fin cfg0.N) (r : Fin 1024) (k : Fin 2048) :
    (iblk m c 0 t : Vec Ideal S1024x2048 .f32) (ix2 r k) = argX m c (ix3 (batchOf t) (posOf t r) k) := by
  have ht := lt192 t
  obtain ⟨e0, e1⟩ := index0 t
  have h : (iblk m c 0 t : Vec Ideal S1024x2048 .f32) (ix2 r k) = V m c main_v15 (ix2 (⟨(t.val / 6) * 1024 + r.val, by omega⟩ : Fin 32768) k) := by
    unfold iblk
    show V m c main_v15 _ = V m c main_v15 _
    congr 1
    funext a
    apply Fin.ext
    match a with
    | ⟨0, _⟩ => show win0_0.index t 0 * 1024 + 1 * r.val = t.val / 6 * 1024 + r.val; rw [e0]; omega
    | ⟨1, _⟩ => show win0_0.index t 1 * 2048 + 1 * k.val = k.val; rw [e1]; omega
  rw [h, V_x]
  refine shapeCast_apply _ _ _ _ ?_
  rewrite [Shape.rowMajor_val_three, Shape.rowMajor_val_two]
  show (t.val / 12 * 2048 + (t.val / 6 % 2 * 1024 + r.val)) * 2048 + k.val = (t.val / 6 * 1024 + r.val) * 2048 + k.val
  omega

/-- Entry `k` of chunk `q` of batch element `b`'s modulation vector. -/
def modsOf (q : Fin 6) (b : Fin 16) (k : Fin 2048) : EReal :=
  argMods m c (ix4 0 ⟨b.val, by omega⟩ 0 ⟨q.val * 2048 + k.val, by omega⟩)

theorem blk_shift (t : Fin cfg0.N) (k : Fin 2048) :
    (iblk m c 1 t : Vec Ideal S1x1x1x2048 .f32) (ix4 0 0 0 k) = modsOf m c 0 (batchOf t) k := by
  obtain ⟨e0, e1, e2, e3⟩ := index1 t
  unfold iblk modsOf
  show V m c main_arg1 _ = argMods m c _
  rw [V_main_arg1]
  congr 1
  funext a
  apply Fin.ext
  match a with
  | ⟨0, _⟩ => show win0_1.index t 0 * 1 + 1 * 0 = 0; rw [e0]
  | ⟨1, _⟩ => show win0_1.index t 1 * 1 + 1 * 0 = t.val / 12; rw [e1]; omega
  | ⟨2, _⟩ => show win0_1.index t 2 * 1 + 1 * 0 = 0; rw [e2]
  | ⟨3, _⟩ => show win0_1.index t 3 * 2048 + 1 * k.val = 0 * 2048 + k.val; rw [e3]; omega

theorem blk_scale (t : Fin cfg0.N) (k : Fin 2048) :
    (iblk m c 2 t : Vec Ideal S1x1x1x2048 .f32) (ix4 0 0 0 k) = modsOf m c 1 (batchOf t) k := by
  obtain ⟨e0, e1, e2, e3⟩ := index2 t
  unfold iblk modsOf
  show V m c main_arg1 _ = argMods m c _
  rw [V_main_arg1]
  congr 1
  funext a
  apply Fin.ext
  match a with
  | ⟨0, _⟩ => show win0_2.index t 0 * 1 + 1 * 0 = 0; rw [e0]
  | ⟨1, _⟩ => show win0_2.index t 1 * 1 + 1 * 0 = t.val / 12; rw [e1]; omega
  | ⟨2, _⟩ => show win0_2.index t 2 * 1 + 1 * 0 = 0; rw [e2]
  | ⟨3, _⟩ => show win0_2.index t 3 * 2048 + 1 * k.val = 1 * 2048 + k.val; rw [e3]; omega

/-- The gain is row 0 of the gains. -/
theorem blk_g (t : Fin cfg0.N) (k : Fin 2048) :
    (iblk m c 3 t : Vec Ideal S1x2048 .f32) (ix2 0 k) = argG m c (ix2 0 k) := by
  obtain ⟨e0, e1⟩ := index3 t
  have h : (iblk m c 3 t : Vec Ideal S1x2048 .f32) (ix2 0 k) = V m c main_v17 (ix2 (0 : Fin 1) k) := by
    unfold iblk
    show V m c main_v17 _ = V m c main_v17 _
    congr 1
    funext a
    apply Fin.ext
    match a with
    | ⟨0, _⟩ => show win0_3.index t 0 * 1 + 1 * 0 = 0; rw [e0]
    | ⟨1, _⟩ => show win0_3.index t 1 * 2048 + 1 * k.val = k.val; rw [e1]; omega
  rw [h, V_g]
  pointwise
  try rfl

/-- Column `k` of the keys' weights. -/
theorem blk_wk (t : Fin cfg0.N) (q : Fin 2048) (k : Fin 1024) :
    (iblk m c 4 t : Vec Ideal S2048x1024 .bf16) (ix2 q k) = key (fun C => argW m c (ix2 q C)) k := by
  obtain ⟨e0, e1⟩ := index4 t
  rw [← keyCols_apply, ← V_wk]
  unfold iblk
  show V m c main_v2 _ = V m c main_v2 _
  congr 1
  funext a
  apply Fin.ext
  match a with
  | ⟨0, _⟩ => show win0_4.index t 0 * 2048 + 1 * q.val = q.val; rw [e0]; omega
  | ⟨1, _⟩ => show win0_4.index t 1 * 1024 + 1 * k.val = k.val; rw [e1]; omega

/-- Row `f` of the features' weights of point `t`. -/
theorem blk_wf (t : Fin cfg0.N) (h : ¬ t.val % 6 = 0) (f : Fin 1024) (q : Fin 2048) :
    (iblk m c 5 t : Vec Ideal S1024x2048 .bf16) (ix2 f q)
      = feature (fun C => argW m c (ix2 q C)) ⟨(t.val % 6 - 1) * 1024 + f.val, by omega⟩ := by
  obtain ⟨e0, e1⟩ := index5 t
  rw [← featRows_apply, ← V_wf]
  unfold iblk
  show V m c main_v9 _ = V m c main_v9 _
  congr 1
  funext a
  apply Fin.ext
  match a with
  | ⟨0, _⟩ => show win0_5.index t 0 * 1024 + 1 * f.val = (t.val % 6 - 1) * 1024 + f.val; rw [e0]; omega
  | ⟨1, _⟩ => show win0_5.index t 1 * 2048 + 1 * q.val = q.val; rw [e1]; omega

/-- Column `j` of the gates' weights. -/
theorem blk_wg (t : Fin cfg0.N) (q : Fin 2048) (j : Fin 128) :
    (iblk m c 6 t : Vec Ideal S2048x128 .bf16) (ix2 q j) = if h : j.val < 32 then argW m c (ix2 q ⟨6144 + j.val, by omega⟩) else 0 := by
  obtain ⟨e0, e1⟩ := index6 t
  rw [← gateCols_apply, ← V_wg]
  unfold iblk
  show V m c main_v12 _ = V m c main_v12 _
  congr 1
  funext a
  apply Fin.ext
  match a with
  | ⟨0, _⟩ => show win0_6.index t 0 * 2048 + 1 * q.val = q.val; rw [e0]; omega
  | ⟨1, _⟩ => show win0_6.index t 1 * 128 + 1 * j.val = j.val; rw [e1]; omega

/-- Lane `j` of the gates' bias. -/
theorem blk_bg (t : Fin cfg0.N) (j : Fin 128) :
    (iblk m c 7 t : Vec Ideal S1x128 .f32) (ix2 0 j) = if h : j.val < 32 then argB m c (ix1 ⟨j.val, h⟩) else 0 := by
  obtain ⟨e0, e1⟩ := index7 t
  rw [← gateBias_apply, ← V_bg]
  unfold iblk
  show V m c main_v14 _ = V m c main_v14 _
  congr 1
  funext a
  apply Fin.ext
  match a with
  | ⟨0, _⟩ => show win0_7.index t 0 * 1 + 1 * 0 = 0; rw [e0]
  | ⟨1, _⟩ => show win0_7.index t 1 * 128 + 1 * j.val = j.val; rw [e1]; omega

end Cert.FeatIdeal.Body
-- ==== Proof.Feat.Value.lean ====
module

public import proofs.«01_k».proof.Proof.Feat.Frame
public import Idealize.ShloMosaic.Lib.Pipeline.Value

/-! # The result arrays of the latent projection, block by block

Each block of the keys and of the gates is written back after the last column step of its row block, each block of the
features after the step that computes it; no two blocks written back meet. -/

@[expose] public section

noncomputable section

namespace Cert.FeatIdeal.Hand

open Cert.FeatIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem index_8 : ∀ t : Fin cfg0.N, win0_8.index t 0 = t.val / 6 ∧ win0_8.index t 1 = 0 :=
  (by decide +kernel : ∀ t : Fin grid0.N, _)
theorem index_9 : ∀ t : Fin cfg0.N, win0_9.index t 0 = t.val % 6 - 1 ∧ win0_9.index t 1 = t.val / 6 :=
  (by decide +kernel : ∀ t : Fin grid0.N, _)
theorem index_10 : ∀ t : Fin cfg0.N, win0_10.index t 0 = t.val / 6 ∧ win0_10.index t 1 = 0 :=
  (by decide +kernel : ∀ t : Fin grid0.N, _)

theorem disjoint_8 : ∀ t t' : Fin cfg0.N, (cfg0.win 8).flush t = true → (cfg0.win 8).flush t' = true → t ≠ t' →
    Disjoint ((cfg0.win 8).blk t).view.set ((cfg0.win 8).blk t').view.set := by
  intro t t' ht ht' hne
  rw [flush_8] at ht ht'
  simp only [beq_iff_eq] at ht ht'
  refine (cfg0.win 8).disjoint_blk fun h => hne (Fin.ext ?_)
  have h0 : win0_8.index t 0 = win0_8.index t' 0 := congrFun h 0
  rw [(index_8 t).1, (index_8 t').1] at h0
  omega

theorem disjoint_9 : ∀ t t' : Fin cfg0.N, (cfg0.win 9).flush t = true → (cfg0.win 9).flush t' = true → t ≠ t' →
    Disjoint ((cfg0.win 9).blk t).view.set ((cfg0.win 9).blk t').view.set := by
  intro t t' ht ht' hne
  rw [flush_9] at ht ht'
  have h1 : ¬ t.val % 6 = 0 := by simpa using ht
  have h2 : ¬ t'.val % 6 = 0 := by simpa using ht'
  refine (cfg0.win 9).disjoint_blk fun h => hne (Fin.ext ?_)
  have h0 : win0_9.index t 0 = win0_9.index t' 0 := congrFun h 0
  have h3 : win0_9.index t 1 = win0_9.index t' 1 := congrFun h 1
  rw [(index_9 t).1, (index_9 t').1] at h0
  rw [(index_9 t).2, (index_9 t').2] at h3
  omega

theorem disjoint_10 : ∀ t t' : Fin cfg0.N, (cfg0.win 10).flush t = true → (cfg0.win 10).flush t' = true → t ≠ t' →
    Disjoint ((cfg0.win 10).blk t).view.set ((cfg0.win 10).blk t').view.set := by
  intro t t' ht ht' hne
  rw [flush_10] at ht ht'
  simp only [beq_iff_eq] at ht ht'
  refine (cfg0.win 10).disjoint_blk fun h => hne (Fin.ext ?_)
  have h0 : win0_10.index t 0 = win0_10.index t' 0 := congrFun h 0
  rw [(index_10 t).1, (index_10 t').1] at h0
  omega

/-- A block of the keys, read back out of the array, is what its row block's first step stored. -/
theorem block_8 (c : Dev nD) (t : Fin cfg0.N) (h : t.val % 6 = 5) :
    ((cfg0.win 8).blk t).view.read (Elt F) ((dats m 0 c).arrAt 8 cfg0.N)
      = (cfg0.win 8).cut (grid0.coords t) (keysAt m c (base t) (base_mod t)) := by
  rw [(dats m 0 c).read_blk_arrAt_eq_flushed 8 disjoint_8 cfg0.N t t.isLt ((flush_8 t).trans (by simp [h]))]
  show (cfg0.win 8).cut (grid0.coords t) ((dats m 0 c).after 8 t) = _
  rw [after_8]

/-- A block of the features, read back out of the array, is what its step stored. -/
theorem block_9 (c : Dev nD) (t : Fin cfg0.N) (h : ¬ t.val % 6 = 0) :
    ((cfg0.win 9).blk t).view.read (Elt F) ((dats m 0 c).arrAt 9 cfg0.N)
      = (cfg0.win 9).cut (grid0.coords t) (featAt m c t h) := by
  rw [(dats m 0 c).read_blk_arrAt_eq_flushed 9 disjoint_9 cfg0.N t t.isLt ((flush_9 t).trans (by simp [h]))]
  show (cfg0.win 9).cut (grid0.coords t) ((dats m 0 c).after 9 t) = _
  rw [after_9]
  unfold featAfter
  rw [dif_neg h]

/-- A block of the gates, read back out of the array, is what its row block's first step stored. -/
theorem block_10 (c : Dev nD) (t : Fin cfg0.N) (h : t.val % 6 = 5) :
    ((cfg0.win 10).blk t).view.read (Elt F) ((dats m 0 c).arrAt 10 cfg0.N)
      = (cfg0.win 10).cut (grid0.coords t) (gatesAt m c (base t) (base_mod t)) := by
  rw [(dats m 0 c).read_blk_arrAt_eq_flushed 10 disjoint_10 cfg0.N t t.isLt ((flush_10 t).trans (by simp [h]))]
  show (cfg0.win 10).cut (grid0.coords t) ((dats m 0 c).after 10 t) = _
  rw [after_10]

/-- The keys, the features and the gates that a run leaves. -/
def keysArr (c : Dev nD) : Buf (Elt F) ((c : Thread nD τ).loc main_v18_0) := (dats m 0 c).arrAt 8 cfg0.N
def featArr (c : Dev nD) : Buf (Elt F) ((c : Thread nD τ).loc main_v18_1) := (dats m 0 c).arrAt 9 cfg0.N
def gatesArr (c : Dev nD) : Buf (Elt F) ((c : Thread nD τ).loc main_v18_2) := (dats m 0 c).arrAt 10 cfg0.N

/-- Every run ends with the three results at these arrays and the arguments as they were. -/
theorem run : θ_run defs (onTc (τ := τ) (main (F := F))) ⟨m, fun _ => 0, ρ⟩ fun r => ∀ c : Dev nD,
      r.2.mem ((c : Thread nD τ).loc main_v18_0) = keysArr m c
      ∧ r.2.mem ((c : Thread nD τ).loc main_v18_1) = featArr m c
      ∧ r.2.mem ((c : Thread nD τ).loc main_v18_2) = gatesArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 8, (h.1 c).1 9, (h.1 c).1 10, h.2 c⟩)
    (θ_run_and (run_main m ρ) (frame_of m ρ (dats m) (A_eq m) (run_main m ρ)))

end Cert.FeatIdeal.Hand

end
-- ==== Proof.Feat.Array.lean ====
module

public import proofs.«01_k».proof.Proof.Feat.Case
public import proofs.«01_k».proof.Proof.Feat.Blocks
public import proofs.«01_k».proof.Proof.Feat.Value

@[expose] public section

/-!
# What the latent projection's result arrays hold

The first of the six points of a row block modulates its rows and stores their keys and gates; each later point stores
1024 of their features. Every entry of an array lies in a block that is written back.
-/

noncomputable section

namespace Cert.FeatIdeal.Body

open Cert.FeatIdeal Cert.FeatIdeal.Gen Cert.FeatIdeal.Hand Cert.MlpMath Cert.FeatMath Idealize.ShloMosaic Idealize.ShloMosaic.TcCoe Idealize.SL.Sem
open Cert.ProjIdeal.Body (prod)

variable (m : (ℓ : Loc nD τ sig) → Buf (Elt Ideal) ℓ) (c : Dev nD)

/-- The modulated row at position `s` of batch element `b`. -/
def hRow (b : Fin 16) (s : Fin 2048) : Fin 2048 → EReal :=
  modulated (fun k => argX m c (ix3 b s k)) (fun k => argG m c (ix2 0 k)) (modsOf m c 0 b) (modsOf m c 1 b)

/-- Row `R` of the flattened modulated rows. -/
def flatRow (R : Fin 32768) : Fin 2048 → EReal := hRow m c ⟨R.val / 2048, by omega⟩ ⟨R.val % 2048, by omega⟩

/-- Row `r` of the block of rows of point `t`, in the flattened rows. -/
def rowAt (t : Fin cfg0.N) (r : Fin 1024) : Fin 32768 := ⟨t.val / 6 * 1024 + r.val, by have := lt192 t; omega⟩

theorem rowsOf_eq (t : Fin cfg0.N) (r : Fin 1024) : rowsOf c m t r = flatRow m c (rowAt t r) := by
  funext k
  unfold rowsOf modRows flatRow hRow
  simp only [blk_x, blk_shift, blk_scale, blk_g]
  have hb : batchOf t = ⟨(rowAt t r).val / 2048, by omega⟩ := Fin.ext (by
    show t.val / 12 = (t.val / 6 * 1024 + r.val) / 2048; omega)
  have hp : posOf t r = ⟨(rowAt t r).val % 2048, by omega⟩ := Fin.ext (by
    show t.val / 6 % 2 * 1024 + r.val = (t.val / 6 * 1024 + r.val) % 2048; omega)
  rw [hb, hp]

theorem rowAt_base (t : Fin cfg0.N) (r : Fin 1024) : rowAt (base t) r = rowAt t r :=
  Fin.ext (by show 6 * (t.val / 6) / 6 * 1024 + r.val = t.val / 6 * 1024 + r.val; omega)

/-- The products of row `R` with the 6176 columns of the weights. -/
def rowProducts (R : Fin 32768) : Fin 6176 → EReal := fun C => ∑ q : Fin 2048, flatRow m c R q * argW m c (ix2 q C)

theorem key_block (t : Fin cfg0.N) (h) (r k : Fin 1024) :
    keysAt (F := Ideal) m c t h (ix2 r k) = key (rowProducts m c (rowAt t r)) k := by
  rw [keysAt_eq]
  show prod (n := 1024) (rowsOf c m t r) (iblk m c 4 t) k = _
  unfold prod key rowProducts
  simp only [rowsOf_eq, blk_wk]
  rfl

theorem gate_block (t : Fin cfg0.N) (h) (r : Fin 1024) (j : Fin 128) :
    gatesAt (F := Ideal) m c t h (ix2 r j) = gate (rowProducts m c (rowAt t r)) (fun j => argB m c (ix1 j)) j := by
  rw [gatesAt_eq]
  show prod (n := 128) (rowsOf c m t r) (iblk m c 6 t) j + (iblk m c 7 t : Vec Ideal S1x128 .f32) (ix2 0 j) = _
  refine Eq.trans ?_ (gate_products (flatRow m c (rowAt t r)) (fun q C => argW m c (ix2 q C)) (fun j => argB m c (ix1 j)) j).symm
  unfold prod
  simp only [rowsOf_eq, blk_wg, blk_bg]

theorem feature_block (t : Fin cfg0.N) (h : ¬ t.val % 6 = 0) (f r : Fin 1024) :
    featAt (F := Ideal) m c t h (ix2 f r) = feature (rowProducts m c (rowAt t r)) ⟨(t.val % 6 - 1) * 1024 + f.val, by omega⟩ := by
  rw [featAt_eq]
  refine (featBlock_apply _ _ f r).trans ?_
  refine Eq.trans ?_ (feature_products (flatRow m c (rowAt t r)) (fun q C => argW m c (ix2 q C)) _).symm
  refine Finset.sum_congr rfl fun q _ => ?_
  have eh : rowsOf c m (base t) r q = flatRow m c (rowAt t r) q := by rw [rowsOf_eq, rowAt_base]
  exact (congrArg₂ (fun a b : EReal => a * b) (blk_wf m c t h f q) eh).trans (mul_comm _ _)

/-- The keys. -/
theorem keys_array (R : Fin 32768) (k : Fin 1024) :
    (keysArr (F := Ideal) m c : S32768x1024.Idx → EReal) (ix2 R k) = key (rowProducts m c R) k := by
  have hN : cfg0.N = 192 := N_0
  generalize ht : (⟨6 * (R.val / 1024) + 5, by omega⟩ : Fin cfg0.N) = t
  have htv : t.val = 6 * (R.val / 1024) + 5 := by rw [← ht]
  obtain ⟨e0, e1⟩ := index_8 t
  have e := congrFun (block_8 (F := Ideal) m c t (by omega)) (ix2 (⟨R.val % 1024, by omega⟩ : Fin 1024) k)
  have er : rowAt (base t) ⟨R.val % 1024, by omega⟩ = R := Fin.ext (by
    show 6 * (t.val / 6) / 6 * 1024 + R.val % 1024 = R.val; omega)
  refine Eq.trans ?_ ((e.trans (key_block m c (base t) (base_mod t) _ k)).trans (by rw [er]))
  show keysArr (F := Ideal) m c _ = keysArr (F := Ideal) m c _
  congr 1
  funext a
  apply Fin.ext
  match a with
  | ⟨0, _⟩ => show R.val = win0_8.index t 0 * 1024 + 1 * (R.val % 1024); rw [e0]; omega
  | ⟨1, _⟩ => show k.val = win0_8.index t 1 * 1024 + 1 * k.val; rw [e1]; omega

/-- The gates. -/
theorem gates_array (R : Fin 32768) (j : Fin 128) :
    (gatesArr (F := Ideal) m c : S32768x128.Idx → EReal) (ix2 R j) = gate (rowProducts m c R) (fun j => argB m c (ix1 j)) j := by
  have hN : cfg0.N = 192 := N_0
  generalize ht : (⟨6 * (R.val / 1024) + 5, by omega⟩ : Fin cfg0.N) = t
  have htv : t.val = 6 * (R.val / 1024) + 5 := by rw [← ht]
  obtain ⟨e0, e1⟩ := index_10 t
  have e := congrFun (block_10 (F := Ideal) m c t (by omega)) (ix2 (⟨R.val % 1024, by omega⟩ : Fin 1024) j)
  have er : rowAt (base t) ⟨R.val % 1024, by omega⟩ = R := Fin.ext (by
    show 6 * (t.val / 6) / 6 * 1024 + R.val % 1024 = R.val; omega)
  refine Eq.trans ?_ ((e.trans (gate_block m c (base t) (base_mod t) _ j)).trans (by rw [er]))
  show gatesArr (F := Ideal) m c _ = gatesArr (F := Ideal) m c _
  congr 1
  funext a
  apply Fin.ext
  match a with
  | ⟨0, _⟩ => show R.val = win0_10.index t 0 * 1024 + 1 * (R.val % 1024); rw [e0]; omega
  | ⟨1, _⟩ => show j.val = win0_10.index t 1 * 128 + 1 * j.val; rw [e1]; omega

/-- The features. -/
theorem features_array (f : Fin 5120) (R : Fin 32768) :
    (featArr (F := Ideal) m c : S5120x32768.Idx → EReal) (ix2 f R) = feature (rowProducts m c R) f := by
  have hN : cfg0.N = 192 := N_0
  generalize ht : (⟨6 * (R.val / 1024) + 1 + f.val / 1024, by omega⟩ : Fin cfg0.N) = t
  have htv : t.val = 6 * (R.val / 1024) + 1 + f.val / 1024 := by rw [← ht]
  have hmod : t.val % 6 = 1 + f.val / 1024 := by omega
  have hdiv : t.val / 6 = R.val / 1024 := by omega
  have h : ¬ t.val % 6 = 0 := by omega
  obtain ⟨e0, e1⟩ := index_9 t
  have e := congrFun (block_9 (F := Ideal) m c t h) (ix2 (⟨f.val % 1024, by omega⟩ : Fin 1024) (⟨R.val % 1024, by omega⟩ : Fin 1024))
  have er : rowAt t ⟨R.val % 1024, by omega⟩ = R := Fin.ext (by
    show t.val / 6 * 1024 + R.val % 1024 = R.val; omega)
  have ef : (⟨(t.val % 6 - 1) * 1024 + f.val % 1024, by omega⟩ : Fin 5120) = f := Fin.ext (by dsimp only; omega)
  refine Eq.trans ?_ ((e.trans (feature_block m c t h _ _)).trans (by rw [er]; exact congrArg _ ef))
  show featArr (F := Ideal) m c _ = featArr (F := Ideal) m c _
  congr 1
  funext a
  apply Fin.ext
  match a with
  | ⟨0, _⟩ => show f.val = win0_9.index t 0 * 1024 + 1 * (f.val % 1024); rw [e0]; omega
  | ⟨1, _⟩ => show R.val = win0_9.index t 1 * 1024 + 1 * (R.val % 1024); rw [e1]; omega

end Cert.FeatIdeal.Body
-- ==== Proof.Feat.Ref.lean ====
module

public import proofs.«01_k».proof.Proof.Feat.Rows
public import proofs.«01_k».proof.Proof.Gen.FeatReferenceIdeal.Read
public import Idealize.ShloMosaic.Lib.Pointwise
public import Idealize.ShloMosaic.Lib.KernelVsHost

@[expose] public section

/-!
# What the reference's latent projection computes

The stages of the plain program, read entry by entry: the modulated row, its products with the weights, and the keys,
the features and the gates among them.
-/

noncomputable section

namespace Cert.FeatReferenceIdeal.Body

open Cert.FeatReferenceIdeal Cert.FeatReferenceIdeal.Gen Cert.FeatReferenceIdeal.Read Cert.MlpMath Cert.FeatMath Idealize.ShloMosaic Idealize.ShloMosaic.TcCoe Idealize.SL.Sem

variable (x : FVec Ideal S16x2048x2048 .f32) (mods : FVec Ideal S2x32x1x12288 .f32) (g : FVec Ideal S4x2048 .f32)
  (w : FVec Ideal S2048x6176 .f32) (bias : FVec Ideal S32 .f32) (b : Fin 16) (s : Fin 2048)

/-- Entry `k` of chunk `q` of batch element `b`'s modulation vector. -/
def modsOf (q : Fin 6) (k : Fin 2048) : EReal := mods (ix4 0 ⟨b.val, by omega⟩ 0 ⟨q.val * 2048 + k.val, by omega⟩)

theorem chunk0 (k : Fin 2048) : val_main_v2 (F := Ideal) mods (ix3 b 0 k) = modsOf mods b 0 k := by
  pointwise [val_main_v2, val_main_v1, val_main_v0, modsOf]
theorem chunk1 (k : Fin 2048) : val_main_v3 (F := Ideal) mods (ix3 b 0 k) = modsOf mods b 1 k := by
  pointwise [val_main_v3, val_main_v1, val_main_v0, modsOf]

/-- The scaled and shifted normalised row, in the reference's order of multiplication. -/
def hRow (k : Fin 2048) : EReal :=
  x (ix3 b s k) * inorm (fun k => x (ix3 b s k)) * g (ix2 0 k) * (1 + modsOf mods b 1 k) + modsOf mods b 0 k

theorem inorm_x : val_main_v17 (F := Ideal) x (ix3 b s 0) = inorm fun k => x (ix3 b s k) := by
  pointwise [val_main_v17, val_main_v16, val_main_v14, val_main_v12, val_main_v11, val_main_v10, val_main_v13, val_main_v15, val_main_cst, val_main_cst_0, val_main_cst_1, inorm]

theorem hRow_eq (k : Fin 2048) : val_main_v28 (F := Ideal) x mods g (ix3 b s k) = hRow x mods g b s k := by
  have e1 := inorm_x x b s
  have e0 := chunk0 mods b k
  have e4 := chunk1 mods b k
  unfold hRow
  rw [← e1, ← e0, ← e4]
  generalize ha : val_main_v17 (F := Ideal) x = a
  generalize hc : val_main_v2 (F := Ideal) mods = c0
  generalize hd : val_main_v3 (F := Ideal) mods = c1
  pointwise [val_main_v28, val_main_v27, val_main_v26, val_main_v25, val_main_v24, val_main_v23, val_main_cst_2, val_main_v22, val_main_v21, val_main_v20, val_main_v9, val_main_v8, val_main_v19, val_main_v18, ha, hc, hd]

/-- The row's product with column `C` of the weights. -/
def products (C : Fin 6176) : EReal := ∑ q : Fin 2048, hRow x mods g b s q * w (ix2 q C)

theorem product_eq (C : Fin 6176) : val_main_v29 (F := Ideal) x mods g w (ix3 b s C) = products x mods g w b s C := by
  have e := fun k => hRow_eq x mods g b s k
  unfold products
  simp only [← e]
  generalize hh : val_main_v28 (F := Ideal) x mods g = h
  pointwise [val_main_v29, hh]

/-- The products of row `R` of the flattened rows. -/
def rowProducts (R : Fin 32768) : Fin 6176 → EReal := products x mods g w ⟨R.val / 2048, by omega⟩ ⟨R.val % 2048, by omega⟩

theorem flat_eq (R : Fin 32768) (C : Fin 6176) : val_main_v30 (F := Ideal) x mods g w (ix2 R C) = rowProducts x mods g w R C := by
  unfold rowProducts
  rw [← product_eq]
  refine shapeCast_apply (val_main_v29 (F := Ideal) x mods g w) shapeCasts_S16x2048x6176_S32768x6176 _ _ ?_
  rewrite [Shape.rowMajor_val_three, Shape.rowMajor_val_two]
  show (R.val / 2048 * 2048 + R.val % 2048) * 6176 + C.val = R.val * 6176 + C.val
  omega

/-- The reference's keys. -/
theorem keys_eq (R : Fin 32768) (k : Fin 1024) : val_main_v44 (F := Ideal) x mods g w (ix2 R k) = key (rowProducts x mods g w R) k := by
  unfold key
  rw [← flat_eq]
  generalize hh : val_main_v30 (F := Ideal) x mods g w = p
  pointwise [val_main_v44, val_main_v32, hh]

theorem query_eq (R : Fin 32768) (k : Fin 1024) : val_main_v37 (F := Ideal) x mods g w (ix2 R k) = rowProducts x mods g w R ⟨k.val, by omega⟩ * factor := by
  rw [← flat_eq]
  generalize hh : val_main_v30 (F := Ideal) x mods g w = p
  pointwise [val_main_v37, val_main_v31, val_main_v36, val_main_cst_3, factor, hh]

theorem value_eq (R : Fin 32768) (k : Fin 2048) : val_main_v33 (F := Ideal) x mods g w (ix2 R k) = rowProducts x mods g w R ⟨2048 + k.val, by omega⟩ := by
  rw [← flat_eq]
  generalize hh : val_main_v30 (F := Ideal) x mods g w = p
  pointwise [val_main_v33, hh]

theorem out_gate_eq (R : Fin 32768) (k : Fin 2048) : val_main_v34 (F := Ideal) x mods g w (ix2 R k) = rowProducts x mods g w R ⟨4096 + k.val, by omega⟩ := by
  rw [← flat_eq]
  generalize hh : val_main_v30 (F := Ideal) x mods g w = p
  pointwise [val_main_v34, hh]

/-- Three blocks of columns side by side. -/
theorem beside_apply (A : FVec Ideal S32768x1024 .f32) (B C : FVec Ideal S32768x2048 .f32) (R : Fin 32768) (f : Fin 5120) :
    concatenate S32768x5120 1 [⟨S32768x1024, A⟩, ⟨S32768x2048, B⟩, ⟨S32768x2048, C⟩]
        concatenates_S32768x1024_S32768x2048_S32768x2048_S32768x5120_d1 (ix2 R f)
      = if h : f.val < 1024 then A (ix2 R ⟨f.val, h⟩) else if h' : f.val < 3072 then B (ix2 R ⟨f.val - 1024, by omega⟩)
        else C (ix2 R ⟨f.val - 3072, by omega⟩) := by
  pointwise
  by_cases h0 : f.val < 1024
  · rw [dif_pos h0, dif_pos h0]
  · rw [dif_neg h0, dif_neg h0]
    by_cases h1 : f.val < 3072
    · rw [dif_pos (by omega), dif_pos h1]
    · rw [dif_neg (by omega), dif_neg h1]
      exact congrArg (fun k => C (ix2 R k)) (Fin.ext (by dsimp only; omega))

/-- The reference's features. -/
theorem features_eq (f : Fin 5120) (R : Fin 32768) : val_main_v45 (F := Ideal) x mods g w (ix2 f R) = feature (rowProducts x mods g w R) f := by
  have e : val_main_v45 (F := Ideal) x mods g w (ix2 f R) = val_main_v38 (F := Ideal) x mods g w (ix2 R f) := by
    generalize hh : val_main_v38 (F := Ideal) x mods g w = p
    pointwise [val_main_v45, val_main_v39, hh]
  rw [e]
  unfold val_main_v38 feature
  rw [beside_apply]
  by_cases h0 : f.val < 1024
  · rw [dif_pos h0, if_pos h0, query_eq]
  · rw [dif_neg h0, if_neg h0]
    by_cases h1 : f.val < 3072
    · rw [dif_pos h1, value_eq]
      exact congrArg _ (Fin.ext (by dsimp only; omega))
    · rw [dif_neg h1, out_gate_eq]
      exact congrArg _ (Fin.ext (by dsimp only; omega))

theorem biased_eq (R : Fin 32768) (j : Fin 32) : val_main_v42 (F := Ideal) x mods g w bias (ix2 R j)
    = rowProducts x mods g w R ⟨6144 + j.val, by omega⟩ + bias (ix1 j) := by
  rw [← flat_eq]
  generalize hh : val_main_v30 (F := Ideal) x mods g w = p
  pointwise [val_main_v42, val_main_v35, val_main_v41, val_main_v40, hh]

theorem padding_apply (i : S_.Idx) : val_main_call0_v0 (F := Ideal) i = 0 := by
  show (((0#32 : BitVec 32).toInt : ℝ) : EReal) = 0
  simp

/-- The reference's gates. -/
theorem gates_eq (R : Fin 32768) (j : Fin 128) : val_main_v43 (F := Ideal) x mods g w bias (ix2 R j)
    = gate (rowProducts x mods g w R) (fun j => bias (ix1 j)) j := by
  unfold val_main_v43 gate
  by_cases h : j.val < 32
  · rw [dif_pos h, pad_apply_of_inside _ _ _ _ _ _ _ _ (ix2 R (⟨j.val, h⟩ : Fin 32)) fun a => by
      match a with
      | ⟨0, _⟩ => show R.val = 0 + R.val * 1; omega
      | ⟨1, _⟩ => show j.val = 0 + j.val * 1; omega]
    exact biased_eq x mods g w bias R ⟨j.val, h⟩
  · rw [dif_neg h, pad_apply_of_not_inside _ _ _ _ _ _ _ _ (1 : Fin 2) (by
      show ¬(0 ≤ j.val ∧ (j.val - 0) % 1 = 0 ∧ (j.val - 0) / 1 < 32)
      omega)]
    exact padding_apply _

end Cert.FeatReferenceIdeal.Body
-- ==== Proof.Feat.Eq.lean ====
module

public import proofs.«01_k».proof.Proof.Feat.Array
public import proofs.«01_k».proof.Proof.Feat.Ref

@[expose] public section

/-!
# The latent projection's arrays are the reference's
-/

noncomputable section

namespace Cert.FeatIdeal.Body

open Cert.FeatIdeal Cert.FeatIdeal.Gen Cert.FeatIdeal.Hand Cert.MlpMath Cert.FeatMath Idealize.ShloMosaic Idealize.ShloMosaic.TcCoe Idealize.SL.Sem

variable (m : (ℓ : Loc nD τ sig) → Buf (Elt Ideal) ℓ) (c : Dev nD)

/-- The modulated rows are the same: the kernel multiplies the gain and the scale first. -/
theorem hRow_ref (b : Fin 16) (s : Fin 2048) :
    hRow m c b s = Cert.FeatReferenceIdeal.Body.hRow (argX m c) (argMods m c) (argG m c) b s := by
  funext k
  unfold hRow modulated Cert.FeatReferenceIdeal.Body.hRow
  rw [mul_assoc (_ * inorm _)]
  rfl

/-- So are their products with the weights. -/
theorem rowProducts_ref (R : Fin 32768) :
    rowProducts m c R = Cert.FeatReferenceIdeal.Body.rowProducts (argX m c) (argMods m c) (argG m c) (argW m c) R := by
  funext C
  unfold rowProducts flatRow Cert.FeatReferenceIdeal.Body.rowProducts Cert.FeatReferenceIdeal.Body.products
  rw [hRow_ref]

/-- The keys the kernel leaves are the reference's, at the same arguments. -/
theorem keys_ref : (keysArr (F := Ideal) m c : S32768x1024.Idx → EReal)
    = Cert.FeatReferenceIdeal.Read.val_main_v44 (F := Ideal) (argX m c) (argMods m c) (argG m c) (argW m c) := by
  funext i
  obtain ⟨R, k, rfl⟩ : ∃ (R : Fin 32768) (k : Fin 1024), i = ix2 R k := ⟨i 0, i 1, eq_ix2 i⟩
  rw [keys_array, Cert.FeatReferenceIdeal.Body.keys_eq, rowProducts_ref]

/-- The features the kernel leaves are the reference's, at the same arguments. -/
theorem features_ref : (featArr (F := Ideal) m c : S5120x32768.Idx → EReal)
    = Cert.FeatReferenceIdeal.Read.val_main_v45 (F := Ideal) (argX m c) (argMods m c) (argG m c) (argW m c) := by
  funext i
  obtain ⟨f, R, rfl⟩ : ∃ (f : Fin 5120) (R : Fin 32768), i = ix2 f R := ⟨i 0, i 1, eq_ix2 i⟩
  rw [features_array, Cert.FeatReferenceIdeal.Body.features_eq, rowProducts_ref]

/-- The gates the kernel leaves are the reference's, at the same arguments. -/
theorem gates_ref : (gatesArr (F := Ideal) m c : S32768x128.Idx → EReal)
    = Cert.FeatReferenceIdeal.Read.val_main_v43 (F := Ideal) (argX m c) (argMods m c) (argG m c) (argW m c) (argB m c) := by
  funext i
  obtain ⟨R, j, rfl⟩ : ∃ (R : Fin 32768) (j : Fin 128), i = ix2 R j := ⟨i 0, i 1, eq_ix2 i⟩
  rw [gates_array, Cert.FeatReferenceIdeal.Body.gates_eq, rowProducts_ref]

end Cert.FeatIdeal.Body

end
-- ==== Proof.Feat.Claims.lean ====
/- The latent projection's claims: the runs of its programs, and the equality of the kernel's arrays with the reference's. -/
module

public import proofs.«01_k».proof.Defs
public import proofs.«01_k».proof.Proof.Gen.Feat.Frame
public import proofs.«01_k».proof.Proof.Gen.Feat.Skeleton
public import proofs.«01_k».proof.Proof.Gen.FeatReferenceIdeal.Run
public import proofs.«01_k».proof.Proof.Feat.Eq
public import Idealize.ShloMosaic.Adequacy
public import Idealize.ShloMosaic.Init

@[expose] public section

noncomputable section

namespace Cert.FeatClaims

open Idealize.ShloMosaic Idealize.SL.Sem

attribute [local instance] Cert.Feat.Gen.facts Cert.FeatIdeal.Gen.facts Cert.FeatReferenceIdeal.Gen.facts

section SameProgram

variable {F : FTy → Type} [FloatOps F]

/-- The kernel as written and its idealization have the same body: no operation is replaced. -/
theorem body_same : Cert.Feat.defs₀ (F := F) = Cert.FeatIdeal.defs₀ (F := F) := by
  unfold Cert.Feat.defs₀ Cert.FeatIdeal.defs₀
  congr 1
  funext l ts
  match l, ts with
  | 0, (t, s) => rfl
  | ⟨_ + 1, h⟩, _ => exact absurd h (Nat.not_lt.2 (Nat.le_add_left _ _))

/-- So the two programs are the same, at every reading of the floats. -/
theorem program_same : Cert.Feat.defs (F := F) = Cert.FeatIdeal.defs (F := F) :=
  congrArg (Pipeline.defs Cert.FeatIdeal.pcfgs) body_same

end SameProgram

/-- The kernel as written runs and leaves its arguments and its counters as they were: the frame of the idealization holds
    at every reading of the floats. -/
theorem frame : Cert.quiescent_Feat := by
  intro m ρ _
  rw [program_same]
  exact Cert.FeatIdeal.Hand.frame m ρ

/-- So does the kernel over the extended reals. -/
theorem frame_ideal : Cert.quiescent_FeatIdeal := fun m ρ _ => Cert.FeatIdeal.Hand.frame m ρ

/-- So does the reference; it declares no semaphore. -/
theorem frame_reference : Cert.quiescent_FeatReferenceIdeal := fun m ρ _ =>
  (θ_run Cert.FeatReferenceIdeal.defs _ _).mono
    (fun r h => ⟨fun c => (h c).2.2.2, sem_eq_zero_of_no_sems (by decide) r.2⟩)
    (Cert.FeatReferenceIdeal.Value.run (F := Ideal) m ρ)

/-- The kernel's keys, features and gates are the reference's, at equal arguments. -/
theorem algebraic : Cert.algebraic_FeatIdeal_FeatReferenceIdeal := by
  intro m ρ m' ρ' _ hagree
  refine ⟨fun c => Cert.FeatIdeal.Hand.keysArr m c, fun c => Cert.FeatIdeal.Hand.featArr m c, fun c => Cert.FeatIdeal.Hand.gatesArr m c,
    Cert.FeatIdeal.Hand.run m ρ,
    (θ_run Cert.FeatReferenceIdeal.defs _ _).mono (fun r h c =>
      ⟨(h c).1.trans ?_, (h c).2.1.trans ?_, (h c).2.2.1.trans ?_, (h c).2.2.2⟩)
      (Cert.FeatReferenceIdeal.Value.run (F := Ideal) m' ρ')⟩
  all_goals obtain ⟨h0, h1, h2, h3, h4⟩ := hagree c
  · rw [Cert.FeatReferenceIdeal.Read.val_main_v44_eq]
    refine Eq.trans ?_ (Cert.FeatIdeal.Body.keys_ref m c).symm
    rw [h0, h1, h2, h3]
  · rw [Cert.FeatReferenceIdeal.Read.val_main_v45_eq]
    refine Eq.trans ?_ (Cert.FeatIdeal.Body.features_ref m c).symm
    rw [h0, h1, h2, h3]
  · rw [Cert.FeatReferenceIdeal.Read.val_main_v43_eq]
    refine Eq.trans ?_ (Cert.FeatIdeal.Body.gates_ref m c).symm
    rw [h0, h1, h2, h3, h4]

end Cert.FeatClaims

end
-- ==== Proof.CtxMlp.Block.lean ====
module

public import proofs.«01_k».proof.Proof.Mlp.Block
public import proofs.«01_k».proof.Proof.Gen.CtxMlpIdeal.Skeleton

@[expose] public section

/-!
# What the body computes on the context tokens' blocks

The body is the one of the latent tokens' call, but a grid point takes 512 hidden units, in two pieces of
256 columns, where the other takes 1024 in four. The single pieces, the modulated rows and the finished rows
are the other call's.
-/

noncomputable section

namespace Cert.CtxMlpIdeal.Body

open Cert.CtxMlpIdeal Cert.CtxMlpIdeal.Gen Cert.MlpMath Idealize.ShloMosaic
open Cert.MlpIdeal.Body (units512 units1024 units512_apply units1024_apply)

/-- Two pieces of 256 columns laid side by side are the function they are pieces of. -/
theorem concat2_apply {R : Nat} (G : Fin R → Fin 512 → EReal) (p0 p1 : (⟨2, ![R, 256]⟩ : Shape).Idx → EReal)
    (e0 : ∀ r (f : Fin 256), p0 (ix2 r f) = G r ⟨0 + f.val, by omega⟩)
    (e1 : ∀ r (f : Fin 256), p1 (ix2 r f) = G r ⟨256 + f.val, by omega⟩)
    (hc : Shape.Concatenates [(⟨2, ![R, 256]⟩ : Shape), ⟨2, ![R, 256]⟩] ⟨2, ![R, 512]⟩ 1)
    (r : Fin R) (f : Fin 512) :
    concatenate (⟨2, ![R, 512]⟩ : Shape) 1 [⟨⟨2, ![R, 256]⟩, p0⟩, ⟨⟨2, ![R, 256]⟩, p1⟩] hc (ix2 r f) = G r f := by
  pointwise
  split
  · exact (e0 r ⟨f.val, by assumption⟩).trans (congrArg (G r) (Fin.ext (Nat.zero_add f.val)))
  · refine (e1 r ⟨f.val - 256, by omega⟩).trans (congrArg (G r) (Fin.ext ?_))
    show 256 + (f.val - 256) = f.val; omega

/-- The two products of 512 rows with the block's 512 hidden columns, which arrive in two pieces. -/
def hidden512 (h : FVec Ideal S512x2048 .bf16) (wa wb : FVec Ideal S2048x256 .bf16) (w2 : FVec Ideal S512x2048 .bf16) :
    FVec Ideal S512x2048 .f32 :=
  matmul dot_S512x512_S512x2048_S512x2048_1_0_0_1_n_n none
    (concatenate S512x512 1 [⟨S512x256, units512 h wa⟩, ⟨S512x256, units512 h wb⟩] concatenates_S512x256_S512x256_S512x512_d1)
    (shapeCast S512x2048 w2 shapeCasts_S512x2048_S512x2048) (constant S512x2048 .f32 0x00000000#32)

/-- The two products of 1024 rows with the block's 512 hidden columns. -/
def hidden1024 (h : FVec Ideal S1024x2048 .bf16) (wa wb : FVec Ideal S2048x256 .bf16) (w2 : FVec Ideal S512x2048 .bf16) :
    FVec Ideal S1024x2048 .f32 :=
  matmul dot_S1024x512_S512x2048_S1024x2048_1_0_0_1_n_n none
    (concatenate S1024x512 1 [⟨S1024x256, units1024 h wa⟩, ⟨S1024x256, units1024 h wb⟩] concatenates_S1024x256_S1024x256_S1024x512_d1)
    (shapeCast S512x2048 w2 shapeCasts_S512x2048_S512x2048) (constant S1024x2048 .f32 0x00000000#32)

/-- Columns `o` to `o + 255` of the first product's block, as the body loads them. -/
def piece (w : FVec Ideal S2048x512 .bf16) (o : Nat) (h : ∀ a, (![0, o] : Fin 2 → Nat) a + (![2048, 256] : Fin 2 → Nat) a ≤ S2048x512.size a) :
    FVec Ideal S2048x256 .bf16 :=
  View.ld (Val := Elt Ideal) (S := S2048x512) (e' := .bf16) w (Rect.unit (s := S2048x512) ![0, o] ![2048, 256] h)

theorem piece_apply (w : FVec Ideal S2048x512 .bf16) (o : Nat) (h) (k : Fin 2048) (f : Fin 256) :
    piece w o h (ix2 k f) = w (ix2 k ⟨o + f.val, by have h1 : o + 256 ≤ 512 := h 1; omega⟩) := by
  show w _ = w _
  congr 1
  funext a
  apply Fin.ext
  match a with
  | ⟨0, _⟩ => show 0 + 1 * k.val = k.val; omega
  | ⟨1, _⟩ => show o + 1 * f.val = o + f.val; omega

/-- What a block of 512 hidden units contributes to one entry. -/
def contrib (h : Fin 2048 → EReal) (w : FVec Ideal S2048x512 .bf16) (w2 : FVec Ideal S512x2048 .bf16) (c : Fin 2048) : EReal :=
  ∑ f : Fin 512, unit h (fun k => w (ix2 k f)) * w2 (ix2 f c)

theorem hidden512_apply (h : FVec Ideal S512x2048 .bf16) (w : FVec Ideal S2048x512 .bf16) (w2 : FVec Ideal S512x2048 .bf16) (h0 h1)
    (r : Fin 512) (c : Fin 2048) :
    hidden512 h (piece w 0 h0) (piece w 256 h1) w2 (ix2 r c) = contrib (fun k => h (ix2 r k)) w w2 c := by
  have key := fun f => concat2_apply (fun r f => unit (fun k => h (ix2 r k)) (fun k => w (ix2 k f)))
    (units512 h (piece w 0 h0)) (units512 h (piece w 256 h1))
    (fun r f => by rw [units512_apply]; simp only [piece_apply])
    (fun r f => by rw [units512_apply]; simp only [piece_apply])
    concatenates_S512x256_S512x256_S512x512_d1 r f
  unfold hidden512 contrib
  generalize concatenate S512x512 1 _ _ = G at key ⊢
  pointwise
  exact Finset.sum_congr rfl fun f _ => congrArg (· * _) (key f)

theorem hidden1024_apply (h : FVec Ideal S1024x2048 .bf16) (w : FVec Ideal S2048x512 .bf16) (w2 : FVec Ideal S512x2048 .bf16) (h0 h1)
    (r : Fin 1024) (c : Fin 2048) :
    hidden1024 h (piece w 0 h0) (piece w 256 h1) w2 (ix2 r c) = contrib (fun k => h (ix2 r k)) w w2 c := by
  have key := fun f => concat2_apply (fun r f => unit (fun k => h (ix2 r k)) (fun k => w (ix2 k f)))
    (units1024 h (piece w 0 h0)) (units1024 h (piece w 256 h1))
    (fun r f => by rw [units1024_apply]; simp only [piece_apply])
    (fun r f => by rw [units1024_apply]; simp only [piece_apply])
    concatenates_S1024x256_S1024x256_S1024x512_d1 r f
  unfold hidden1024 contrib
  generalize concatenate S1024x512 1 _ _ = G at key ⊢
  pointwise
  exact Finset.sum_congr rfl fun f _ => congrArg (· * _) (key f)

/-- The modulated rows, as the body stores 512 of them. -/
theorem modulated512_apply (x : FVec Ideal S512x2048 .f32) (g : FVec Ideal S1x2048 .f32) (sc sh : FVec Ideal S1x1x1x2048 .f32)
    (r : Fin 512) (c : Fin 2048) :
    k0_pay5 (F := Ideal) x g sc sh (ix2 r c) = modulated (fun k => x (ix2 r k)) (fun k => g (ix2 0 k)) (fun k => sh (ix4 0 0 0 k))
      (fun k => sc (ix4 0 0 0 k)) c :=
  Cert.MlpIdeal.Body.modulated512_apply x g sc sh r c

end Cert.CtxMlpIdeal.Body
-- ==== Proof.CtxMlp.Case.lean ====
module

public import proofs.«01_k».proof.Proof.CtxMlp.Block
public import proofs.«01_k».proof.Proof.Mlp.Case
public import proofs.«01_k».proof.Proof.Gen.CtxMlpIdeal.Frame

@[expose] public section

/-!
# What one grid point leaves on the context tokens, per case of the body's conditionals

Case A is the first of the sixteen points of a row block (the block's rows are modulated into the scratch and
the first products are stored), case B a point between (products are added), case C the last (the sum is
finished, normalised and added to the rows).
-/

noncomputable section

namespace Cert.CtxMlpIdeal.Body

open Cert.CtxMlpIdeal Cert.CtxMlpIdeal.Gen Cert.MlpMath Idealize.ShloMosaic Idealize.ShloMosaic.TcCoe Idealize.SL.Sem
open Cert.MlpIdeal.Body (half half_apply canon_halves readCov_head hz2 hz4 leave512_apply)

variable (c : Dev nD) (i : grid0.Coords) (arg2 : Memref sig .tc .vmem S1024x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole)
    (x0 : Vec Ideal S1024x2048 .f32) (x1 : Vec Ideal S1x1x1x2048 .f32) (x2 : Vec Ideal S1x1x1x2048 .f32) (x3 : Vec Ideal S1x1x1x2048 .f32) (x4 : Vec Ideal S1x2048 .f32) (x5 : Vec Ideal S1x2048 .f32) (x6 : Vec Ideal S2048x512 .bf16) (x7 : Vec Ideal S512x2048 .bf16) (xo8 : Vec Ideal S1024x2048 .f32) (xs0 : Vec Ideal S1024x2048 .bf16)

/-- The modulated rows of a block. -/
abbrev modRows : Fin 1024 → Fin 2048 → EReal := Cert.MlpIdeal.Body.modRows x0 x1 x2 x4

theorem modHalf (o : Nat) (h) (r : Fin 512) (k : Fin 2048) :
    k0_pay5 (F := Ideal) (half (e := .f32) x0 o h) x4 x2 x1 (ix2 r k)
      = modRows x0 x1 x2 x4 ⟨o + r.val, by have h1 : o + 512 ≤ 1024 := h 0; omega⟩ k :=
  Cert.MlpIdeal.Body.modHalf x0 x1 x2 x4 o h r k

include harg2 harg3 harg4 harg6 in
/-- Case A leaves the modulated rows in the scratch. -/
theorem scratch_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7
      = fun i => modRows x0 x1 x2 x4 (i 0) (i 1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  simp only [View.readAt_eq_ld, harg2.read_unread, harg3.read_unread, harg4.read_unread, harg6.read_unread]
  simp only [View.ld_unit_zero (S := S1x2048) hz2, View.ld_unit_zero (S := S1x1x1x2048) hz4]
  refine canon_halves (Val := Elt Ideal) (e := .bf16) (modRows x0 x1 x2 x4) _ _ _ _ ?_ ?_
  · exact modHalf x0 x1 x2 x4 0 _
  · exact modHalf x0 x1 x2 x4 512 _

include harg2 harg3 harg4 harg6 harg8 harg9 in
/-- Case A leaves the first block's products in the output's buffer. -/
theorem out_A (hc0 : cond0_0 i) (hc1 : ¬cond0_1 i) (hc2 : ¬cond0_2 i) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7
      = fun i => contrib (modRows x0 x1 x2 x4 (i 0)) x6 x7 (i 1) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  simp only [View.readAt_eq_ld, harg2.read_unread, harg3.read_unread, harg4.read_unread, harg6.read_unread, harg8.read_unread, harg9.read_unread]
  simp only [View.ld_unit_zero (S := S1x2048) hz2, View.ld_unit_zero (S := S1x1x1x2048) hz4, View.ld_unit_zero (S := S512x2048) hz2]
  rw [readCov_head, readCov_head]
  refine canon_halves (Val := Elt Ideal) (e := .f32) (fun r c => contrib (modRows x0 x1 x2 x4 r) x6 x7 c) _ _ _ _ ?_ ?_
  · intro r k
    refine (hidden512_apply (k0_pay5 (F := Ideal) (half (e := .f32) x0 0 inb_S1024x2048_S512x2048_0_0) x4 x2 x1) x6 x7 _ _ r k).trans ?_
    simp only [modHalf]
  · intro r k
    refine (hidden512_apply (k0_pay5 (F := Ideal) (half (e := .f32) x0 512 inb_S1024x2048_S512x2048_512_0) x4 x2 x1) x6 x7 _ _ r k).trans ?_
    simp only [modHalf]

include harg8 harg9 harg10 harg11 in
/-- Case B adds its block's products. -/
theorem out_B (hc0 : ¬cond0_0 i) (hc1 : cond0_1 i) (hc2 : ¬cond0_2 i) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0
      = fun i => xo8 i + contrib (fun k => xs0 (ix2 (i 0) k)) x6 x7 (i 1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0)]
  unfold kernelRun0_B
  dsimp only
  sl_unfold_words
  simp only [View.readAt_eq_ld, harg8.read_unread, harg9.read_unread, harg10.read_unread, harg11.read_unread]
  rw [View.canon_unit_zero (S := S1024x2048) hz2]
  simp only [View.ld_unit_zero (S := S1024x2048) hz2, View.ld_unit_zero (S := S512x2048) hz2]
  funext i
  obtain ⟨r, k, rfl⟩ : ∃ (a : Fin 1024) (b : Fin 2048), i = ix2 a b := ⟨i 0, i 1, eq_ix2 i⟩
  show shapeCast S1024x2048 xo8 shapeCasts_S1024x2048_S1024x2048 (ix2 r k)
    + hidden1024 xs0 (piece x6 0 inb_S2048x512_S2048x256_0_0) (piece x6 256 inb_S2048x512_S2048x256_0_256) x7 (ix2 r k) = _
  rw [shapeCast_self]
  exact congrArg (xo8 (ix2 r k) + ·) (hidden1024_apply xs0 x6 x7 _ _ r k)

/-- The finished sum of a block, normalised, scaled, gated and added to the rows. -/
def leaveRows (r : Fin 1024) (k : Fin 2048) : EReal :=
  leave (fun k => x0 (ix2 r k)) (fun k => xo8 (ix2 r k) + contrib (fun k => xs0 (ix2 r k)) x6 x7 k) (fun k => x5 (ix2 0 k))
    (fun k => x3 (ix4 0 0 0 k)) k

/-- The finished sum of 512 rows of a block. -/
def summed (a : FVec Ideal S512x2048 .f32) (h : FVec Ideal S512x2048 .bf16) (wa wb : FVec Ideal S2048x256 .bf16) (w2 : FVec Ideal S512x2048 .bf16) :
    FVec Ideal S512x2048 .f32 :=
  addf (shapeCast S512x2048 a shapeCasts_S512x2048_S512x2048) (hidden512 h wa wb w2)

theorem summed_apply (a : FVec Ideal S512x2048 .f32) (h : FVec Ideal S512x2048 .bf16) (w : FVec Ideal S2048x512 .bf16) (w2 : FVec Ideal S512x2048 .bf16)
    (h0 h1) (r : Fin 512) (k : Fin 2048) :
    summed a h (piece w 0 h0) (piece w 256 h1) w2 (ix2 r k) = a (ix2 r k) + contrib (fun k => h (ix2 r k)) w w2 k := by
  unfold summed
  rw [shapeCast_self]
  exact congrArg (a (ix2 r k) + ·) (hidden512_apply h w w2 _ _ r k)

theorem leaveHalf (o : Nat) (h) (h0 h1) (r : Fin 512) (k : Fin 2048) :
    Cert.MlpIdeal.Gen.k0_pay14 (F := Ideal)
      (summed (half (e := .f32) xo8 o h) (half (e := .bf16) xs0 o h) (piece x6 0 h0) (piece x6 256 h1) x7)
      (mulf (summed (half (e := .f32) xo8 o h) (half (e := .bf16) xs0 o h) (piece x6 0 h0) (piece x6 256 h1) x7)
        (summed (half (e := .f32) xo8 o h) (half (e := .bf16) xs0 o h) (piece x6 0 h0) (piece x6 256 h1) x7))
      (half (e := .f32) x0 o h) x3 x5 (ix2 r k)
      = leaveRows x0 x3 x5 x6 x7 xo8 xs0 ⟨o + r.val, by have h1 : o + 512 ≤ 1024 := h 0; omega⟩ k := by
  rw [leave512_apply]
  simp only [summed_apply, half_apply]
  rfl

include harg2 harg5 harg7 harg8 harg9 harg10 harg11 in
/-- Case C leaves the finished rows. -/
theorem out_C (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0
      = fun i => leaveRows x0 x3 x5 x6 x7 xo8 xs0 (i 0) (i 1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0)]
  unfold kernelRun0_C
  dsimp only
  sl_unfold_words
  simp only [View.readAt_eq_ld, harg2.read_unread, harg5.read_unread, harg7.read_unread, harg8.read_unread, harg9.read_unread, harg10.read_unread, harg11.read_unread]
  simp only [View.ld_unit_zero (S := S1x2048) hz2, View.ld_unit_zero (S := S1x1x1x2048) hz4, View.ld_unit_zero (S := S512x2048) hz2]
  refine canon_halves (Val := Elt Ideal) (e := .f32) (leaveRows x0 x3 x5 x6 x7 xo8 xs0) _ _ _ _ ?_ ?_
  · exact leaveHalf x0 x3 x5 x6 x7 xo8 xs0 0 _ _ _
  · exact leaveHalf x0 x3 x5 x6 x7 xo8 xs0 512 _ _ _

end Cert.CtxMlpIdeal.Body
-- ==== Proof.CtxMlp.Blocks.lean ====
module

public import proofs.«01_k».proof.Proof.Gen.CtxMlpIdeal.Value
public import Idealize.ShloMosaic.Lib.Pointwise
public import Idealize.ShloMosaic.Lib.Tactic

@[expose] public section

/-!
# What the windows of the context tokens' MLP hold

Grid point `t = 16 * i + j` works on rows `1024 * i` to `1024 * i + 1023` of the flattened rows and on
hidden units `512 * j` to `512 * j + 511`. Row `R` of the flattened rows is position `R % 256` of batch
element `R / 256`. All the rows share one modulation vector, row 16 of layer 0.
-/

noncomputable section

namespace Cert.CtxMlpIdeal.Body

open Cert.CtxMlpIdeal Cert.CtxMlpIdeal.Gen Idealize.ShloMosaic Idealize.ShloMosaic.TcCoe Idealize.SL.Sem

variable (m : (ℓ : Loc nD τ sig) → Buf (Elt Ideal) ℓ) (c : Dev nD)

/-- The five arguments. -/
abbrev argX : Vec Ideal S16x256x2048 .f32 := m ((c : Thread nD τ).loc main_arg0)
abbrev argMods : Vec Ideal S2x32x1x12288 .f32 := m ((c : Thread nD τ).loc main_arg1)
abbrev argG : Vec Ideal S4x2048 .f32 := m ((c : Thread nD τ).loc main_arg2)
abbrev argW1 : Vec Ideal S2048x8192 .f32 := m ((c : Thread nD τ).loc main_arg3)
abbrev argW2 : Vec Ideal S8192x2048 .f32 := m ((c : Thread nD τ).loc main_arg4)

theorem V_v0 : V m c main_v0 = shapeCast S4096x2048 (argX m c) shapeCasts_S16x256x2048_S4096x2048 := by
  unfold V hostOps0
  after_results_simp <;> rfl

theorem V_v3 : V m c main_v3 = shapeCast S1x2048 (extractStridedSlice S1x1x2048 ![2, 0, 0]
    (shapeCast S4x1x2048 (argG m c) shapeCasts_S4x2048_S4x1x2048) slices_S4x1x2048_S1x1x2048_2_0_0) shapeCasts_S1x1x2048_S1x2048 := by
  unfold V hostOps0
  after_results_simp <;> rfl

theorem V_v5 : V m c main_v5 = shapeCast S1x2048 (extractStridedSlice S1x1x2048 ![3, 0, 0]
    (shapeCast S4x1x2048 (argG m c) shapeCasts_S4x2048_S4x1x2048) slices_S4x1x2048_S1x1x2048_3_0_0) shapeCasts_S1x1x2048_S1x2048 := by
  unfold V hostOps0
  after_results_simp <;> rfl

theorem V_v6 : V m c main_v6 = (argW1 m c : S2048x8192.Idx → EReal) := by
  unfold V hostOps0
  after_results_simp <;> rfl

theorem V_v7 : V m c main_v7 = (argW2 m c : S8192x2048.Idx → EReal) := by
  unfold V hostOps0
  after_results_simp <;> rfl

theorem index0 : ∀ t : Fin cfg0.N, win0_0.index t 0 = t.val / 16 ∧ win0_0.index t 1 = 0 :=
  (by decide +kernel : ∀ t : Fin grid0.N, _)
theorem index1 : ∀ t : Fin cfg0.N, win0_1.index t 0 = 0 ∧ win0_1.index t 1 = 16 ∧ win0_1.index t 2 = 0 ∧ win0_1.index t 3 = 3 :=
  (by decide +kernel : ∀ t : Fin grid0.N, _)
theorem index2 : ∀ t : Fin cfg0.N, win0_2.index t 0 = 0 ∧ win0_2.index t 1 = 16 ∧ win0_2.index t 2 = 0 ∧ win0_2.index t 3 = 4 :=
  (by decide +kernel : ∀ t : Fin grid0.N, _)
theorem index3 : ∀ t : Fin cfg0.N, win0_3.index t 0 = 0 ∧ win0_3.index t 1 = 16 ∧ win0_3.index t 2 = 0 ∧ win0_3.index t 3 = 5 :=
  (by decide +kernel : ∀ t : Fin grid0.N, _)
theorem index4 : ∀ t : Fin cfg0.N, win0_4.index t 0 = 0 ∧ win0_4.index t 1 = 0 :=
  (by decide +kernel : ∀ t : Fin grid0.N, _)
theorem index5 : ∀ t : Fin cfg0.N, win0_5.index t 0 = 0 ∧ win0_5.index t 1 = 0 :=
  (by decide +kernel : ∀ t : Fin grid0.N, _)
theorem index6 : ∀ t : Fin cfg0.N, win0_6.index t 0 = 0 ∧ win0_6.index t 1 = t.val % 16 :=
  (by decide +kernel : ∀ t : Fin grid0.N, _)
theorem index7 : ∀ t : Fin cfg0.N, win0_7.index t 0 = t.val % 16 ∧ win0_7.index t 1 = 0 :=
  (by decide +kernel : ∀ t : Fin grid0.N, _)

theorem lt64 (t : Fin cfg0.N) : t.val < 64 := lt_of_lt_of_eq t.isLt N_0

/-- The flattened row that row `r` of point `t`'s block is. -/
def rowOf (t : Fin cfg0.N) (r : Fin 1024) : Fin 4096 := ⟨t.val / 16 * 1024 + r.val, by have := lt64 t; omega⟩

/-- Entry `k` of flattened row `R`. -/
def xRow (R : Fin 4096) (k : Fin 2048) : EReal := argX m c (ix3 ⟨R.val / 256, by omega⟩ ⟨R.val % 256, by omega⟩ k)

/-- Row `r` of the block of rows of point `t`. -/
theorem blk_x (t : Fin cfg0.N) (r : Fin 1024) (k : Fin 2048) :
    (iblk m c 0 t : Vec Ideal S1024x2048 .f32) (ix2 r k) = xRow m c (rowOf t r) k := by
  obtain ⟨e0, e1⟩ := index0 t
  have h : (iblk m c 0 t : Vec Ideal S1024x2048 .f32) (ix2 r k) = V m c main_v0 (ix2 (rowOf t r) k) := by
    unfold iblk
    show V m c main_v0 _ = V m c main_v0 _
    congr 1
    funext a
    apply Fin.ext
    match a with
    | ⟨0, _⟩ => show win0_0.index t 0 * 1024 + 1 * r.val = t.val / 16 * 1024 + r.val; rw [e0]; omega
    | ⟨1, _⟩ => show win0_0.index t 1 * 2048 + 1 * k.val = k.val; rw [e1]; omega
  rw [h, V_v0]
  refine shapeCast_apply _ _ _ _ ?_
  rewrite [Shape.rowMajor_val_three, Shape.rowMajor_val_two]
  show ((rowOf t r).val / 256 * 256 + (rowOf t r).val % 256) * 2048 + k.val = (rowOf t r).val * 2048 + k.val
  omega

/-- Entry `k` of chunk `q` of the context's modulation vector. -/
def modsOf (q : Fin 6) (k : Fin 2048) : EReal := argMods m c (ix4 0 16 0 ⟨q.val * 2048 + k.val, by omega⟩)

theorem blk_shift (t : Fin cfg0.N) (k : Fin 2048) :
    (iblk m c 1 t : Vec Ideal S1x1x1x2048 .f32) (ix4 0 0 0 k) = modsOf m c 3 k := by
  obtain ⟨e0, e1, e2, e3⟩ := index1 t
  unfold iblk modsOf
  show V m c main_arg1 _ = argMods m c _
  rw [V_main_arg1]
  congr 1
  funext a
  apply Fin.ext
  match a with
  | ⟨0, _⟩ => show win0_1.index t 0 * 1 + 1 * 0 = 0; rw [e0]
  | ⟨1, _⟩ => show win0_1.index t 1 * 1 + 1 * 0 = 16; rw [e1]
  | ⟨2, _⟩ => show win0_1.index t 2 * 1 + 1 * 0 = 0; rw [e2]
  | ⟨3, _⟩ => show win0_1.index t 3 * 2048 + 1 * k.val = 3 * 2048 + k.val; rw [e3]; omega

theorem blk_scale (t : Fin cfg0.N) (k : Fin 2048) :
    (iblk m c 2 t : Vec Ideal S1x1x1x2048 .f32) (ix4 0 0 0 k) = modsOf m c 4 k := by
  obtain ⟨e0, e1, e2, e3⟩ := index2 t
  unfold iblk modsOf
  show V m c main_arg1 _ = argMods m c _
  rw [V_main_arg1]
  congr 1
  funext a
  apply Fin.ext
  match a with
  | ⟨0, _⟩ => show win0_2.index t 0 * 1 + 1 * 0 = 0; rw [e0]
  | ⟨1, _⟩ => show win0_2.index t 1 * 1 + 1 * 0 = 16; rw [e1]
  | ⟨2, _⟩ => show win0_2.index t 2 * 1 + 1 * 0 = 0; rw [e2]
  | ⟨3, _⟩ => show win0_2.index t 3 * 2048 + 1 * k.val = 4 * 2048 + k.val; rw [e3]; omega

theorem blk_gate (t : Fin cfg0.N) (k : Fin 2048) :
    (iblk m c 3 t : Vec Ideal S1x1x1x2048 .f32) (ix4 0 0 0 k) = modsOf m c 5 k := by
  obtain ⟨e0, e1, e2, e3⟩ := index3 t
  unfold iblk modsOf
  show V m c main_arg1 _ = argMods m c _
  rw [V_main_arg1]
  congr 1
  funext a
  apply Fin.ext
  match a with
  | ⟨0, _⟩ => show win0_3.index t 0 * 1 + 1 * 0 = 0; rw [e0]
  | ⟨1, _⟩ => show win0_3.index t 1 * 1 + 1 * 0 = 16; rw [e1]
  | ⟨2, _⟩ => show win0_3.index t 2 * 1 + 1 * 0 = 0; rw [e2]
  | ⟨3, _⟩ => show win0_3.index t 3 * 2048 + 1 * k.val = 5 * 2048 + k.val; rw [e3]; omega

/-- The first gain of the MLP is row 2 of the gains. -/
theorem blk_gin (t : Fin cfg0.N) (k : Fin 2048) :
    (iblk m c 4 t : Vec Ideal S1x2048 .f32) (ix2 0 k) = argG m c (ix2 2 k) := by
  obtain ⟨e0, e1⟩ := index4 t
  have h : (iblk m c 4 t : Vec Ideal S1x2048 .f32) (ix2 0 k) = V m c main_v3 (ix2 (0 : Fin 1) k) := by
    unfold iblk
    show V m c main_v3 _ = V m c main_v3 _
    congr 1
    funext a
    apply Fin.ext
    match a with
    | ⟨0, _⟩ => show win0_4.index t 0 * 1 + 1 * 0 = 0; rw [e0]
    | ⟨1, _⟩ => show win0_4.index t 1 * 2048 + 1 * k.val = k.val; rw [e1]; omega
  rw [h, V_v3]
  pointwise
  try rfl

/-- The second gain of the MLP is row 3 of the gains. -/
theorem blk_gout (t : Fin cfg0.N) (k : Fin 2048) :
    (iblk m c 5 t : Vec Ideal S1x2048 .f32) (ix2 0 k) = argG m c (ix2 3 k) := by
  obtain ⟨e0, e1⟩ := index5 t
  have h : (iblk m c 5 t : Vec Ideal S1x2048 .f32) (ix2 0 k) = V m c main_v5 (ix2 (0 : Fin 1) k) := by
    unfold iblk
    show V m c main_v5 _ = V m c main_v5 _
    congr 1
    funext a
    apply Fin.ext
    match a with
    | ⟨0, _⟩ => show win0_5.index t 0 * 1 + 1 * 0 = 0; rw [e0]
    | ⟨1, _⟩ => show win0_5.index t 1 * 2048 + 1 * k.val = k.val; rw [e1]; omega
  rw [h, V_v5]
  pointwise
  try rfl

theorem blk_w1 (t : Fin cfg0.N) (k : Fin 2048) (f : Fin 512) :
    (iblk m c 6 t : Vec Ideal S2048x512 .bf16) (ix2 k f) = argW1 m c (ix2 k ⟨(t.val % 16) * 512 + f.val, by omega⟩) := by
  obtain ⟨e0, e1⟩ := index6 t
  have h : (iblk m c 6 t : Vec Ideal S2048x512 .bf16) (ix2 k f) = V m c main_v6 (ix2 k (⟨(t.val % 16) * 512 + f.val, by omega⟩ : Fin 8192)) := by
    unfold iblk
    show V m c main_v6 _ = V m c main_v6 _
    congr 1
    funext a
    apply Fin.ext
    match a with
    | ⟨0, _⟩ => show win0_6.index t 0 * 2048 + 1 * k.val = k.val; rw [e0]; omega
    | ⟨1, _⟩ => show win0_6.index t 1 * 512 + 1 * f.val = t.val % 16 * 512 + f.val; rw [e1]; omega
  exact h.trans (congrFun (V_v6 m c) _)

theorem blk_w2 (t : Fin cfg0.N) (f : Fin 512) (k : Fin 2048) :
    (iblk m c 7 t : Vec Ideal S512x2048 .bf16) (ix2 f k) = argW2 m c (ix2 ⟨(t.val % 16) * 512 + f.val, by omega⟩ k) := by
  obtain ⟨e0, e1⟩ := index7 t
  have h : (iblk m c 7 t : Vec Ideal S512x2048 .bf16) (ix2 f k) = V m c main_v7 (ix2 (⟨(t.val % 16) * 512 + f.val, by omega⟩ : Fin 8192) k) := by
    unfold iblk
    show V m c main_v7 _ = V m c main_v7 _
    congr 1
    funext a
    apply Fin.ext
    match a with
    | ⟨0, _⟩ => show win0_7.index t 0 * 512 + 1 * f.val = t.val % 16 * 512 + f.val; rw [e0]; omega
    | ⟨1, _⟩ => show win0_7.index t 1 * 2048 + 1 * k.val = k.val; rw [e1]; omega
  exact h.trans (congrFun (V_v7 m c) _)

end Cert.CtxMlpIdeal.Body
-- ==== Proof.CtxMlp.Array.lean ====
module

public import proofs.«01_k».proof.Proof.Mlp.Array
public import proofs.«01_k».proof.Proof.CtxMlp.Case
public import proofs.«01_k».proof.Proof.CtxMlp.Blocks

@[expose] public section

/-!
# What the result array of the context tokens' MLP holds

The sixteen points of a row block leave, one after the other, the partial sums of the block's rows over the
hidden units; the last one leaves the finished rows, which is what is written back.
-/

noncomputable section

namespace Cert.CtxMlpIdeal.Body

open Cert.CtxMlpIdeal Cert.CtxMlpIdeal.Gen Cert.CtxMlpIdeal.Value Cert.MlpMath Idealize.ShloMosaic Idealize.ShloMosaic.TcCoe Idealize.SL.Sem
open Cert.MlpIdeal.Body (asBlock asBlock_congr)

variable (m : (ℓ : Loc nD τ sig) → Buf (Elt Ideal) ℓ) (c : Dev nD)

/-- The modulated row `R`. -/
def hRow (R : Fin 4096) : Fin 2048 → EReal :=
  modulated (xRow m c R) (fun k => argG m c (ix2 2 k)) (modsOf m c 3) (modsOf m c 4)

/-- What block `n` of the hidden units (modulo 16) adds to row `R`. -/
def products (R : Fin 4096) (n : ℕ) (k : Fin 2048) : EReal :=
  ∑ f : Fin 512, unit (hRow m c R) (fun q => argW1 m c (ix2 q ⟨(n % 16) * 512 + f.val, by omega⟩))
    * argW2 m c (ix2 ⟨(n % 16) * 512 + f.val, by omega⟩ k)

/-- The partial sum over the first blocks of the hidden units, up to block `n % 16`. -/
def partialSum (R : Fin 4096) (n : ℕ) (k : Fin 2048) : EReal :=
  ∑ j ∈ Finset.range (n % 16 + 1), products m c R j k

/-- The finished row. -/
def finished (R : Fin 4096) (k : Fin 2048) : EReal :=
  leave (xRow m c R) (partialSum m c R 15) (fun k => argG m c (ix2 3 k)) (modsOf m c 5) k

theorem products_mod (R : Fin 4096) (n : ℕ) (k : Fin 2048) : products m c R (n % 16) k = products m c R n k := by
  unfold products
  simp only [Nat.mod_mod]

theorem modRows_blk (t : Fin cfg0.N) (r : Fin 1024) :
    modRows (iblk m c 0 t) (iblk m c 1 t) (iblk m c 2 t) (iblk m c 4 t) r = hRow m c (rowOf t r) := by
  funext k
  unfold modRows Cert.MlpIdeal.Body.modRows hRow
  simp only [blk_x, blk_shift, blk_scale, blk_gin]

theorem contrib_blk (t : Fin cfg0.N) (r : Fin 1024) (k : Fin 2048) :
    contrib (hRow m c (rowOf t r)) (iblk m c 6 t) (iblk m c 7 t) k = products m c (rowOf t r) t.val k := by
  unfold contrib products
  simp only [blk_w1, blk_w2]

/-- The modulated rows of point `t`'s block. -/
abbrev hBlock (t : Fin cfg0.N) : S1024x2048.Idx → EReal := asBlock fun r k => hRow m c (rowOf t r) k

theorem step_A (t : Fin cfg0.N) (h0 : t.val % 16 = 0) (h1 : ¬(1 ≤ t.val % 16 ∧ t.val % 16 ≤ 14)) (h2 : ¬t.val % 16 = 15) :
    outsAt0 m c t.val t.isLt = (asBlock fun r k => products m c (rowOf t r) t.val k, hBlock m c t) := by
  rw [outsAt0_A m c t h0 h1 h2]
  refine Prod.ext ?_ ?_
  · dsimp only
    rw [out_A]
    exact asBlock_congr (G := fun r k => contrib (modRows _ _ _ _ r) _ _ k) fun r k => by rw [modRows_blk, contrib_blk]
  · dsimp only
    rw [scratch_A]
    exact asBlock_congr (G := fun r k => modRows _ _ _ _ r k) fun r k => by rw [modRows_blk]

theorem step_B (t : Fin cfg0.N) (h0 : ¬t.val % 16 = 0) (h1 : (1 ≤ t.val % 16 ∧ t.val % 16 ≤ 14)) (h2 : ¬t.val % 16 = 15)
    (A : Fin 1024 → Fin 2048 → EReal)
    (e : outsAt0 m c (t.val - 1) (Nat.lt_of_le_of_lt (Nat.sub_le _ _) t.isLt) = (asBlock A, hBlock m c t)) :
    outsAt0 m c t.val t.isLt = (asBlock fun r k => A r k + products m c (rowOf t r) t.val k, hBlock m c t) := by
  rw [outsAt0_B m c t h0 h1 h2, e]
  refine Prod.ext ?_ rfl
  dsimp only
  rw [out_B]
  exact asBlock_congr (G := fun r k => A r k + contrib (hRow m c (rowOf t r)) _ _ k) fun r k => by rw [contrib_blk]

theorem step_C (t : Fin cfg0.N) (h0 : ¬t.val % 16 = 0) (h1 : ¬(1 ≤ t.val % 16 ∧ t.val % 16 ≤ 14)) (h2 : t.val % 16 = 15)
    (A : Fin 1024 → Fin 2048 → EReal)
    (e : outsAt0 m c (t.val - 1) (Nat.lt_of_le_of_lt (Nat.sub_le _ _) t.isLt) = (asBlock A, hBlock m c t)) :
    (outsAt0 m c t.val t.isLt).1 = asBlock fun r => leave (xRow m c (rowOf t r))
      (fun k => A r k + products m c (rowOf t r) t.val k) (fun k => argG m c (ix2 3 k)) (modsOf m c 5) := by
  rw [outsAt0_C m c t h0 h1 h2, e]
  dsimp only
  rw [out_C]
  refine asBlock_congr (G := fun r k => leaveRows _ _ _ _ _ (asBlock A) (hBlock m c t) r k) fun r k => ?_
  unfold leaveRows
  have hc : ∀ k, contrib (fun q => hBlock m c t (ix2 r q)) (iblk m c 6 t) (iblk m c 7 t) k = products m c (rowOf t r) t.val k :=
    fun k => contrib_blk m c t r k
  simp only [blk_x, blk_gate, blk_gout, hc]
  rfl

/-- Points of one row block work on the same rows. -/
theorem rowOf_succ (n : ℕ) (hn : n + 1 < cfg0.N) (h : (n + 1) % 16 ≠ 0) (r : Fin 1024) :
    rowOf ⟨n, Nat.lt_of_succ_lt hn⟩ r = rowOf (⟨n + 1, hn⟩ : Fin cfg0.N) r :=
  Fin.ext (by show n / 16 * 1024 + r.val = (n + 1) / 16 * 1024 + r.val; omega)

/-- Before the last point of a row block, the output's buffer holds the partial sums and the scratch the modulated rows. -/
theorem outs_eq (n : ℕ) (hn : n < cfg0.N) (h7 : n % 16 ≠ 15) :
    outsAt0 m c n hn = (asBlock fun r k => partialSum m c (rowOf ⟨n, hn⟩ r) n k, hBlock m c ⟨n, hn⟩) := by
  have first : ∀ (n : ℕ) (hn : n < cfg0.N), n % 16 = 0 →
      outsAt0 m c n hn = (asBlock fun r k => partialSum m c (rowOf ⟨n, hn⟩ r) n k, hBlock m c ⟨n, hn⟩) := by
    intro n hn h0
    rw [step_A m c ⟨n, hn⟩ h0 (by dsimp only; omega) (by dsimp only; omega)]
    refine congrArg₂ Prod.mk (asBlock_congr fun r k => ?_) rfl
    simp only [partialSum, h0, Finset.sum_range_one, Nat.zero_add]
    rw [← products_mod m c _ n, h0]
  induction n with
  | zero => exact first 0 hn rfl
  | succ n ih =>
    by_cases h0 : (n + 1) % 16 = 0
    · exact first (n + 1) hn h0
    · have e := ih (Nat.lt_of_succ_lt hn) (by omega)
      have hm : (n + 1) % 16 = n % 16 + 1 := by omega
      simp only [hBlock, rowOf_succ n hn h0] at e
      rw [step_B m c ⟨n + 1, hn⟩ h0 (by dsimp only; omega) (by dsimp only; omega) _ e]
      refine congrArg₂ Prod.mk (asBlock_congr fun r k => ?_) rfl
      unfold partialSum
      dsimp only
      rw [hm, Finset.sum_range_succ _ (n % 16 + 1), ← hm, products_mod]

/-- The last point of a row block leaves the finished rows. -/
theorem outs_last (t : Fin cfg0.N) (h7 : t.val % 16 = 15) :
    (outsAt0 m c t.val t.isLt).1 = asBlock fun r k => finished m c (rowOf t r) k := by
  obtain ⟨n, hn⟩ := t
  obtain ⟨n, rfl⟩ : ∃ k, n = k + 1 := ⟨n - 1, by dsimp only at h7; omega⟩
  dsimp only at h7 ⊢
  have e := outs_eq m c n (Nat.lt_of_succ_lt hn) (by omega)
  simp only [hBlock, rowOf_succ n hn (by omega)] at e
  rw [step_C m c ⟨n + 1, hn⟩ (by dsimp only; omega) (by dsimp only; omega) h7 _ e]
  refine asBlock_congr fun r k => ?_
  unfold finished
  refine congrArg (leave _ · _ _ _) (funext fun k => ?_)
  unfold partialSum
  dsimp only
  rw [← products_mod m c _ (n + 1), h7, show n % 16 = 14 by omega, Finset.sum_range_succ _ 15]

/-- The result array: its row `R` is the finished row `R`. -/
theorem array_eq (R : Fin 4096) (k : Fin 2048) : G8 m c (ix2 R k) = finished m c R k := by
  have hN : cfg0.N = 64 := N_0
  have hp : pt8Of (ix2 R k) = 16 * (R.val / 1024) + 15 := by
    show 16 * (1 * (R.val / 1024 - 0) + 1 * (k.val / 2048 - 0)) + 15 = _
    omega
  have hlt : pt8Of (ix2 R k) < cfg0.N := by rw [hp, hN]; omega
  unfold G8
  rw [dif_pos hlt, ← outsAt0_sweep m c _ hlt, outs_last m c ⟨pt8Of (ix2 R k), hlt⟩ (by dsimp only; rw [hp]; omega)]
  show finished m c _ _ = finished m c _ _
  congr 1
  · apply Fin.ext; show pt8Of (ix2 R k) / 16 * 1024 + R.val % 1024 = R.val; rw [hp]; omega
  · apply Fin.ext; show k.val % 2048 = k.val; omega

end Cert.CtxMlpIdeal.Body
-- ==== Proof.CtxMlp.Ref.lean ====
module

public import proofs.«01_k».proof.Proof.Mlp.Rows
public import proofs.«01_k».proof.Proof.Gen.CtxMlpReferenceIdeal.Read
public import Idealize.ShloMosaic.Lib.Pointwise

@[expose] public section

/-!
# What the reference's MLP computes of the context tokens

The stages of the plain program, read entry by entry: the modulated row, the hidden units, the second
product, and the normalised, gated result. Every row takes the same modulation vector.
-/

noncomputable section

namespace Cert.CtxMlpReferenceIdeal.Body

open Cert.CtxMlpReferenceIdeal Cert.CtxMlpReferenceIdeal.Gen Cert.CtxMlpReferenceIdeal.Read Cert.MlpMath Idealize.ShloMosaic Idealize.ShloMosaic.TcCoe Idealize.SL.Sem

variable (x : FVec Ideal S16x256x2048 .f32) (mods : FVec Ideal S2x32x1x12288 .f32) (g : FVec Ideal S4x2048 .f32)
  (w1 : FVec Ideal S2048x8192 .f32) (w2 : FVec Ideal S8192x2048 .f32) (b : Fin 16) (s : Fin 256)

/-- Entry `k` of chunk `q` of the context's modulation vector. -/
def modsOf (q : Fin 6) (k : Fin 2048) : EReal := mods (ix4 0 16 0 ⟨q.val * 2048 + k.val, by omega⟩)

theorem chunk3 (k : Fin 2048) : val_main_v5 (F := Ideal) mods (ix2 0 k) = modsOf mods 3 k := by
  pointwise [val_main_v5, val_main_v1, val_main_v0, modsOf]
theorem chunk4 (k : Fin 2048) : val_main_v6 (F := Ideal) mods (ix2 0 k) = modsOf mods 4 k := by
  pointwise [val_main_v6, val_main_v1, val_main_v0, modsOf]
theorem chunk5 (k : Fin 2048) : val_main_v7 (F := Ideal) mods (ix2 0 k) = modsOf mods 5 k := by
  pointwise [val_main_v7, val_main_v1, val_main_v0, modsOf]

/-- The scaled and shifted normalised row, in the reference's order of multiplication. -/
def hRow (k : Fin 2048) : EReal :=
  x (ix3 b s k) * inorm (fun k => x (ix3 b s k)) * g (ix2 2 k) * (1 + modsOf mods 4 k) + modsOf mods 3 k

theorem inorm_x : val_main_v17 (F := Ideal) x (ix3 b s 0) = inorm fun k => x (ix3 b s k) := by
  pointwise [val_main_v17, val_main_v16, val_main_v14, val_main_v12, val_main_v11, val_main_v10, val_main_v13, val_main_v15, val_main_cst, val_main_cst_0, val_main_cst_1, inorm]

theorem hRow_eq (k : Fin 2048) : val_main_v30 (F := Ideal) x mods g (ix3 b s k) = hRow x mods g b s k := by
  have e1 := inorm_x x b s
  have e3 := chunk3 mods k
  have e4 := chunk4 mods k
  unfold hRow
  rw [← e1, ← e3, ← e4]
  generalize ha : val_main_v17 (F := Ideal) x = a
  generalize hc : val_main_v5 (F := Ideal) mods = c3
  generalize hd : val_main_v6 (F := Ideal) mods = c4
  pointwise [val_main_v30, val_main_v29, val_main_v28, val_main_v27, val_main_v26, val_main_v25, val_main_v24, val_main_v23, val_main_cst_2, val_main_v22, val_main_v21, val_main_v20, val_main_v9, val_main_v8, val_main_v19, val_main_v18, ha, hc, hd]

/-- Hidden unit `f` of the row, rectified and squared. -/
theorem unit_eq (f : Fin 8192) : val_main_v33 (F := Ideal) x mods g w1 (ix3 b s f) = unit (hRow x mods g b s) (fun k => w1 (ix2 k f)) := by
  have e := fun k => hRow_eq x mods g b s k
  unfold unit
  simp only [← e]
  generalize hh : val_main_v30 (F := Ideal) x mods g = h
  pointwise [val_main_v33, val_main_v32, val_main_v31, val_main_call0_v0, val_main_call0_cst, hh]

/-- Entry `c` of the second product of the row. -/
def secondProduct (c : Fin 2048) : EReal := ∑ f : Fin 8192, unit (hRow x mods g b s) (fun k => w1 (ix2 k f)) * w2 (ix2 f c)

theorem secondProduct_eq (c : Fin 2048) : val_main_v34 (F := Ideal) x mods g w1 w2 (ix3 b s c) = secondProduct x mods g w1 w2 b s c := by
  have e := fun f => unit_eq x mods g w1 b s f
  unfold secondProduct
  simp only [← e]
  generalize hh : val_main_v33 (F := Ideal) x mods g w1 = h
  pointwise [val_main_v34, hh]

theorem inorm_second : val_main_v44 (F := Ideal) x mods g w1 w2 (ix3 b s 0) = inorm (secondProduct x mods g w1 w2 b s) := by
  have e := fun c => secondProduct_eq x mods g w1 w2 b s c
  unfold inorm
  simp only [← e]
  generalize hh : val_main_v34 (F := Ideal) x mods g w1 w2 = h
  pointwise [val_main_v44, val_main_v43, val_main_v42, val_main_v41, val_main_v40, val_main_v39, val_main_v38, val_main_v37, val_main_cst_3, val_main_cst_4, val_main_cst_5, hh]

/-- The reference's result, row by row. -/
theorem result_eq (R : Fin 4096) (k : Fin 2048) :
    val_main_v54 (F := Ideal) x mods g w1 w2 (ix2 R k)
      = leave (fun k => x (ix3 ⟨R.val / 256, by omega⟩ ⟨R.val % 256, by omega⟩ k))
          (secondProduct x mods g w1 w2 ⟨R.val / 256, by omega⟩ ⟨R.val % 256, by omega⟩) (fun k => g (ix2 3 k))
          (modsOf mods 5) k := by
  have key : ∀ (b : Fin 16) (s : Fin 256) (k : Fin 2048), val_main_v53 (F := Ideal) x mods g w1 w2 (ix3 b s k)
      = leave (fun k => x (ix3 b s k)) (secondProduct x mods g w1 w2 b s) (fun k => g (ix2 3 k)) (modsOf mods 5) k := by
    intro b s k
    unfold leave
    rw [← inorm_second x mods g w1 w2 b s, ← secondProduct_eq x mods g w1 w2 b s k, ← chunk5 mods k]
    generalize hh : val_main_v34 (F := Ideal) x mods g w1 w2 = h
    generalize ha : val_main_v44 (F := Ideal) x mods g w1 w2 = a
    generalize hc : val_main_v7 (F := Ideal) mods = c5
    pointwise [val_main_v53, val_main_v52, val_main_v51, val_main_v50, val_main_v49, val_main_v48, val_main_v47, val_main_v46, val_main_v45, val_main_v36, val_main_v35, hh, ha, hc]
  rw [← key]
  refine (val_main_v54_apply (F := Ideal) x mods g w1 w2 _).trans (congrArg _ ?_)
  funext a
  apply Fin.ext
  match a with
  | ⟨0, _⟩ => show (R.val * 2048 + k.val) / 524288 = R.val / 256; omega
  | ⟨1, _⟩ => show (R.val * 2048 + k.val) / 2048 % 256 = R.val % 256; omega
  | ⟨2, _⟩ => show (R.val * 2048 + k.val) % 2048 = k.val; omega

end Cert.CtxMlpReferenceIdeal.Body
-- ==== Proof.CtxMlp.Eq.lean ====
module

public import proofs.«01_k».proof.Proof.Mlp.Eq
public import proofs.«01_k».proof.Proof.CtxMlp.Array
public import proofs.«01_k».proof.Proof.CtxMlp.Ref

@[expose] public section

/-!
# The context tokens' MLP is the reference's

The kernel sums the hidden units in sixteen blocks, the reference in one sum; the kernel multiplies the gain
into the scale first. Both are rearrangements.
-/

noncomputable section

namespace Cert.CtxMlpIdeal.Body

open Cert.CtxMlpIdeal Cert.CtxMlpIdeal.Gen Cert.CtxMlpIdeal.Value Cert.MlpMath Idealize.ShloMosaic Idealize.ShloMosaic.TcCoe Idealize.SL.Sem
open Cert.MlpIdeal.Body (sum_blocks)

variable (m : (ℓ : Loc nD τ sig) → Buf (Elt Ideal) ℓ) (c : Dev nD)

theorem hRow_ref (R : Fin 4096) :
    hRow m c R = Cert.CtxMlpReferenceIdeal.Body.hRow (argX m c) (argMods m c) (argG m c) ⟨R.val / 256, by omega⟩ ⟨R.val % 256, by omega⟩ := by
  funext k
  unfold hRow Cert.CtxMlpReferenceIdeal.Body.hRow modulated
  rw [← mul_assoc]
  rfl

theorem sum_ref (R : Fin 4096) (k : Fin 2048) :
    partialSum m c R 15 k = Cert.CtxMlpReferenceIdeal.Body.secondProduct (argX m c) (argMods m c) (argG m c) (argW1 m c) (argW2 m c)
      ⟨R.val / 256, by omega⟩ ⟨R.val % 256, by omega⟩ k := by
  unfold partialSum Cert.CtxMlpReferenceIdeal.Body.secondProduct
  rw [← hRow_ref]
  have key := sum_blocks 16 512 fun F => unit (hRow m c R) (fun q => argW1 m c (ix2 q ⟨F % 8192, Nat.mod_lt _ (by decide)⟩))
    * argW2 m c (ix2 ⟨F % 8192, Nat.mod_lt _ (by decide)⟩ k)
  refine Eq.trans (Finset.sum_congr rfl fun j hj => ?_) (key.trans (Finset.sum_congr rfl fun F _ => ?_))
  · have hj : j < 16 := Finset.mem_range.mp hj
    unfold products
    refine Finset.sum_congr rfl fun f _ => ?_
    have e : (⟨j % 16 * 512 + f.val, by omega⟩ : Fin 8192) = ⟨(j * 512 + f.val) % 8192, Nat.mod_lt _ (by decide)⟩ := Fin.ext (by show j % 16 * 512 + f.val = (j * 512 + f.val) % 8192; omega)
    rw [e]
  · have e : (⟨F.val % 8192, Nat.mod_lt _ (by decide)⟩ : Fin 8192) = F := Fin.ext (Nat.mod_eq_of_lt F.isLt)
    simp only [e]

/-- The array the kernel leaves is the array the reference computes from the same arguments. -/
theorem array_ref : G8 m c = Cert.CtxMlpReferenceIdeal.Read.val_main_v54 (F := Ideal) (argX m c) (argMods m c) (argG m c) (argW1 m c) (argW2 m c) := by
  funext i
  obtain ⟨R, k, rfl⟩ : ∃ (R : Fin 4096) (k : Fin 2048), i = ix2 R k := ⟨i 0, i 1, eq_ix2 i⟩
  rw [array_eq]
  refine Eq.trans ?_ (Cert.CtxMlpReferenceIdeal.Body.result_eq (argX m c) (argMods m c) (argG m c) (argW1 m c) (argW2 m c) R k).symm
  unfold finished
  exact congrArg (leave _ · _ _ k) (funext fun k => sum_ref m c _ k)

end Cert.CtxMlpIdeal.Body
-- ==== Proof.CtxMlp.Claims.lean ====
/- The claims of the context tokens' MLP: the runs of its programs, and the equality of the kernel's array with the reference's. -/
module

public import proofs.«01_k».proof.Defs
public import proofs.«01_k».proof.Proof.Gen.CtxMlp.Frame
public import proofs.«01_k».proof.Proof.Gen.CtxMlpReferenceIdeal.Run
public import proofs.«01_k».proof.Proof.CtxMlp.Eq
public import Idealize.ShloMosaic.Adequacy
public import Idealize.ShloMosaic.Init

@[expose] public section

noncomputable section

namespace Cert.CtxMlpClaims

open Idealize.ShloMosaic Idealize.SL.Sem

attribute [local instance] Cert.CtxMlp.Gen.facts Cert.CtxMlpIdeal.Gen.facts Cert.CtxMlpReferenceIdeal.Gen.facts

/-- The kernel as written runs and leaves its arguments and its counters as they were. -/
theorem frame : Cert.quiescent_CtxMlp := fun m ρ _ => Cert.CtxMlp.Gen.frame m ρ

/-- So does the kernel over the extended reals. -/
theorem frame_ideal : Cert.quiescent_CtxMlpIdeal := fun m ρ _ => Cert.CtxMlpIdeal.Gen.frame m ρ

/-- So does the reference; it declares no semaphore. -/
theorem frame_reference : Cert.quiescent_CtxMlpReferenceIdeal := fun m ρ _ =>
  (θ_run Cert.CtxMlpReferenceIdeal.defs _ _).mono
    (fun r h => ⟨fun c => (h c).2, sem_eq_zero_of_no_sems (by decide) r.2⟩)
    (Cert.CtxMlpReferenceIdeal.Value.run (F := Ideal) m ρ)

/-- The kernel's result is the reference's result, at equal arguments. -/
theorem algebraic : Cert.algebraic_CtxMlpIdeal_CtxMlpReferenceIdeal := by
  intro m ρ m' ρ' _ hagree
  refine ⟨fun c => Cert.CtxMlpIdeal.Value.G8 m c, Cert.CtxMlpIdeal.Value.run m ρ,
    (θ_run Cert.CtxMlpReferenceIdeal.defs _ _).mono (fun r h c => ⟨(h c).1.trans ?_, (h c).2⟩)
      (Cert.CtxMlpReferenceIdeal.Value.run (F := Ideal) m' ρ')⟩
  obtain ⟨h0, h1, h2, h3, h4⟩ := hagree c
  rw [Cert.CtxMlpReferenceIdeal.Read.val_main_v54_eq]
  refine Eq.trans ?_ (Cert.CtxMlpIdeal.Body.array_ref m c).symm
  rw [h0, h1, h2, h3, h4]

end Cert.CtxMlpClaims

end
-- ==== Proof.Ada.Cond.lean ====
module

public import proofs.«01_k».proof.Proof.Gen.AdaIdeal.Value
public import proofs.«01_k».proof.Proof.Gen.AdaReferenceIdeal.Read
public import Idealize.ShloMosaic.Lib.Routing.OpsSet
public import Idealize.ShloMosaic.Lib.Pointwise
public import Idealize.ShloMosaic.Lib.Tactic

@[expose] public section

/-!
# The condition vectors

The 32 condition vectors are the sixteen of the latent tokens, the context's, and fifteen zero vectors. The
kernel's host code writes them into an array of zeros; the reference joins them.
-/

noncomputable section

namespace Cert.AdaMath

open Idealize.ShloMosaic Idealize.ShloMosaic.Routing Idealize.ShloMosaic.TcCoe Idealize.SL.Sem

/-- Entry `k` of condition vector `r`. -/
def condOf (c0 : (⟨2, ![16, 2048]⟩ : Shape).Idx → EReal) (c1 : (⟨1, ![2048]⟩ : Shape).Idx → EReal) (r : Fin 32) (k : Fin 2048) : EReal :=
  if h : r.val < 16 then c0 (ix2 ⟨r.val, h⟩ k) else if r.val = 16 then c1 (ix1 k) else 0

/-- The activation. -/
def silu (x : EReal) : EReal := x * Ideal.div 1 (1 + Ideal.exp (-x))

/-- One entry of a modulation vector: the activated condition against a column of weights, plus the bias. -/
def modulation (y : Fin 2048 → EReal) (w : Fin 2048 → EReal) (b : EReal) : EReal := (∑ k : Fin 2048, silu (y k) * w k) + b

section Kernel

open Cert.AdaIdeal Cert.AdaIdeal.Gen

/-- Row `a` of the sixteen vectors lands at row `a`. -/
theorem lands_rows (idx : IVec S1 32) (hidx : ∀ i, (idx i).toInt = 0) (j : S16x2048.Idx) (r : Fin 32) (k : Fin 2048) :
    scatter_S32x2048_S1_S16x2048_01_n_0_0.resultIdx? j idx = some (ix2 r k) ↔ (j 0).val = r.val ∧ (j 1).val = k.val := by
  have s0 : scatter_S32x2048_S1_S16x2048_01_n_0_0.start j idx 0 = 0 := by
    unfold ScatterDims.start
    rw [dif_pos (by show (0 : Fin 2) ∈ [0]; decide), hidx]
  have s1 : scatter_S32x2048_S1_S16x2048_01_n_0_0.start j idx 1 = 0 := by
    unfold ScatterDims.start
    rw [dif_neg (by show ¬(1 : Fin 2) ∈ [0]; decide)]
  have w0 : scatter_S32x2048_S1_S16x2048_01_n_0_0.window j 0 = (j 0).val := rfl
  have w1 : scatter_S32x2048_S1_S16x2048_01_n_0_0.window j 1 = (j 1).val := rfl
  have key := resultIdx?_ix2 (R := 32) (C := 2048) scatter_S32x2048_S1_S16x2048_01_n_0_0 j idx r k
  rw [s0, s1, w0, w1] at key
  exact key.trans (by omega)

/-- The context's vector lands at row 16. -/
theorem lands_row (idx : IVec S1 32) (hidx : ∀ i, (idx i).toInt = 16) (j : S2048.Idx) (r : Fin 32) (k : Fin 2048) :
    scatter_S32x2048_S1_S2048_0_0_0_0.resultIdx? j idx = some (ix2 r k) ↔ r.val = 16 ∧ (j 0).val = k.val := by
  have s0 : scatter_S32x2048_S1_S2048_0_0_0_0.start j idx 0 = 16 := by
    unfold ScatterDims.start
    rw [dif_pos (by show (0 : Fin 2) ∈ [0]; decide), hidx]
  have s1 : scatter_S32x2048_S1_S2048_0_0_0_0.start j idx 1 = 0 := by
    unfold ScatterDims.start
    rw [dif_neg (by show ¬(1 : Fin 2) ∈ [0]; decide)]
  have w0 : scatter_S32x2048_S1_S2048_0_0_0_0.window j 0 = 0 := rfl
  have w1 : scatter_S32x2048_S1_S2048_0_0_0_0.window j 1 = (j 0).val := rfl
  have key := resultIdx?_ix2 (R := 32) (C := 2048) scatter_S32x2048_S1_S2048_0_0_0_0 j idx r k
  rw [s0, s1, w0, w1] at key
  exact key.trans (by omega)

/-- The array of zeros with the vectors written into it. -/
theorem scattered (x : S32x2048.Idx → EReal) (hx : ∀ i, x i = 0) (i0 i1 : IVec S1 32) (h0 : ∀ i, (i0 i).toInt = 0) (h1 : ∀ i, (i1 i).toInt = 16)
    (c0 : S16x2048.Idx → EReal) (c1 : S2048.Idx → EReal) (r : Fin 32) (k : Fin 2048) :
    Host.scatter scatter_S32x2048_S1_S2048_0_0_0_0 (fun _ b => b)
      (Host.scatter scatter_S32x2048_S1_S16x2048_01_n_0_0 (fun _ b => b) x i0 c0) i1 c1 (ix2 r k) = condOf c0 c1 r k := by
  unfold condOf
  by_cases e : r.val = 16
  · rw [dif_neg (by omega), if_pos e]
    refine scatter_set_hit _ _ _ _ _ _ (fun j hj => ?_) (ix1 k) ((lands_row i1 h1 _ r k).2 ⟨e, rfl⟩)
    rw [eq_ix1 j]
    exact congrArg (fun q => c1 (ix1 q)) (Fin.ext ((lands_row i1 h1 j r k).1 hj).2)
  · rw [scatter_set_miss _ _ _ _ _ fun j hj => e ((lands_row i1 h1 j r k).1 hj).1, if_neg e]
    split
    · next h =>
      refine scatter_set_hit _ _ _ _ _ _ (fun j hj => ?_) (ix2 ⟨r.val, h⟩ k) ((lands_rows i0 h0 _ r k).2 ⟨rfl, rfl⟩)
      obtain ⟨e0, e1⟩ := (lands_rows i0 h0 j r k).1 hj
      rw [eq_ix2 j]
      exact congrArg₂ (fun p q => c0 (ix2 p q)) (Fin.ext e0) (Fin.ext e1)
    · next h =>
      rw [scatter_set_miss _ _ _ _ _ fun j hj => h (by rw [← ((lands_rows i0 h0 j r k).1 hj).1]; exact (j 0).isLt)]
      exact hx _

end Kernel

section Reference

open Cert.AdaReferenceIdeal Cert.AdaReferenceIdeal.Gen Cert.AdaReferenceIdeal.Read

/-- The vectors joined. -/
theorem joined (c0 : FVec Ideal S16x2048 .f32) (c1 : FVec Ideal S2048 .f32) (r : Fin 32) (k : Fin 2048) :
    val_main_v2 (F := Ideal) c0 c1 (ix2 r k) = condOf c0 c1 r k := by
  unfold condOf
  pointwise [val_main_v2, val_main_v0, val_main_v1, val_main_cst]
  split
  · rfl
  · next h =>
    by_cases e : r.val = 16
    · rw [dif_pos (by omega), if_pos e]
    · rw [dif_neg (by omega), if_neg e]

end Reference

end Cert.AdaMath
-- ==== Proof.Ada.Array.lean ====
module

public import proofs.«01_k».proof.Proof.Ada.Cond

@[expose] public section

/-!
# What the modulation kernel's result array holds

Grid point `t = 12 * l + j` multiplies the activated condition vectors with columns `1024 * j` to
`1024 * j + 1023` of layer `l`'s weights and adds the layer's bias.
-/

noncomputable section

namespace Cert.AdaIdeal.Body

open Cert.AdaIdeal Cert.AdaIdeal.Gen Cert.AdaIdeal.Value Cert.AdaMath Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- What the body stores, read at an entry. -/
theorem stored_apply (y : FVec Ideal S32x2048 .f32) (w : FVec Ideal S1x2048x1024 .f32) (b : FVec Ideal S1x1x1024 .f32) (r : Fin 32) (n : Fin 1024) :
    k0_pay1 (F := Ideal) y w b (ix3 0 r n) = modulation (fun k => y (ix2 r k)) (fun k => w (ix3 0 k n)) (b (ix3 0 0 n)) := by
  pointwise [k0_pay1, modulation, silu]
  rfl

/-- What a grid point leaves, entry by entry. -/
theorem out_apply (y : FVec Ideal S32x2048 .f32) (w : FVec Ideal S1x2048x1024 .f32) (b : FVec Ideal S1x1x1024 .f32) (r : Fin 32) (n : Fin 1024) :
    out0_3 (F := Ideal) y w b (ix3 0 r n) = modulation (fun k => y (ix2 r k)) (fun k => w (ix3 0 k n)) (b (ix3 0 0 n)) := by
  rw [← stored_apply]
  unfold out0_3
  rw [View.canon_unit_zero (S := S1x32x1024) hz3]
  simp only [View.ld_unit_zero (S := S32x2048) hz2, View.ld_unit_zero (S := S1x2048x1024) hz3, View.ld_unit_zero (S := S1x1x1024) hz3]

variable (m : (ℓ : Loc nD τ sig) → Buf (Elt Ideal) ℓ) (c : Dev nD)

/-- The four arguments. -/
abbrev argC : Vec Ideal S16x2048 .f32 := m ((c : Thread nD τ).loc main_arg0)
abbrev argCtx : Vec Ideal S2048 .f32 := m ((c : Thread nD τ).loc main_arg1)
abbrev argW : Vec Ideal S2x2048x12288 .f32 := m ((c : Thread nD τ).loc main_arg2)
abbrev argB : Vec Ideal S2x12288 .f32 := m ((c : Thread nD τ).loc main_arg3)

theorem V_v4 : V m c main_v4 = Host.scatter scatter_S32x2048_S1_S2048_0_0_0_0 (fun _ b => b)
    (Host.scatter scatter_S32x2048_S1_S16x2048_01_n_0_0 (fun _ b => b)
      (broadcastInDim S32x2048 ![] bcast_S_S32x2048 (constant (F := Ideal) S_ .f32 0x00000000#32) : S32x2048.Idx → EReal)
      (broadcastInDim S1 ![] bcast_S_S1 (constantI S_ 32 0#32)) (argC m c))
    (broadcastInDim S1 ![] bcast_S_S1 (constantI S_ 32 16#32)) (argCtx m c) := by
  unfold V hostOps0
  after_results_simp <;> rfl

theorem V_v5 : V m c main_v5 = shapeCast S2x1x12288 (argB m c) shapeCasts_S2x12288_S2x1x12288 := by
  unfold V hostOps0
  after_results_simp <;> rfl

theorem cond_apply (r : Fin 32) (k : Fin 2048) : (V m c main_v4 : S32x2048.Idx → EReal) (ix2 r k) = condOf (argC m c) (argCtx m c) r k := by
  rw [V_v4]
  refine scattered _ (fun i => ?_) _ _ (fun i => rfl) (fun i => rfl) _ _ r k
  obtain ⟨a, b, rfl⟩ : ∃ (a : Fin 32) (b : Fin 2048), i = ix2 a b := ⟨i 0, i 1, eq_ix2 i⟩
  pointwise

theorem index0 : ∀ t : Fin cfg0.N, win0_0.index t 0 = 0 ∧ win0_0.index t 1 = 0 :=
  (by decide +kernel : ∀ t : Fin grid0.N, _)
theorem index1 : ∀ t : Fin cfg0.N, win0_1.index t 0 = t.val / 12 ∧ win0_1.index t 1 = 0 ∧ win0_1.index t 2 = t.val % 12 :=
  (by decide +kernel : ∀ t : Fin grid0.N, _)
theorem index2 : ∀ t : Fin cfg0.N, win0_2.index t 0 = t.val / 12 ∧ win0_2.index t 1 = 0 ∧ win0_2.index t 2 = t.val % 12 :=
  (by decide +kernel : ∀ t : Fin grid0.N, _)
theorem index3 : ∀ t : Fin cfg0.N, win0_3.index t 0 = t.val / 12 ∧ win0_3.index t 1 = 0 ∧ win0_3.index t 2 = t.val % 12 ∧ win0_3.flush t = true :=
  (by decide +kernel : ∀ t : Fin grid0.N, _)

theorem lt24 (t : Fin cfg0.N) : t.val < 24 := lt_of_lt_of_eq t.isLt N_0

/-- The layer point `t` works on, and the column of the layer's weights that column `n` of its block is. -/
def layerOf (t : Fin cfg0.N) : Fin 2 := ⟨t.val / 12, by have := lt24 t; omega⟩
def colOf (t : Fin cfg0.N) (n : Fin 1024) : Fin 12288 := ⟨t.val % 12 * 1024 + n.val, by omega⟩

theorem blk_cond (t : Fin cfg0.N) (r : Fin 32) (k : Fin 2048) :
    (iblk m c 0 t : Vec Ideal S32x2048 .f32) (ix2 r k) = condOf (argC m c) (argCtx m c) r k := by
  obtain ⟨e0, e1⟩ := index0 t
  rw [← cond_apply]
  unfold iblk
  show V m c main_v4 _ = V m c main_v4 _
  congr 1
  funext a
  apply Fin.ext
  match a with
  | ⟨0, _⟩ => show win0_0.index t 0 * 32 + 1 * r.val = r.val; rw [e0]; omega
  | ⟨1, _⟩ => show win0_0.index t 1 * 2048 + 1 * k.val = k.val; rw [e1]; omega

theorem blk_w (t : Fin cfg0.N) (k : Fin 2048) (n : Fin 1024) :
    (iblk m c 1 t : Vec Ideal S1x2048x1024 .f32) (ix3 0 k n) = argW m c (ix3 (layerOf t) k (colOf t n)) := by
  obtain ⟨e0, e1, e2⟩ := index1 t
  unfold iblk
  show V m c main_arg2 _ = argW m c _
  rw [V_main_arg2]
  congr 1
  funext a
  apply Fin.ext
  match a with
  | ⟨0, _⟩ => show win0_1.index t 0 * 1 + 1 * 0 = t.val / 12; rw [e0]; omega
  | ⟨1, _⟩ => show win0_1.index t 1 * 2048 + 1 * k.val = k.val; rw [e1]; omega
  | ⟨2, _⟩ => show win0_1.index t 2 * 1024 + 1 * n.val = t.val % 12 * 1024 + n.val; rw [e2]; omega

theorem blk_b (t : Fin cfg0.N) (n : Fin 1024) :
    (iblk m c 2 t : Vec Ideal S1x1x1024 .f32) (ix3 0 0 n) = argB m c (ix2 (layerOf t) (colOf t n)) := by
  obtain ⟨e0, e1, e2⟩ := index2 t
  have h : (iblk m c 2 t : Vec Ideal S1x1x1024 .f32) (ix3 0 0 n) = V m c main_v5 (ix3 (layerOf t) (0 : Fin 1) (colOf t n)) := by
    unfold iblk
    show V m c main_v5 _ = V m c main_v5 _
    congr 1
    funext a
    apply Fin.ext
    match a with
    | ⟨0, _⟩ => show win0_2.index t 0 * 1 + 1 * 0 = t.val / 12; rw [e0]; omega
    | ⟨1, _⟩ => show win0_2.index t 1 * 1 + 1 * 0 = 0; rw [e1]
    | ⟨2, _⟩ => show win0_2.index t 2 * 1024 + 1 * n.val = t.val % 12 * 1024 + n.val; rw [e2]; omega
  rw [h, V_v5]
  refine shapeCast_apply _ _ _ _ ?_
  rewrite [Shape.rowMajor_val_three, Shape.rowMajor_val_two]
  show (layerOf t).val * 12288 + (colOf t n).val = ((layerOf t).val * 1 + 0) * 12288 + (colOf t n).val
  omega

/-- Entry `n` of layer `l`'s modulation vector `r`. -/
def vector (l : Fin 2) (r : Fin 32) (n : Fin 12288) : EReal :=
  modulation (condOf (argC m c) (argCtx m c) r) (fun k => argW m c (ix3 l k n)) (argB m c (ix2 l n))

/-- Point `t` leaves its 1024 entries of the layer's 32 vectors. -/
theorem out_blk (t : Fin cfg0.N) (r : Fin 32) (n : Fin 1024) :
    out0_3 (iblk m c 0 t) (iblk m c 1 t) (iblk m c 2 t) (ix3 0 r n) = vector m c (layerOf t) r (colOf t n) := by
  rw [out_apply]
  unfold vector
  simp only [blk_cond, blk_w, blk_b]

/-- The result array at an entry of point `t`'s block. -/
theorem array_blk (t : Fin cfg0.N) (r : Fin 32) (n : Fin 1024) :
    ((dats m 0 c).arrAt 3 cfg0.N : S2x32x12288.Idx → EReal) (ix3 (layerOf t) r (colOf t n)) = vector m c (layerOf t) r (colOf t n) := by
  obtain ⟨e0, e1, e2, hf⟩ := index3 t
  have key := congrFun ((blocks3 m c t hf).trans (flushed3 m c t)) (ix3 0 r n)
  rw [← out_blk]
  refine Eq.trans ?_ (key.trans ?_)
  · show (dats m 0 c).arrAt 3 cfg0.N _ = (dats m 0 c).arrAt 3 cfg0.N _
    congr 1
    funext a
    apply Fin.ext
    match a with
    | ⟨0, _⟩ => show t.val / 12 = win0_3.index t 0 * 1 + 1 * 0; rw [e0]; omega
    | ⟨1, _⟩ => show r.val = win0_3.index t 1 * 32 + 1 * r.val; rw [e1]; omega
    | ⟨2, _⟩ => show t.val % 12 * 1024 + n.val = win0_3.index t 2 * 1024 + 1 * n.val; rw [e2]; omega
  · show out0_3 _ _ _ _ = out0_3 _ _ _ _
    congr 1

/-- The result array. -/
theorem array_eq (l : Fin 2) (r : Fin 32) (n : Fin 12288) :
    ((dats m 0 c).arrAt 3 cfg0.N : S2x32x12288.Idx → EReal) (ix3 l r n) = vector m c l r n := by
  obtain ⟨t, ht⟩ : ∃ t : Fin cfg0.N, t.val = 12 * l.val + n.val / 1024 :=
    ⟨⟨12 * l.val + n.val / 1024, lt_of_lt_of_eq (by omega : 12 * l.val + n.val / 1024 < 24) N_0.symm⟩, rfl⟩
  obtain ⟨q, hq⟩ : ∃ q : Fin 1024, q.val = n.val % 1024 := ⟨⟨n.val % 1024, by omega⟩, rfl⟩
  have hl : layerOf t = l := Fin.ext (by show t.val / 12 = l.val; omega)
  have hn : colOf t q = n := Fin.ext (by show t.val % 12 * 1024 + q.val = n.val; omega)
  rw [← hl, ← hn]
  exact array_blk m c t r q

end Cert.AdaIdeal.Body
-- ==== Proof.Ada.Ref.lean ====
module

public import proofs.«01_k».proof.Proof.Ada.Cond

@[expose] public section

/-!
# What the reference's modulation vectors are

The stages of the plain program, read entry by entry: the activated condition vectors, and each layer's
product with its weights, plus its bias.
-/

noncomputable section

namespace Cert.AdaReferenceIdeal.Body

open Cert.AdaReferenceIdeal Cert.AdaReferenceIdeal.Gen Cert.AdaReferenceIdeal.Read Cert.AdaMath Idealize.ShloMosaic Idealize.ShloMosaic.TcCoe Idealize.SL.Sem

variable (c0 : FVec Ideal S16x2048 .f32) (c1 : FVec Ideal S2048 .f32) (w : FVec Ideal S2x2048x12288 .f32) (b : FVec Ideal S2x12288 .f32)

theorem act0 (r : Fin 32) (k : Fin 2048) : val_main_v3 (F := Ideal) c0 c1 (ix2 r k) = silu (condOf c0 c1 r k) := by
  rw [← joined c0 c1 r k]
  generalize hh : val_main_v2 (F := Ideal) c0 c1 = y
  pointwise [val_main_v3, val_main_call0_v5, val_main_call0_v4, val_main_call0_v3, val_main_call0_v2, val_main_call0_v1, val_main_call0_v0, val_main_call0_cst, val_main_call0_cst_0, silu, hh]

theorem act1 (r : Fin 32) (k : Fin 2048) : val_main_v12 (F := Ideal) c0 c1 (ix2 r k) = silu (condOf c0 c1 r k) := by
  rw [← joined c0 c1 r k]
  generalize hh : val_main_v2 (F := Ideal) c0 c1 = y
  pointwise [val_main_v12, val_main_call1_v5, val_main_call1_v4, val_main_call1_v3, val_main_call1_v2, val_main_call1_v1, val_main_call1_v0, val_main_call1_cst, val_main_call1_cst_0, silu, hh]

/-- Layer 0's vectors. -/
theorem layer0 (r : Fin 32) (n : Fin 12288) :
    val_main_v11 (F := Ideal) c0 c1 w b (ix2 r n) = modulation (condOf c0 c1 r) (fun k => w (ix3 0 k n)) (b (ix2 0 n)) := by
  unfold modulation
  simp only [← act0]
  generalize hh : val_main_v3 (F := Ideal) c0 c1 = y
  pointwise [val_main_v11, val_main_v10, val_main_v9, val_main_v8, val_main_v7, val_main_v6, val_main_v5, val_main_v4, hh]

/-- Layer 1's vectors. -/
theorem layer1 (r : Fin 32) (n : Fin 12288) :
    val_main_v20 (F := Ideal) c0 c1 w b (ix2 r n) = modulation (condOf c0 c1 r) (fun k => w (ix3 1 k n)) (b (ix2 1 n)) := by
  unfold modulation
  simp only [← act1]
  generalize hh : val_main_v12 (F := Ideal) c0 c1 = y
  pointwise [val_main_v20, val_main_v19, val_main_v18, val_main_v17, val_main_v16, val_main_v15, val_main_v14, val_main_v13, hh]

/-- The reference's result. -/
theorem result_eq (l : Fin 2) (r : Fin 32) (n : Fin 12288) :
    val_main_v23 (F := Ideal) c0 c1 w b (ix3 l r n) = modulation (condOf c0 c1 r) (fun k => w (ix3 l k n)) (b (ix2 l n)) := by
  have e0 := layer0 c0 c1 w b r n
  have e1 := layer1 c0 c1 w b r n
  generalize hp : val_main_v11 (F := Ideal) c0 c1 w b = p at e0
  generalize hq : val_main_v20 (F := Ideal) c0 c1 w b = q at e1
  match l with
  | ⟨0, _⟩ => refine Eq.trans ?_ e0; pointwise [val_main_v23, val_main_v22, val_main_v21, hp, hq]
  | ⟨1, _⟩ => refine Eq.trans ?_ e1; pointwise [val_main_v23, val_main_v22, val_main_v21, hp, hq]

end Cert.AdaReferenceIdeal.Body
-- ==== Proof.Ada.Eq.lean ====
module

public import proofs.«01_k».proof.Proof.Ada.Array
public import proofs.«01_k».proof.Proof.Ada.Ref

@[expose] public section

/-! # The modulation vectors are the reference's -/

noncomputable section

namespace Cert.AdaIdeal.Body

open Cert.AdaIdeal Cert.AdaIdeal.Gen Cert.AdaMath Idealize.ShloMosaic Idealize.ShloMosaic.TcCoe Idealize.SL.Sem

variable (m : (ℓ : Loc nD τ sig) → Buf (Elt Ideal) ℓ) (c : Dev nD)

/-- The array the kernel leaves is the array the reference computes from the same arguments. -/
theorem array_ref : ((dats m 0 c).arrAt 3 cfg0.N : S2x32x12288.Idx → EReal)
    = Cert.AdaReferenceIdeal.Read.val_main_v23 (F := Ideal) (argC m c) (argCtx m c) (argW m c) (argB m c) := by
  funext i
  obtain ⟨l, r, n, rfl⟩ : ∃ (l : Fin 2) (r : Fin 32) (n : Fin 12288), i = ix3 l r n := ⟨i 0, i 1, i 2, eq_ix3 i⟩
  exact (array_eq m c l r n).trans (Cert.AdaReferenceIdeal.Body.result_eq (argC m c) (argCtx m c) (argW m c) (argB m c) l r n).symm

end Cert.AdaIdeal.Body
-- ==== Proof.Ada.Claims.lean ====
/- The claims of the modulation vectors: the runs of its programs, and the equality of the kernel's array with the reference's. -/
module

public import proofs.«01_k».proof.Defs
public import proofs.«01_k».proof.Proof.Gen.Ada.Frame
public import proofs.«01_k».proof.Proof.Gen.AdaReferenceIdeal.Run
public import proofs.«01_k».proof.Proof.Ada.Eq
public import Idealize.ShloMosaic.Adequacy
public import Idealize.ShloMosaic.Init

@[expose] public section

noncomputable section

namespace Cert.AdaClaims

open Idealize.ShloMosaic Idealize.SL.Sem

attribute [local instance] Cert.Ada.Gen.facts Cert.AdaIdeal.Gen.facts Cert.AdaReferenceIdeal.Gen.facts

/-- The kernel as written runs and leaves its arguments and its counters as they were. -/
theorem frame : Cert.quiescent_Ada := fun m ρ _ => Cert.Ada.Gen.frame m ρ

/-- So does the kernel over the extended reals. -/
theorem frame_ideal : Cert.quiescent_AdaIdeal := fun m ρ _ => Cert.AdaIdeal.Gen.frame m ρ

/-- So does the reference; it declares no semaphore. -/
theorem frame_reference : Cert.quiescent_AdaReferenceIdeal := fun m ρ _ =>
  (θ_run Cert.AdaReferenceIdeal.defs _ _).mono
    (fun r h => ⟨fun c => (h c).2, sem_eq_zero_of_no_sems (by decide) r.2⟩)
    (Cert.AdaReferenceIdeal.Value.run (F := Ideal) m ρ)

/-- The kernel's result is the reference's result, at equal arguments. -/
theorem algebraic : Cert.algebraic_AdaIdeal_AdaReferenceIdeal := by
  intro m ρ m' ρ' _ hagree
  refine ⟨fun c => (Cert.AdaIdeal.Gen.dats m 0 c).arrAt 3 Cert.AdaIdeal.cfg0.N, Cert.AdaIdeal.Value.run_blocks m ρ,
    (θ_run Cert.AdaReferenceIdeal.defs _ _).mono (fun r h c => ⟨(h c).1.trans ?_, (h c).2⟩)
      (Cert.AdaReferenceIdeal.Value.run (F := Ideal) m' ρ')⟩
  obtain ⟨h0, h1, h2, h3⟩ := hagree c
  rw [Cert.AdaReferenceIdeal.Read.val_main_v23_eq]
  refine Eq.trans ?_ (Cert.AdaIdeal.Body.array_ref m c).symm
  rw [h0, h1, h2, h3]

end Cert.AdaClaims

end
-- ==== Proof.lean ====
/- The assembly of `Cert.Claim`. -/
module

public import proofs.«01_k».proof.Defs
public import proofs.«01_k».proof.Proof.Mlp.Claims
public import proofs.«01_k».proof.Proof.Attn.Claims
public import proofs.«01_k».proof.Proof.Outproj.Claims
public import proofs.«01_k».proof.Proof.Proj.Claims
public import proofs.«01_k».proof.Proof.Feat.Claims
public import proofs.«01_k».proof.Proof.CtxMlp.Claims
public import proofs.«01_k».proof.Proof.Ada.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Proj.Gen.facts, Cert.ProjIdeal.Gen.facts, Cert.ProjReferenceIdeal.Gen.facts,
    Cert.Feat.Gen.facts, Cert.FeatIdeal.Gen.facts, Cert.FeatReferenceIdeal.Gen.facts,
    Cert.Outproj.Gen.facts, Cert.OutprojIdeal.Gen.facts, Cert.OutprojReferenceIdeal.Gen.facts,
    Cert.Mlp.Gen.facts, Cert.MlpIdeal.Gen.facts, Cert.MlpReferenceIdeal.Gen.facts,
    Cert.CtxMlp.Gen.facts, Cert.CtxMlpIdeal.Gen.facts, Cert.CtxMlpReferenceIdeal.Gen.facts,
    Cert.Ada.Gen.facts, Cert.AdaIdeal.Gen.facts, Cert.AdaReferenceIdeal.Gen.facts, Cert.Pre_finite.Gen.facts,
    Cert.AttnClaims.frame, Cert.AttnClaims.frame_ideal, Cert.AttnClaims.frame_ideal_finite,
    Cert.AttnClaims.frame_reference, Cert.AttnClaims.frame_reference_finite,
    Cert.ProjClaims.frame, Cert.ProjClaims.frame_ideal, Cert.ProjClaims.frame_reference,
    Cert.FeatClaims.frame, Cert.FeatClaims.frame_ideal, Cert.FeatClaims.frame_reference,
    Cert.OutprojClaims.frame, Cert.OutprojClaims.frame_ideal, Cert.OutprojClaims.frame_reference,
    Cert.MlpClaims.frame, Cert.MlpClaims.frame_ideal, Cert.MlpClaims.frame_reference,
    Cert.CtxMlpClaims.frame, Cert.CtxMlpClaims.frame_ideal, Cert.CtxMlpClaims.frame_reference,
    Cert.AdaClaims.frame, Cert.AdaClaims.frame_ideal, Cert.AdaClaims.frame_reference,
    Cert.AttnClaims.preserves, Cert.AttnClaims.algebraic,
    trivial, Cert.ProjClaims.algebraic,
    trivial, Cert.FeatClaims.algebraic,
    trivial, Cert.OutprojClaims.algebraic,
    trivial, Cert.MlpClaims.algebraic,
    trivial, Cert.CtxMlpClaims.algebraic,
    trivial, Cert.AdaClaims.algebraic⟩

end Cert.Proof

end
